-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel6_Kernel6Ideal
    ∧ algebraic_Kernel6Ideal_Reference6Ideal (hKernel6Ideal := hKernel6Ideal) (hReference6Ideal := hReference6Ideal)
-- ==== Kernel.lean ====
abbrev S4x4096x8192 : Shape := ⟨3, ![4, 4096, 8192]⟩
abbrev S4x256x8192 : Shape := ⟨3, ![4, 256, 8192]⟩
abbrev S2x4 : Shape := ⟨2, ![2, 4]⟩
abbrev S4096x128 : Shape := ⟨2, ![4096, 128]⟩
abbrev S2x4x1x1 : Shape := ⟨4, ![2, 4, 1, 1]⟩
abbrev S2x4x1x128 : Shape := ⟨4, ![2, 4, 1, 128]⟩
abbrev S4x4096x2048 : Shape := ⟨3, ![4, 4096, 2048]⟩
abbrev S2x1x1x128 : Shape := ⟨4, ![2, 1, 1, 128]⟩
abbrev S1x4096x256 : Shape := ⟨3, ![1, 4096, 256]⟩
abbrev S1x4096x512 : Shape := ⟨3, ![1, 4096, 512]⟩
abbrev S1x256x256 : Shape := ⟨3, ![1, 256, 256]⟩
abbrev S1x256x512 : Shape := ⟨3, ![1, 256, 512]⟩
abbrev S4352x256 : Shape := ⟨2, ![4352, 256]⟩
abbrev S34x256x128 : Shape := ⟨3, ![34, 256, 128]⟩
abbrev S2x256x512 : Shape := ⟨3, ![2, 256, 512]⟩
abbrev S2x128x128 : Shape := ⟨3, ![2, 128, 128]⟩
abbrev S2x2x128x512 : Shape := ⟨4, ![2, 2, 128, 512]⟩
abbrev S128x512 : Shape := ⟨2, ![128, 512]⟩
abbrev S128x128 : Shape := ⟨2, ![128, 128]⟩
abbrev S1x1x1x128 : Shape := ⟨4, ![1, 1, 1, 128]⟩
abbrev S1x128 : Shape := ⟨2, ![1, 128]⟩
abbrev S1x1 : Shape := ⟨2, ![1, 1]⟩
abbrev S1x128x128 : Shape := ⟨3, ![1, 128, 128]⟩
abbrev S1x1x128x512 : Shape := ⟨4, ![1, 1, 128, 512]⟩
abbrev S1x128x256 : Shape := ⟨3, ![1, 128, 256]⟩
abbrev S128x256 : Shape := ⟨2, ![128, 256]⟩
abbrev S256x128 : Shape := ⟨2, ![256, 128]⟩
abbrev S1x256x128 : Shape := ⟨3, ![1, 256, 128]⟩
abbrev S1x128x512 : Shape := ⟨3, ![1, 128, 512]⟩
abbrev S256x512 : Shape := ⟨2, ![256, 512]⟩

abbrev nBuf : Space → Nat
  | .hbm => 8
  | .vmem => 23
  | .smem => 0
  | _ => 0

abbrev bufTy : (tb : Table) → Fin (tcTables nBuf tb) → BufTy
  | .hbm, ⟨0, _⟩ => ⟨S4x4096x8192, .bf16⟩
  | .hbm, ⟨1, _⟩ => ⟨S4x256x8192, .bf16⟩
  | .hbm, ⟨2, _⟩ => ⟨S2x4, .f32⟩
  | .hbm, ⟨3, _⟩ => ⟨S4096x128, .f32⟩
  | .hbm, ⟨4, _⟩ => ⟨S4096x128, .f32⟩
  | .hbm, ⟨5, _⟩ => ⟨S2x4x1x1, .f32⟩
  | .hbm, ⟨6, _⟩ => ⟨S2x4x1x128, .f32⟩
  | .hbm, ⟨7, _⟩ => ⟨S4x4096x2048, .f32⟩
  | .local _ .vmem, ⟨0, _⟩ => ⟨S2x1x1x128, .f32⟩
  | .local _ .vmem, ⟨1, _⟩ => ⟨S2x1x1x128, .f32⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x512, .bf16⟩
  | .local _ .vmem, ⟨13, _⟩ => ⟨S1x256x512, .bf16⟩
  | .local _ .vmem, ⟨14, _⟩ => ⟨S4096x128, .f32⟩
  | .local _ .vmem, ⟨15, _⟩ => ⟨S4096x128, .f32⟩
  | .local _ .vmem, ⟨16, _⟩ => ⟨S1x4096x512, .f32⟩
  | .local _ .vmem, ⟨17, _⟩ => ⟨S1x4096x512, .f32⟩
  | .local _ .vmem, ⟨18, _⟩ => ⟨S4352x256, .bf16⟩
  | .local _ .vmem, ⟨19, _⟩ => ⟨S34x256x128, .bf16⟩
  | .local _ .vmem, ⟨20, _⟩ => ⟨S2x256x512, .f32⟩
  | .local _ .vmem, ⟨21, _⟩ => ⟨S2x128x128, .f32⟩
  | .local _ .vmem, ⟨22, _⟩ => ⟨S2x2x128x512, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_44 : BitVec 32 := 0#32
  let c2_i32 : BitVec 32 := 2#32
  let v89 : BitVec 32 := Scalar.addi c0_i32_44 c2_i32
  let c1_i32 : BitVec 32 := 1#32
  ⟨c0_i32_44, v89, c1_i32⟩
def k0_mult1 (k0_t1 : Fin k0_t1_loop.trips) : BitVec 32 :=
  let c0_i32_44 : BitVec 32 := 0#32
  let c1_i32 : BitVec 32 := 1#32
  let arg17 : BitVec 32 := Scf.iv c0_i32_44 c1_i32 k0_t1
  let c128_i32 : BitVec 32 := 128#32
  let v94 : BitVec 32 := Scalar.muli arg17 c128_i32
  v94
def k0_off1 (k0_t1 : Fin k0_t1_loop.trips) : Fin 3 → Nat :=
  let c0_60 : Index := 0#32
  let c0_i32_44 : BitVec 32 := 0#32
  let c1_i32 : BitVec 32 := 1#32
  let arg17 : BitVec 32 := Scf.iv c0_i32_44 c1_i32 k0_t1
  let c128_i32 : BitVec 32 := 128#32
  let v94 : BitVec 32 := Scalar.muli arg17 c128_i32
  let v95 : BitVec 32 := v94
  let v96 : Index := Scalar.indexCast v95
  let c0_61 : Index := 0#32
  ![0, v96.toNat, 0]
def k0_off2 (k0_t1 : Fin k0_t1_loop.trips) : Fin 2 → Nat :=
  let c0_i32_44 : BitVec 32 := 0#32
  let c1_i32 : BitVec 32 := 1#32
  let arg17 : BitVec 32 := Scf.iv c0_i32_44 c1_i32 k0_t1
  let c128_i32 : BitVec 32 := 128#32
  let v94 : BitVec 32 := Scalar.muli arg17 c128_i32
  let v95 : BitVec 32 := v94
  let v99 : Index := Scalar.indexCast v95
  let c0_62 : Index := 0#32
  ![v99.toNat, 0]
def k0_off3 (k0_t1 : Fin k0_t1_loop.trips) : Fin 3 → Nat :=
  let c0_i32_44 : BitVec 32 := 0#32
  let c1_i32 : BitVec 32 := 1#32
  let arg17 : BitVec 32 := Scf.iv c0_i32_44 c1_i32 k0_t1
  let v111 : Index := Scalar.indexCast arg17
  let c0_66 : Index := 0#32
  let c0_67 : Index := 0#32
  ![v111.toNat, 0, 0]
@[reducible] def k0_t2_loop : Scf.Loop 32 :=
  let c0_i32_46 : BitVec 32 := 0#32
  let c32_i32 : BitVec 32 := 32#32
  let v90 : BitVec 32 := Scalar.addi c0_i32_46 c32_i32
  let c1_i32_47 : BitVec 32 := 1#32
  ⟨c0_i32_46, v90, c1_i32_47⟩
def k0_mult2 (k0_t2 : Fin k0_t2_loop.trips) : BitVec 32 :=
  let c0_i32_46 : BitVec 32 := 0#32
  let c1_i32_47 : BitVec 32 := 1#32
  let arg17 : BitVec 32 := Scf.iv c0_i32_46 c1_i32_47 k0_t2
  let c128_i32 : BitVec 32 := 128#32
  let v94 : BitVec 32 := Scalar.muli arg17 c128_i32
  v94
def k0_off4 (k0_t2 : Fin k0_t2_loop.trips) : Fin 2 → Nat :=
  let c0_i32_46 : BitVec 32 := 0#32
  let c1_i32_47 : BitVec 32 := 1#32
  let arg17 : BitVec 32 := Scf.iv c0_i32_46 c1_i32_47 k0_t2
  let c128_i32 : BitVec 32 := 128#32
  let v94 : BitVec 32 := Scalar.muli arg17 c128_i32
  let v95 : BitVec 32 := v94
  let v96 : Index := Scalar.indexCast v95
  let c0_60 : Index := 0#32
  ![v96.toNat, 0]
def k0_off5 (k0_t2 : Fin k0_t2_loop.trips) : Fin 3 → Nat :=
  let c0_62 : Index := 0#32
  let c0_i32_46 : BitVec 32 := 0#32
  let c1_i32_47 : BitVec 32 := 1#32
  let arg17 : BitVec 32 := Scf.iv c0_i32_46 c1_i32_47 k0_t2
  let c128_i32 : BitVec 32 := 128#32
  let v94 : BitVec 32 := Scalar.muli arg17 c128_i32
  let v95 : BitVec 32 := v94
  let v100 : Index := Scalar.indexCast v95
  let c0_63 : Index := 0#32
  ![0, v100.toNat, 0]
def k0_mult3 (k0_t2 : Fin k0_t2_loop.trips) : BitVec 32 :=
  let c256_i32 : BitVec 32 := 256#32
  let c0_i32_46 : BitVec 32 := 0#32
  let c1_i32_47 : BitVec 32 := 1#32
  let arg17 : BitVec 32 := Scf.iv c0_i32_46 c1_i32_47 k0_t2
  let c128_i32_67 : BitVec 32 := 128#32
  let v129 : BitVec 32 := Scalar.muli arg17 c128_i32_67
  let v130 : BitVec 32 := Scalar.addi c256_i32 v129
  v130
def k0_off6 (k0_t2 : Fin k0_t2_loop.trips) : Fin 2 → Nat :=
  let c256_i32 : BitVec 32 := 256#32
  let c0_i32_46 : BitVec 32 := 0#32
  let c1_i32_47 : BitVec 32 := 1#32
  let arg17 : BitVec 32 := Scf.iv c0_i32_46 c1_i32_47 k0_t2
  let c128_i32_67 : BitVec 32 := 128#32
  let v129 : BitVec 32 := Scalar.muli arg17 c128_i32_67
  let v130 : BitVec 32 := Scalar.addi c256_i32 v129
  let v131 : BitVec 32 := v130
  let v132 : Index := Scalar.indexCast v131
  let c0_68 : Index := 0#32
  ![v132.toNat, 0]
def k0_off7 (k0_t2 : Fin k0_t2_loop.trips) : Fin 3 → Nat :=
  let c2_i32_69 : BitVec 32 := 2#32
  let c0_i32_46 : BitVec 32 := 0#32
  let c1_i32_47 : BitVec 32 := 1#32
  let arg17 : BitVec 32 := Scf.iv c0_i32_46 c1_i32_47 k0_t2
  let v138 : BitVec 32 := Scalar.addi c2_i32_69 arg17
  let v139 : Index := Scalar.indexCast v138
  let c0_70 : Index := 0#32
  let c0_71 : Index := 0#32
  ![v139.toNat, 0, 0]
@[reducible] def k0_t3_loop : Scf.Loop 32 :=
  let c0_i32_49 : BitVec 32 := 0#32
  let c2_i32_50 : BitVec 32 := 2#32
  let v91 : BitVec 32 := Scalar.addi c0_i32_49 c2_i32_50
  let c1_i32_51 : BitVec 32 := 1#32
  ⟨c0_i32_49, v91, c1_i32_51⟩
def k0_mult4 (k0_t3 : Fin k0_t3_loop.trips) : BitVec 32 :=
  let c0_i32_49 : BitVec 32 := 0#32
  let c1_i32_51 : BitVec 32 := 1#32
  let arg17 : BitVec 32 := Scf.iv c0_i32_49 c1_i32_51 k0_t3
  let c128_i32 : BitVec 32 := 128#32
  let v94 : BitVec 32 := Scalar.muli arg17 c128_i32
  v94
def k0_off8 (k0_t3 : Fin k0_t3_loop.trips) : Fin 3 → Nat :=
  let c0_i32_60 : BitVec 32 := 0#32
  let c0_i32_49 : BitVec 32 := 0#32
  let c1_i32_51 : BitVec 32 := 1#32
  let arg17 : BitVec 32 := Scf.iv c0_i32_49 c1_i32_51 k0_t3
  let v96 : BitVec 32 := Scalar.addi c0_i32_60 arg17
  let v97 : Index := Scalar.indexCast v96
  let c0_61 : Index := 0#32
  let c0_62 : Index := 0#32
  ![v97.toNat, 0, 0]
def k0_off9 (k0_t3 : Fin k0_t3_loop.trips) : Fin 3 → Nat :=
  let c0_63 : Index := 0#32
  let c0_i32_49 : BitVec 32 := 0#32
  let c1_i32_51 : BitVec 32 := 1#32
  let arg17 : BitVec 32 := Scf.iv c0_i32_49 c1_i32_51 k0_t3
  let c128_i32 : BitVec 32 := 128#32
  let v94 : BitVec 32 := Scalar.muli arg17 c128_i32
  let v95 : BitVec 32 := v94
  let v100 : Index := Scalar.indexCast v95
  let c0_64 : Index := 0#32
  ![0, v100.toNat, 0]
def k0_mult5 (k0_t3 : Fin k0_t3_loop.trips) : BitVec 32 :=
  let c1_i32_76 : BitVec 32 := 1#32
  let c0_i32_49 : BitVec 32 := 0#32
  let c1_i32_51 : BitVec 32 := 1#32
  let arg17 : BitVec 32 := Scf.iv c0_i32_49 c1_i32_51 k0_t3
  let v117 : BitVec 32 := Scalar.subi c1_i32_76 arg17
  let c128_i32_77 : BitVec 32 := 128#32
  let v118 : BitVec 32 := Scalar.muli v117 c128_i32_77
  v118
def k0_off10 (k0_t3 : Fin k0_t3_loop.trips) : Fin 3 → Nat :=
  let c0_i32_78 : BitVec 32 := 0#32
  let c1_i32_76 : BitVec 32 := 1#32
  let c0_i32_49 : BitVec 32 := 0#32
  let c1_i32_51 : BitVec 32 := 1#32
  let arg17 : BitVec 32 := Scf.iv c0_i32_49 c1_i32_51 k0_t3
  let v117 : BitVec 32 := Scalar.subi c1_i32_76 arg17
  let v120 : BitVec 32 := Scalar.addi c0_i32_78 v117
  let v121 : Index := Scalar.indexCast v120
  let c0_79 : Index := 0#32
  let c0_80 : Index := 0#32
  ![v121.toNat, 0, 0]
def k0_off11 (k0_t3 : Fin k0_t3_loop.trips) : Fin 3 → Nat :=
  let c0_81 : Index := 0#32
  let c1_i32_76 : BitVec 32 := 1#32
  let c0_i32_49 : BitVec 32 := 0#32
  let c1_i32_51 : BitVec 32 := 1#32
  let arg17 : BitVec 32 := Scf.iv c0_i32_49 c1_i32_51 k0_t3
  let v117 : BitVec 32 := Scalar.subi c1_i32_76 arg17
  let c128_i32_77 : BitVec 32 := 128#32
  let v118 : BitVec 32 := Scalar.muli v117 c128_i32_77
  let v119 : BitVec 32 := v118
  let v124 : Index := Scalar.indexCast v119
  let c0_82 : Index := 0#32
  ![0, v124.toNat, 0]
@[reducible] def k0_t4_loop : Scf.Loop 32 :=
  let c0_i32_53 : BitVec 32 := 0#32
  let c16_i32 : BitVec 32 := 16#32
  let v92 : BitVec 32 := Scalar.addi c0_i32_53 c16_i32
  let c1_i32_54 : BitVec 32 := 1#32
  ⟨c0_i32_53, v92, c1_i32_54⟩
def k0_mult6 (k0_t4 : Fin k0_t4_loop.trips) : BitVec 32 :=
  let c0_i32_53 : BitVec 32 := 0#32
  let c1_i32_54 : BitVec 32 := 1#32
  let arg17 : BitVec 32 := Scf.iv c0_i32_53 c1_i32_54 k0_t4
  let c128_i32 : BitVec 32 := 128#32
  let v94 : BitVec 32 := Scalar.muli arg17 c128_i32
  v94
def k0_mult7 (k0_t4 : Fin k0_t4_loop.trips) : BitVec 32 :=
  let c256_i32 : BitVec 32 := 256#32
  let c0_i32_53 : BitVec 32 := 0#32
  let c1_i32_54 : BitVec 32 := 1#32
  let arg17 : BitVec 32 := Scf.iv c0_i32_53 c1_i32_54 k0_t4
  let c128_i32_60 : BitVec 32 := 128#32
  let v96 : BitVec 32 := Scalar.muli arg17 c128_i32_60
  let v97 : BitVec 32 := Scalar.addi c256_i32 v96
  v97
def k0_off12 (k0_t4 : Fin k0_t4_loop.trips) : Fin 2 → Nat :=
  let c256_i32 : BitVec 32 := 256#32
  let c0_i32_53 : BitVec 32 := 0#32
  let c1_i32_54 : BitVec 32 := 1#32
  let arg17 : BitVec 32 := Scf.iv c0_i32_53 c1_i32_54 k0_t4
  let c128_i32_60 : BitVec 32 := 128#32
  let v96 : BitVec 32 := Scalar.muli arg17 c128_i32_60
  let v97 : BitVec 32 := Scalar.addi c256_i32 v96
  let v98 : BitVec 32 := v97
  let v99 : Index := Scalar.indexCast v98
  let c0_61 : Index := 0#32
  ![v99.toNat, 0]
def k0_off13 (k0_t4 : Fin k0_t4_loop.trips) : Fin 3 → Nat :=
  let c2_i32_62 : BitVec 32 := 2#32
  let c0_i32_53 : BitVec 32 := 0#32
  let c1_i32_54 : BitVec 32 := 1#32
  let arg17 : BitVec 32 := Scf.iv c0_i32_53 c1_i32_54 k0_t4
  let v101 : BitVec 32 := Scalar.addi c2_i32_62 arg17
  let v102 : Index := Scalar.indexCast v101
  let c0_63 : Index := 0#32
  let c0_64 : Index := 0#32
  ![v102.toNat, 0, 0]
def k0_off14 (k0_t4 : Fin k0_t4_loop.trips) : Fin 3 → Nat :=
  let c0_65 : Index := 0#32
  let c0_i32_53 : BitVec 32 := 0#32
  let c1_i32_54 : BitVec 32 := 1#32
  let arg17 : BitVec 32 := Scf.iv c0_i32_53 c1_i32_54 k0_t4
  let c128_i32 : BitVec 32 := 128#32
  let v94 : BitVec 32 := Scalar.muli arg17 c128_i32
  let v95 : BitVec 32 := v94
  let v105 : Index := Scalar.indexCast v95
  let c0_66 : Index := 0#32
  ![0, v105.toNat, 0]
def k0_mult8 (k0_t4 : Fin k0_t4_loop.trips) : BitVec 32 :=
  let c31_i32 : BitVec 32 := 31#32
  let c0_i32_53 : BitVec 32 := 0#32
  let c1_i32_54 : BitVec 32 := 1#32
  let arg17 : BitVec 32 := Scf.iv c0_i32_53 c1_i32_54 k0_t4
  let v138 : BitVec 32 := Scalar.subi c31_i32 arg17
  let c128_i32_90 : BitVec 32 := 128#32
  let v139 : BitVec 32 := Scalar.muli v138 c128_i32_90
  v139
def k0_mult9 (k0_t4 : Fin k0_t4_loop.trips) : BitVec 32 :=
  let c256_i32_92 : BitVec 32 := 256#32
  let c31_i32 : BitVec 32 := 31#32
  let c0_i32_53 : BitVec 32 := 0#32
  let c1_i32_54 : BitVec 32 := 1#32
  let arg17 : BitVec 32 := Scf.iv c0_i32_53 c1_i32_54 k0_t4
  let v138 : BitVec 32 := Scalar.subi c31_i32 arg17
  let c128_i32_91 : BitVec 32 := 128#32
  let v141 : BitVec 32 := Scalar.muli v138 c128_i32_91
  let v142 : BitVec 32 := Scalar.addi c256_i32_92 v141
  v142
def k0_off15 (k0_t4 : Fin k0_t4_loop.trips) : Fin 2 → Nat :=
  let c256_i32_92 : BitVec 32 := 256#32
  let c31_i32 : BitVec 32 := 31#32
  let c0_i32_53 : BitVec 32 := 0#32
  let c1_i32_54 : BitVec 32 := 1#32
  let arg17 : BitVec 32 := Scf.iv c0_i32_53 c1_i32_54 k0_t4
  let v138 : BitVec 32 := Scalar.subi c31_i32 arg17
  let c128_i32_91 : BitVec 32 := 128#32
  let v141 : BitVec 32 := Scalar.muli v138 c128_i32_91
  let v142 : BitVec 32 := Scalar.addi c256_i32_92 v141
  let v143 : BitVec 32 := v142
  let v144 : Index := Scalar.indexCast v143
  let c0_93 : Index := 0#32
  ![v144.toNat, 0]
def k0_off16 (k0_t4 : Fin k0_t4_loop.trips) : Fin 3 → Nat :=
  let c2_i32_94 : BitVec 32 := 2#32
  let c31_i32 : BitVec 32 := 31#32
  let c0_i32_53 : BitVec 32 := 0#32
  let c1_i32_54 : BitVec 32 := 1#32
  let arg17 : BitVec 32 := Scf.iv c0_i32_53 c1_i32_54 k0_t4
  let v138 : BitVec 32 := Scalar.subi c31_i32 arg17
  let v146 : BitVec 32 := Scalar.addi c2_i32_94 v138
  let v147 : Index := Scalar.indexCast v146
  let c0_95 : Index := 0#32
  let c0_96 : Index := 0#32
  ![v147.toNat, 0, 0]
def k0_off17 (k0_t4 : Fin k0_t4_loop.trips) : Fin 3 → Nat :=
  let c0_97 : Index := 0#32
  let c31_i32 : BitVec 32 := 31#32
  let c0_i32_53 : BitVec 32 := 0#32
  let c1_i32_54 : BitVec 32 := 1#32
  let arg17 : BitVec 32 := Scf.iv c0_i32_53 c1_i32_54 k0_t4
  let v138 : BitVec 32 := Scalar.subi c31_i32 arg17
  let c128_i32_90 : BitVec 32 := 128#32
  let v139 : BitVec 32 := Scalar.muli v138 c128_i32_90
  let v140 : BitVec 32 := v139
  let v150 : Index := Scalar.indexCast v140
  let c0_98 : Index := 0#32
  ![0, v150.toNat, 0]
@[reducible] def k0_t5_loop : Scf.Loop 32 :=
  let c16_i32_56 : BitVec 32 := 16#32
  let c16_i32_57 : BitVec 32 := 16#32
  let v93 : BitVec 32 := Scalar.addi c16_i32_56 c16_i32_57
  let c1_i32_58 : BitVec 32 := 1#32
  ⟨c16_i32_56, v93, c1_i32_58⟩
def k0_mult10 (k0_t5 : Fin k0_t5_loop.trips) : BitVec 32 :=
  let c16_i32_56 : BitVec 32 := 16#32
  let c1_i32_58 : BitVec 32 := 1#32
  let arg17 : BitVec 32 := Scf.iv c16_i32_56 c1_i32_58 k0_t5
  let c128_i32 : BitVec 32 := 128#32
  let v94 : BitVec 32 := Scalar.muli arg17 c128_i32
  v94
def k0_mult11 (k0_t5 : Fin k0_t5_loop.trips) : BitVec 32 :=
  let c256_i32 : BitVec 32 := 256#32
  let c16_i32_56 : BitVec 32 := 16#32
  let c1_i32_58 : BitVec 32 := 1#32
  let arg17 : BitVec 32 := Scf.iv c16_i32_56 c1_i32_58 k0_t5
  let c128_i32_60 : BitVec 32 := 128#32
  let v96 : BitVec 32 := Scalar.muli arg17 c128_i32_60
  let v97 : BitVec 32 := Scalar.addi c256_i32 v96
  v97
def k0_off18 (k0_t5 : Fin k0_t5_loop.trips) : Fin 2 → Nat :=
  let c256_i32 : BitVec 32 := 256#32
  let c16_i32_56 : BitVec 32 := 16#32
  let c1_i32_58 : BitVec 32 := 1#32
  let arg17 : BitVec 32 := Scf.iv c16_i32_56 c1_i32_58 k0_t5
  let c128_i32_60 : BitVec 32 := 128#32
  let v96 : BitVec 32 := Scalar.muli arg17 c128_i32_60
  let v97 : BitVec 32 := Scalar.addi c256_i32 v96
  let v98 : BitVec 32 := v97
  let v99 : Index := Scalar.indexCast v98
  let c0_61 : Index := 0#32
  ![v99.toNat, 0]
def k0_off19 (k0_t5 : Fin k0_t5_loop.trips) : Fin 3 → Nat :=
  let c2_i32_62 : BitVec 32 := 2#32
  let c16_i32_56 : BitVec 32 := 16#32
  let c1_i32_58 : BitVec 32 := 1#32
  let arg17 : BitVec 32 := Scf.iv c16_i32_56 c1_i32_58 k0_t5
  let v101 : BitVec 32 := Scalar.addi c2_i32_62 arg17
  let v102 : Index := Scalar.indexCast v101
  let c0_63 : Index := 0#32
  let c0_64 : Index := 0#32
  ![v102.toNat, 0, 0]
def k0_off20 (k0_t5 : Fin k0_t5_loop.trips) : Fin 3 → Nat :=
  let c0_65 : Index := 0#32
  let c16_i32_56 : BitVec 32 := 16#32
  let c1_i32_58 : BitVec 32 := 1#32
  let arg17 : BitVec 32 := Scf.iv c16_i32_56 c1_i32_58 k0_t5
  let c128_i32 : BitVec 32 := 128#32
  let v94 : BitVec 32 := Scalar.muli arg17 c128_i32
  let v95 : BitVec 32 := v94
  let v105 : Index := Scalar.indexCast v95
  let c0_66 : Index := 0#32
  ![0, v105.toNat, 0]
def k0_mult12 (k0_t5 : Fin k0_t5_loop.trips) : BitVec 32 :=
  let c31_i32 : BitVec 32 := 31#32
  let c16_i32_56 : BitVec 32 := 16#32
  let c1_i32_58 : BitVec 32 := 1#32
  let arg17 : BitVec 32 := Scf.iv c16_i32_56 c1_i32_58 k0_t5
  let v142 : BitVec 32 := Scalar.subi c31_i32 arg17
  let c128_i32_92 : BitVec 32 := 128#32
  let v143 : BitVec 32 := Scalar.muli v142 c128_i32_92
  v143
def k0_mult13 (k0_t5 : Fin k0_t5_loop.trips) : BitVec 32 :=
  let c256_i32_94 : BitVec 32 := 256#32
  let c31_i32 : BitVec 32 := 31#32
  let c16_i32_56 : BitVec 32 := 16#32
  let c1_i32_58 : BitVec 32 := 1#32
  let arg17 : BitVec 32 := Scf.iv c16_i32_56 c1_i32_58 k0_t5
  let v142 : BitVec 32 := Scalar.subi c31_i32 arg17
  let c128_i32_93 : BitVec 32 := 128#32
  let v145 : BitVec 32 := Scalar.muli v142 c128_i32_93
  let v146 : BitVec 32 := Scalar.addi c256_i32_94 v145
  v146
def k0_off21 (k0_t5 : Fin k0_t5_loop.trips) : Fin 2 → Nat :=
  let c256_i32_94 : BitVec 32 := 256#32
  let c31_i32 : BitVec 32 := 31#32
  let c16_i32_56 : BitVec 32 := 16#32
  let c1_i32_58 : BitVec 32 := 1#32
  let arg17 : BitVec 32 := Scf.iv c16_i32_56 c1_i32_58 k0_t5
  let v142 : BitVec 32 := Scalar.subi c31_i32 arg17
  let c128_i32_93 : BitVec 32 := 128#32
  let v145 : BitVec 32 := Scalar.muli v142 c128_i32_93
  let v146 : BitVec 32 := Scalar.addi c256_i32_94 v145
  let v147 : BitVec 32 := v146
  let v148 : Index := Scalar.indexCast v147
  let c0_95 : Index := 0#32
  ![v148.toNat, 0]
def k0_off22 (k0_t5 : Fin k0_t5_loop.trips) : Fin 3 → Nat :=
  let c2_i32_96 : BitVec 32 := 2#32
  let c31_i32 : BitVec 32 := 31#32
  let c16_i32_56 : BitVec 32 := 16#32
  let c1_i32_58 : BitVec 32 := 1#32
  let arg17 : BitVec 32 := Scf.iv c16_i32_56 c1_i32_58 k0_t5
  let v142 : BitVec 32 := Scalar.subi c31_i32 arg17
  let v150 : BitVec 32 := Scalar.addi c2_i32_96 v142
  let v151 : Index := Scalar.indexCast v150
  let c0_97 : Index := 0#32
  let c0_98 : Index := 0#32
  ![v151.toNat, 0, 0]
def k0_off23 (k0_t5 : Fin k0_t5_loop.trips) : Fin 3 → Nat :=
  let c0_99 : Index := 0#32
  let c31_i32 : BitVec 32 := 31#32
  let c16_i32_56 : BitVec 32 := 16#32
  let c1_i32_58 : BitVec 32 := 1#32
  let arg17 : BitVec 32 := Scf.iv c16_i32_56 c1_i32_58 k0_t5
  let v142 : BitVec 32 := Scalar.subi c31_i32 arg17
  let c128_i32_92 : BitVec 32 := 128#32
  let v143 : BitVec 32 := Scalar.muli v142 c128_i32_92
  let v144 : BitVec 32 := v143
  let v154 : Index := Scalar.indexCast v144
  let c0_100 : Index := 0#32
  ![0, v154.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4096x8192 : Shape := ⟨3, ![4, 4096, 8192]⟩
abbrev S4x256x8192 : Shape := ⟨3, ![4, 256, 8192]⟩
abbrev S2x4 : Shape := ⟨2, ![2, 4]⟩
abbrev S4096x128 : Shape := ⟨2, ![4096, 128]⟩
abbrev S4x256x1024 : Shape := ⟨3, ![4, 256, 1024]⟩
abbrev S4x256x2048 : Shape := ⟨3, ![4, 256, 2048]⟩
abbrev S4x4096x1024 : Shape := ⟨3, ![4, 4096, 1024]⟩
abbrev S4x4096x2048 : Shape := ⟨3, ![4, 4096, 2048]⟩
abbrev S4x256x4x256 : Shape := ⟨4, ![4, 256, 4, 256]⟩
abbrev S_ : Shape := ⟨0, ![]⟩
abbrev S4x256x4x512 : Shape := ⟨4, ![4, 256, 4, 512]⟩
abbrev S4x4096x4x256 : Shape := ⟨4, ![4, 4096, 4, 256]⟩
abbrev S4x4096x4x128 : Shape := ⟨4, ![4, 4096, 4, 128]⟩
abbrev S1x4096x1x128 : Shape := ⟨4, ![1, 4096, 1, 128]⟩
abbrev S4x4096x4x512 : Shape := ⟨4, ![4, 4096, 4, 512]⟩
abbrev S2x4x4x256x512 : Shape := ⟨5, ![2, 4, 4, 256, 512]⟩
abbrev S4x4352x4x256 : Shape := ⟨4, ![4, 4352, 4, 256]⟩
abbrev S1x4x4352x4x256 : Shape := ⟨5, ![1, 4, 4352, 4, 256]⟩
abbrev S2x4x4352x4x256 : Shape := ⟨5, ![2, 4, 4352, 4, 256]⟩
abbrev S4x4352x4x512 : Shape := ⟨4, ![4, 4352, 4, 512]⟩
abbrev S1x4x4352x4x512 : Shape := ⟨5, ![1, 4, 4352, 4, 512]⟩
abbrev S2x4x4352x4x512 : Shape := ⟨5, ![2, 4, 4352, 4, 512]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S2x4x1x1 : Shape := ⟨4, ![2, 4, 1, 1]⟩
abbrev S1x1x128x128 : Shape := ⟨4, ![1, 1, 128, 128]⟩
abbrev S2x4x128x128 : Shape := ⟨4, ![2, 4, 128, 128]⟩
abbrev S2x4x1 : Shape := ⟨3, ![2, 4, 1]⟩
abbrev S1x1x128 : Shape := ⟨3, ![1, 1, 128]⟩
abbrev S2x4x128 : Shape := ⟨3, ![2, 4, 128]⟩
abbrev S2x4x34x128x4x256 : Shape := ⟨6, ![2, 4, 34, 128, 4, 256]⟩
abbrev S34x2x4x4x128x256 : Shape := ⟨6, ![34, 2, 4, 4, 128, 256]⟩
abbrev S2x4x34x128x4x512 : Shape := ⟨6, ![2, 4, 34, 128, 4, 512]⟩
abbrev S34x2x4x4x128x512 : Shape := ⟨6, ![34, 2, 4, 4, 128, 512]⟩
abbrev S1x2x4x4x128x256 : Shape := ⟨6, ![1, 2, 4, 4, 128, 256]⟩
abbrev S2x4x4x128x256 : Shape := ⟨5, ![2, 4, 4, 128, 256]⟩
abbrev S1x2x4x4x128x512 : Shape := ⟨6, ![1, 2, 4, 4, 128, 512]⟩
abbrev S2x4x4x128x512 : Shape := ⟨5, ![2, 4, 4, 128, 512]⟩
abbrev S2x1x4x1x1 : Shape := ⟨5, ![2, 1, 4, 1, 1]⟩
abbrev S2x1x4x128x1 : Shape := ⟨5, ![2, 1, 4, 128, 1]⟩
abbrev S2x4x4x128x128 : Shape := ⟨5, ![2, 4, 4, 128, 128]⟩
abbrev S2x1x4x128x128 : Shape := ⟨5, ![2, 1, 4, 128, 128]⟩
abbrev S2x4x4096x4x512 : Shape := ⟨5, ![2, 4, 4096, 4, 512]⟩
abbrev S1x4x4096x4x512 : Shape := ⟨5, ![1, 4, 4096, 4, 512]⟩

abbrev nBuf : Space → Nat
  | .hbm => 210
  | .vmem => 0
  | .smem => 0
  | _ => 0

abbrev hbmTy0_0 (i : Nat) : BufTy := match i % 128 with
  | 0 => ⟨S4x4096x8192, .bf16⟩
  | 1 => ⟨S4x256x8192, .bf16⟩
  | 2 => ⟨S2x4, .f32⟩
  | 3 => ⟨S4096x128, .f32⟩
  | 4 => ⟨S4096x128, .f32⟩
  | 5 => ⟨S4x256x8192, .f32⟩
  | 6 => ⟨S4x256x1024, .f32⟩
  | 7 => ⟨S4x256x1024, .f32⟩
  | 8 => ⟨S4x256x2048, .f32⟩
  | 9 => ⟨S4x4096x8192, .f32⟩
  | 10 => ⟨S4x4096x1024, .f32⟩
  | 11 => ⟨S4x4096x1024, .f32⟩
  | 12 => ⟨S4x4096x2048, .f32⟩
  | 13 => ⟨S4x256x4x256, .f32⟩
  | 14 => ⟨S4x256x4x256, .f32⟩
  | 15 => ⟨S_, .f32⟩
  | 16 => ⟨S4x256x4x256, .f32⟩
  | 17 => ⟨S4x256x4x256, .f32⟩
  | 18 => ⟨S4x256x4x512, .f32⟩
  | 19 => ⟨S4x4096x4x256, .f32⟩
  | 20 => ⟨S4x4096x4x128, .f32⟩
  | 21 => ⟨S4x4096x4x128, .f32⟩
  | 22 => ⟨S1x4096x1x128, .f32⟩
  | 23 => ⟨S1x4096x1x128, .f32⟩
  | 24 => ⟨S4x4096x4x128, .f32⟩
  | 25 => ⟨S4x4096x4x128, .f32⟩
  | 26 => ⟨S4x4096x4x128, .f32⟩
  | 27 => ⟨S4x4096x4x128, .f32⟩
  | 28 => ⟨S4x4096x4x128, .f32⟩
  | 29 => ⟨S4x4096x4x128, .f32⟩
  | 30 => ⟨S4x4096x4x128, .f32⟩
  | 31 => ⟨S4x4096x4x128, .f32⟩
  | 32 => ⟨S4x4096x4x128, .f32⟩
  | 33 => ⟨S4x4096x4x128, .f32⟩
  | 34 => ⟨S4x4096x4x256, .f32⟩
  | 35 => ⟨S4x4096x4x256, .f32⟩
  | 36 => ⟨S4x4096x4x128, .f32⟩
  | 37 => ⟨S4x4096x4x128, .f32⟩
  | 38 => ⟨S1x4096x1x128, .f32⟩
  | 39 => ⟨S1x4096x1x128, .f32⟩
  | 40 => ⟨S4x4096x4x128, .f32⟩
  | 41 => ⟨S4x4096x4x128, .f32⟩
  | 42 => ⟨S4x4096x4x128, .f32⟩
  | 43 => ⟨S4x4096x4x128, .f32⟩
  | 44 => ⟨S4x4096x4x128, .f32⟩
  | 45 => ⟨S4x4096x4x128, .f32⟩
  | 46 => ⟨S4x4096x4x128, .f32⟩
  | 47 => ⟨S4x4096x4x128, .f32⟩
  | 48 => ⟨S4x4096x4x128, .f32⟩
  | 49 => ⟨S4x4096x4x128, .f32⟩
  | 50 => ⟨S4x4096x4x256, .f32⟩
  | 51 => ⟨S_, .f32⟩
  | 52 => ⟨S4x4096x4x256, .f32⟩
  | 53 => ⟨S4x4096x4x256, .f32⟩
  | 54 => ⟨S4x4096x4x512, .f32⟩
  | 55 => ⟨S2x4, .f32⟩
  | 56 => ⟨S2x4, .f32⟩
  | 57 => ⟨S_, .f32⟩
  | 58 => ⟨S2x4x4x256x512, .f32⟩
  | 59 => ⟨S4x4352x4x256, .f32⟩
  | 60 => ⟨S4x256x4x256, .f32⟩
  | 61 => ⟨S4x4096x4x256, .f32⟩
  | 62 => ⟨S4x4352x4x256, .f32⟩
  | 63 => ⟨S1x4x4352x4x256, .f32⟩
  | 64 => ⟨S1x4x4352x4x256, .f32⟩
  | 65 => ⟨S2x4x4352x4x256, .f32⟩
  | 66 => ⟨S4x4352x4x256, .f32⟩
  | 67 => ⟨S4x256x4x256, .f32⟩
  | 68 => ⟨S4x4096x4x256, .f32⟩
  | 69 => ⟨S4x4352x4x256, .f32⟩
  | 70 => ⟨S1x4x4352x4x256, .f32⟩
  | 71 => ⟨S1x4x4352x4x256, .f32⟩
  | 72 => ⟨S2x4x4352x4x256, .f32⟩
  | 73 => ⟨S4x4352x4x512, .f32⟩
  | 74 => ⟨S4x256x4x512, .f32⟩
  | 75 => ⟨S4x4096x4x512, .f32⟩
  | 76 => ⟨S4x4352x4x512, .f32⟩
  | 77 => ⟨S1x4x4352x4x512, .f32⟩
  | 78 => ⟨S1x4x4352x4x512, .f32⟩
  | 79 => ⟨S2x4x4352x4x512, .f32⟩
  | 80 => ⟨S128, .i32⟩
  | 81 => ⟨S128, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S128x1, .f32⟩
  | 94 => ⟨S1x128, .f32⟩
  | 95 => ⟨S128x128, .f32⟩
  | 96 => ⟨S128x128, .f32⟩
  | 97 => ⟨S128x128, .f32⟩
  | 98 => ⟨S2x4x1x1, .f32⟩
  | 99 => ⟨S1x1x128x128, .f32⟩
  | 100 => ⟨S2x4x128x128, .f32⟩
  | 101 => ⟨S2x4x128x128, .f32⟩
  | 102 => ⟨S2x4x128x128, .f32⟩
  | 103 => ⟨S_, .f32⟩
  | 104 => ⟨S_, .f32⟩
  | 105 => ⟨S2x4x128x128, .i1⟩
  | 106 => ⟨S2x4x128x128, .f32⟩
  | 107 => ⟨S2x4x128x128, .f32⟩
  | 108 => ⟨S2x4x128x128, .f32⟩
  | 109 => ⟨S_, .f32⟩
  | 110 => ⟨S128, .f32⟩
  | 111 => ⟨S128, .f32⟩
  | 112 => ⟨S2x4x1, .f32⟩
  | 113 => ⟨S1x1x128, .f32⟩
  | 114 => ⟨S2x4x128, .f32⟩
  | 115 => ⟨S2x4x128, .f32⟩
  | 116 => ⟨S2x4x128, .f32⟩
  | 117 => ⟨S2x4x128, .f32⟩
  | 118 => ⟨S_, .f32⟩
  | 119 => ⟨S128, .f32⟩
  | 120 => ⟨S128, .f32⟩
  | 121 => ⟨S2x4x1, .f32⟩
  | 122 => ⟨S1x1x128, .f32⟩
  | 123 => ⟨S2x4x128, .f32⟩
  | 124 => ⟨S2x4x128, .f32⟩
  | 125 => ⟨S2x4x128, .f32⟩
  | 126 => ⟨S2x4x128, .f32⟩
  | 127 => ⟨S_, .f32⟩
  | _ => ⟨S4x4096x8192, .bf16⟩

abbrev hbmTy0_1 (i : Nat) : BufTy := match i % 128 with
  | 0 => ⟨S2x4, .f32⟩
  | 1 => ⟨S2x4, .f32⟩
  | 2 => ⟨S2x4, .f32⟩
  | 3 => ⟨S2x4x34x128x4x256, .f32⟩
  | 4 => ⟨S34x2x4x4x128x256, .f32⟩
  | 5 => ⟨S2x4x34x128x4x256, .f32⟩
  | 6 => ⟨S34x2x4x4x128x256, .f32⟩
  | 7 => ⟨S2x4x34x128x4x512, .f32⟩
  | 8 => ⟨S34x2x4x4x128x512, .f32⟩
  | 9 => ⟨S_, .f32⟩
  | 10 => ⟨S34x2x4x4x128x512, .f32⟩
  | 11 => ⟨S_, .i32⟩
  | 12 => ⟨S34x2x4x4x128x256, .f32⟩
  | 13 => ⟨S34x2x4x4x128x256, .f32⟩
  | 14 => ⟨S34x2x4x4x128x512, .f32⟩
  | 15 => ⟨S2x4, .f32⟩
  | 16 => ⟨S2x4x128, .f32⟩
  | 17 => ⟨S2x4x128x128, .f32⟩
  | 18 => ⟨S2x4x128, .f32⟩
  | 19 => ⟨S_, .i32⟩
  | 20 => ⟨S2x4x4x256x512, .f32⟩
  | 21 => ⟨S34x2x4x4x128x512, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x2x4x4x128x256, .f32⟩
  | 30 => ⟨S2x4x4x128x256, .f32⟩
  | 31 => ⟨S_, .i32⟩
  | 32 => ⟨S_, .i32⟩
  | 33 => ⟨S_, .i32⟩
  | 34 => ⟨S_, .i32⟩
  | 35 => ⟨S_, .i32⟩
  | 36 => ⟨S1x2x4x4x128x256, .f32⟩
  | 37 => ⟨S2x4x4x128x256, .f32⟩
  | 38 => ⟨S_, .i32⟩
  | 39 => ⟨S_, .i32⟩
  | 40 => ⟨S_, .i32⟩
  | 41 => ⟨S_, .i32⟩
  | 42 => ⟨S_, .i32⟩
  | 43 => ⟨S1x2x4x4x128x512, .f32⟩
  | 44 => ⟨S2x4x4x128x512, .f32⟩
  | 45 => ⟨S2x1x4x1x1, .f32⟩
  | 46 => ⟨S2x4x4x256x512, .f32⟩
  | 47 => ⟨S2x4x4x256x512, .f32⟩
  | 48 => ⟨S2x1x4x128x1, .f32⟩
  | 49 => ⟨S2x4x4x128x256, .f32⟩
  | 50 => ⟨S2x4x4x128x256, .f32⟩
  | 51 => ⟨S2x4x4x256x512, .f32⟩
  | 52 => ⟨S2x4x4x256x512, .f32⟩
  | 53 => ⟨S2x4x4x128x128, .f32⟩
  | 54 => ⟨S2x1x4x128x128, .f32⟩
  | 55 => ⟨S2x4x4x128x128, .f32⟩
  | 56 => ⟨S2x4x4x128x128, .f32⟩
  | 57 => ⟨S2x4x4x128x512, .f32⟩
  | 58 => ⟨S2x1x4x128x1, .f32⟩
  | 59 => ⟨S2x4x4x128x256, .f32⟩
  | 60 => ⟨S2x4x4x128x256, .f32⟩
  | 61 => ⟨S2x4x4x128x512, .f32⟩
  | 62 => ⟨S2x4x4x128x512, .f32⟩
  | 63 => ⟨S1x2x4x4x128x512, .f32⟩
  | 64 => ⟨S_, .i32⟩
  | 65 => ⟨S_, .i32⟩
  | 66 => ⟨S_, .i32⟩
  | 67 => ⟨S_, .i32⟩
  | 68 => ⟨S_, .i32⟩
  | 69 => ⟨S34x2x4x4x128x512, .f32⟩
  | 70 => ⟨S_, .i32⟩
  | 71 => ⟨S_, .i32⟩
  | 72 => ⟨S2x4x34x128x4x512, .f32⟩
  | 73 => ⟨S2x4x4352x4x512, .f32⟩
  | 74 => ⟨S2x4x4096x4x512, .f32⟩
  | 75 => ⟨S1x4x4096x4x512, .f32⟩
  | 76 => ⟨S4x4096x4x512, .f32⟩
  | 77 => ⟨S1x4x4096x4x512, .f32⟩
  | 78 => ⟨S4x4096x4x512, .f32⟩
  | 79 => ⟨S4x4096x4x512, .f32⟩
  | 80 => ⟨S4x4096x4x512, .f32⟩
  | 81 => ⟨S4x4096x2048, .f32⟩
  | _ => ⟨S4x4096x8192, .bf16⟩

abbrev hbmTy (i : Nat) : BufTy := match i / 128 with
  | 0 => hbmTy0_0 i
  | 1 => hbmTy0_1 i
  | _ => ⟨S4x4096x8192, .bf16⟩

abbrev bufTy : (tb : Table) → Fin (tcTables nBuf tb) → BufTy
  | .hbm, ⟨i, _⟩ => hbmTy i
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_0 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_1 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_c : Ref sig .tc := ⟨.hbm, 82, rfl⟩
abbrev main_v74 : Ref sig .tc := ⟨.hbm, 83, rfl⟩
abbrev main_call6_v0 : Ref sig .tc := ⟨.hbm, 84, rfl⟩
abbrev main_call6_c : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_c_0 : Ref sig .tc := ⟨.hbm, 90, rfl⟩
abbrev main_call6_v5 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_2 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_v86 : Ref sig .tc := ⟨.hbm, 107, rfl⟩
abbrev main_v87 : Ref sig .tc := ⟨.hbm, 108, rfl⟩
abbrev main_cst_3 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_4 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_5 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_6 : Ref sig .tc := ⟨.hbm, 137, rfl⟩
abbrev main_v113 : Ref sig .tc := ⟨.hbm, 138, rfl⟩
abbrev main_c_7 : Ref sig .tc := ⟨.hbm, 139, rfl⟩
abbrev main_v114_0 : Ref sig .tc := ⟨.hbm, 140, rfl⟩
abbrev main_v114_1 : Ref sig .tc := ⟨.hbm, 141, rfl⟩
abbrev main_v114_2 : Ref sig .tc := ⟨.hbm, 142, rfl⟩
abbrev main_v114_3 : Ref sig .tc := ⟨.hbm, 143, rfl⟩
abbrev main_v114_4 : Ref sig .tc := ⟨.hbm, 144, rfl⟩
abbrev main_v114_5 : Ref sig .tc := ⟨.hbm, 145, rfl⟩
abbrev main_v114_6 : Ref sig .tc := ⟨.hbm, 146, rfl⟩
abbrev main_v114_7 : Ref sig .tc := ⟨.hbm, 147, rfl⟩
abbrev main_v114_8 : Ref sig .tc := ⟨.hbm, 148, rfl⟩
abbrev main_v114_9 : Ref sig .tc := ⟨.hbm, 149, rfl⟩
abbrev main_while0c_c_17 : Ref sig .tc := ⟨.hbm, 150, rfl⟩
abbrev main_while0c_v125 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_c_2 : Ref sig .tc := ⟨.hbm, 155, rfl⟩
abbrev main_while0b_call8_c_3 : Ref sig .tc := ⟨.hbm, 156, rfl⟩
abbrev main_while0b_call8_v0 : Ref sig .tc := ⟨.hbm, 157, rfl⟩
abbrev main_while0b_v125 : Ref sig .tc := ⟨.hbm, 158, rfl⟩
abbrev main_while0b_call9_c : Ref sig .tc := ⟨.hbm, 159, rfl⟩
abbrev main_while0b_call9_c_0 : Ref sig .tc := ⟨.hbm, 160, rfl⟩
abbrev main_while0b_call9_c_1 : Ref sig .tc := ⟨.hbm, 161, rfl⟩
abbrev main_while0b_call9_c_2 : Ref sig .tc := ⟨.hbm, 162, rfl⟩
abbrev main_while0b_call9_c_3 : Ref sig .tc := ⟨.hbm, 163, rfl⟩
abbrev main_while0b_call9_v0 : Ref sig .tc := ⟨.hbm, 164, rfl⟩
abbrev main_while0b_v126 : Ref sig .tc := ⟨.hbm, 165, rfl⟩
abbrev main_while0b_call10_c : Ref sig .tc := ⟨.hbm, 166, rfl⟩
abbrev main_while0b_call10_c_0 : Ref sig .tc := ⟨.hbm, 167, rfl⟩
abbrev main_while0b_call10_c_1 : Ref sig .tc := ⟨.hbm, 168, rfl⟩
abbrev main_while0b_call10_c_2 : Ref sig .tc := ⟨.hbm, 169, rfl⟩
abbrev main_while0b_call10_c_3 : Ref sig .tc := ⟨.hbm, 170, rfl⟩
abbrev main_while0b_call10_v0 : Ref sig .tc := ⟨.hbm, 171, rfl⟩
abbrev main_while0b_v127 : Ref sig .tc := ⟨.hbm, 172, rfl⟩
abbrev main_while0b_v128 : Ref sig .tc := ⟨.hbm, 173, rfl⟩
abbrev main_while0b_v129 : Ref sig .tc := ⟨.hbm, 174, rfl⟩
abbrev main_while0b_v130 : Ref sig .tc := ⟨.hbm, 175, rfl⟩
abbrev main_while0b_v131 : Ref sig .tc := ⟨.hbm, 176, rfl⟩
abbrev main_while0b_v132 : Ref sig .tc := ⟨.hbm, 177, rfl⟩
abbrev main_while0b_v133 : Ref sig .tc := ⟨.hbm, 178, rfl⟩
abbrev main_while0b_v134 : Ref sig .tc := ⟨.hbm, 179, rfl⟩
abbrev main_while0b_v135 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_v140 : Ref sig .tc := ⟨.hbm, 185, rfl⟩
abbrev main_while0b_v141 : Ref sig .tc := ⟨.hbm, 186, rfl⟩
abbrev main_while0b_v142 : Ref sig .tc := ⟨.hbm, 187, rfl⟩
abbrev main_while0b_v143 : Ref sig .tc := ⟨.hbm, 188, rfl⟩
abbrev main_while0b_v144 : Ref sig .tc := ⟨.hbm, 189, rfl⟩
abbrev main_while0b_v145 : Ref sig .tc := ⟨.hbm, 190, rfl⟩
abbrev main_while0b_call11_v0 : Ref sig .tc := ⟨.hbm, 191, rfl⟩
abbrev main_while0b_call11_c : Ref sig .tc := ⟨.hbm, 192, rfl⟩
abbrev main_while0b_call11_c_0 : Ref sig .tc := ⟨.hbm, 193, rfl⟩
abbrev main_while0b_call11_c_1 : Ref sig .tc := ⟨.hbm, 194, rfl⟩
abbrev main_while0b_call11_c_2 : Ref sig .tc := ⟨.hbm, 195, rfl⟩
abbrev main_while0b_call11_c_3 : Ref sig .tc := ⟨.hbm, 196, rfl⟩
abbrev main_while0b_v146 : Ref sig .tc := ⟨.hbm, 197, rfl⟩
abbrev main_while0b_c_17 : Ref sig .tc := ⟨.hbm, 198, rfl⟩
abbrev main_while0b_v147 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩

abbrev nD : Nat := 1
abbrev τ : Topo := Topo.v7x

variable {F : FTy → Type} [FloatOps F]

abbrev main_while0_count : Scf.Loop 32 := ⟨0#32, 34#32, 1#32⟩
-- ==== Kernel2.lean ====
abbrev S4x4096x2048 : Shape := ⟨3, ![4, 4096, 2048]⟩
abbrev S2048 : Shape := ⟨1, ![2048]⟩
abbrev S4x1x2048 : Shape := ⟨3, ![4, 1, 2048]⟩
abbrev S2048x5632 : Shape := ⟨2, ![2048, 5632]⟩
abbrev S5632x2048 : Shape := ⟨2, ![5632, 2048]⟩
abbrev S1x2048 : Shape := ⟨2, ![1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S1x2048, .f32⟩
  | .hbm, ⟨14, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S4x4096x2048 : Shape := ⟨3, ![4, 4096, 2048]⟩
abbrev S2048 : Shape := ⟨1, ![2048]⟩
abbrev S4x1x2048 : Shape := ⟨3, ![4, 1, 2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x5632, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S_, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S4x4096x2048, .f32⟩
  | .hbm, ⟨60, _⟩ => ⟨S4x4096x2048, .f32⟩
  | .hbm, ⟨61, _⟩ => ⟨S1x1x2048, .f32⟩
  | .hbm, ⟨62, _⟩ => ⟨S4x4096x2048, .f32⟩
  | .hbm, ⟨63, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S4x1x2048 : Shape := ⟨3, ![4, 1, 2048]⟩
abbrev S2048x5632 : Shape := ⟨2, ![2048, 5632]⟩
abbrev S5632x2048 : Shape := ⟨2, ![5632, 2048]⟩
abbrev S1x2048 : Shape := ⟨2, ![1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 15
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S1x2048, .f32⟩
  | .hbm, ⟨13, _⟩ => ⟨S1x2048, .f32⟩
  | .hbm, ⟨14, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S512x2048, .bf16⟩
  | .local _ .vmem, ⟨19, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 8, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference3Ideal.lean ====
abbrev S4x4096x2048 : Shape := ⟨3, ![4, 4096, 2048]⟩
abbrev S2048 : Shape := ⟨1, ![2048]⟩
abbrev S4x1x2048 : Shape := ⟨3, ![4, 1, 2048]⟩
abbrev S2048x5632 : Shape := ⟨2, ![2048, 5632]⟩
abbrev S5632x2048 : Shape := ⟨2, ![5632, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x5632, .f32⟩
  | .hbm, ⟨33, _⟩ => ⟨S4x4096x5632, .f32⟩
  | .hbm, ⟨34, _⟩ => ⟨S4x4096x5632, .f32⟩
  | .hbm, ⟨35, _⟩ => ⟨S_, .f32⟩
  | .hbm, ⟨36, _⟩ => ⟨S4x4096x5632, .f32⟩
  | .hbm, ⟨37, _⟩ => ⟨S4x4096x5632, .f32⟩
  | .hbm, ⟨38, _⟩ => ⟨S_, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048 : Shape := ⟨1, ![2048]⟩
abbrev S4x1x2048 : Shape := ⟨3, ![4, 1, 2048]⟩
abbrev S2048x8192 : Shape := ⟨2, ![2048, 8192]⟩
abbrev S1x2048 : Shape := ⟨2, ![1, 2048]⟩
abbrev S4x4096x8192 : Shape := ⟨3, ![4, 4096, 8192]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x8192, .f32⟩
  | .hbm, ⟨5, _⟩ => ⟨S2048x8192, .bf16⟩
  | .hbm, ⟨6, _⟩ => ⟨S1x2048, .f32⟩
  | .hbm, ⟨7, _⟩ => ⟨S4x4096x8192, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S4x4096x2048 : Shape := ⟨3, ![4, 4096, 2048]⟩
abbrev S2048 : Shape := ⟨1, ![2048]⟩
abbrev S4x1x2048 : Shape := ⟨3, ![4, 1, 2048]⟩
abbrev S2048x8192 : Shape := ⟨2, ![2048, 8192]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x8192, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x8192, .f32⟩
  | .hbm, ⟨29, _⟩ => ⟨S4x4096x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S3072x2048 : Shape := ⟨2, ![3072, 2048]⟩
abbrev S1024x2048 : Shape := ⟨2, ![1024, 2048]⟩
abbrev S2048x2048 : Shape := ⟨2, ![2048, 2048]⟩
abbrev S1x1024x512 : Shape := ⟨3, ![1, 1024, 512]⟩
abbrev S1x1x512 : Shape := ⟨3, ![1, 1, 512]⟩
abbrev S1x1024x1024 : Shape := ⟨3, ![1, 1024, 1024]⟩
abbrev S1x1024x2048 : Shape := ⟨3, ![1, 1024, 2048]⟩
abbrev S1024x512 : Shape := ⟨2, ![1024, 512]⟩
abbrev S2048x512 : Shape := ⟨2, ![2048, 512]⟩
abbrev S1024x1024 : Shape := ⟨2, ![1024, 1024]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .bf16⟩
  | .hbm, ⟨3, _⟩ => ⟨S4x4096x2048, .bf16⟩
  | .hbm, ⟨4, _⟩ => ⟨S3072x2048, .f32⟩
  | .hbm, ⟨5, _⟩ => ⟨S3072x2048, .bf16⟩
  | .hbm, ⟨6, _⟩ => ⟨S1024x2048, .bf16⟩
  | .hbm, ⟨7, _⟩ => ⟨S2048x2048, .bf16⟩
  | .hbm, ⟨8, _⟩ => ⟨S4x4096x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1x1024x512, .f32⟩
  | .local _ .vmem, ⟨13, _⟩ => ⟨S1x1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference5Ideal.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S3072x2048 : Shape := ⟨2, ![3072, 2048]⟩
abbrev S4x4096x3072 : Shape := ⟨3, ![4, 4096, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .bf16⟩
  | .hbm, ⟨3, _⟩ => ⟨S4x4096x2048, .bf16⟩
  | .hbm, ⟨4, _⟩ => ⟨S3072x2048, .f32⟩
  | .hbm, ⟨5, _⟩ => ⟨S4x4096x1024, .f32⟩
  | .hbm, ⟨6, _⟩ => ⟨S4x4096x2048, .f32⟩
  | .hbm, ⟨7, _⟩ => ⟨S4x4096x3072, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel7.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S2048x2048 : Shape := ⟨2, ![2048, 2048]⟩
abbrev S1024x2048 : Shape := ⟨2, ![1024, 2048]⟩
abbrev S1x1024x512 : Shape := ⟨3, ![1, 1024, 512]⟩
abbrev S1x1x512 : Shape := ⟨3, ![1, 1, 512]⟩
abbrev S1x1024x1024 : Shape := ⟨3, ![1, 1024, 1024]⟩
abbrev S1024x512 : Shape := ⟨2, ![1024, 512]⟩
abbrev S1024x1024 : Shape := ⟨2, ![1024, 1024]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .bf16⟩
  | .hbm, ⟨3, _⟩ => ⟨S4x4096x1024, .bf16⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S4x4096x2048, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024x512, .f32⟩
  | .local _ .vmem, ⟨13, _⟩ => ⟨S1x1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference7Ideal.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .bf16⟩
  | .hbm, ⟨3, _⟩ => ⟨S4x4096x1024, .bf16⟩
  | .hbm, ⟨4, _⟩ => ⟨S2048x2048, .f32⟩
  | .hbm, ⟨5, _⟩ => ⟨S4x4096x1024, .f32⟩
  | .hbm, ⟨6, _⟩ => ⟨S4x4096x1024, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S4x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024x1024, .bf16⟩
  | .local _ .vmem, ⟨5, _⟩ => ⟨S1x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S4x4096x1024, .f32⟩
  | .hbm, ⟨4, _⟩ => ⟨S4x4096x1024, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel9.lean ====
abbrev S4x4096x2048 : Shape := ⟨3, ![4, 4096, 2048]⟩
abbrev S4x4096x8192 : Shape := ⟨3, ![4, 4096, 8192]⟩
abbrev S1x1024x512 : Shape := ⟨3, ![1, 1024, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x4096x8192, .bf16⟩
  | .hbm, ⟨2, _⟩ => ⟨S4x4096x2048, .bf16⟩
  | .local _ .vmem, ⟨0, _⟩ => ⟨S1x1024x512, .f32⟩
  | .local _ .vmem, ⟨1, _⟩ => ⟨S1x1024x512, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S4x4096x2048 : Shape := ⟨3, ![4, 4096, 2048]⟩
abbrev S4x4096x8192 : Shape := ⟨3, ![4, 4096, 8192]⟩
abbrev S4x4096x4x512 : Shape := ⟨4, ![4, 4096, 4, 512]⟩
abbrev S_ : Shape := ⟨0, ![]⟩
abbrev S4x4096x4 : Shape := ⟨3, ![4, 4096, 4]⟩
abbrev S4x4096x4x1 : Shape := ⟨4, ![4, 4096, 4, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x8192, .bf16⟩
  | .hbm, ⟨2, _⟩ => ⟨S4x4096x8192, .f32⟩
  | .hbm, ⟨3, _⟩ => ⟨S4x4096x2048, .f32⟩
  | .hbm, ⟨4, _⟩ => ⟨S4x4096x4x512, .f32⟩
  | .hbm, ⟨5, _⟩ => ⟨S4x4096x4x512, .f32⟩
  | .hbm, ⟨6, _⟩ => ⟨S_, .f32⟩
  | .hbm, ⟨7, _⟩ => ⟨S4x4096x4, .f32⟩
  | .hbm, ⟨8, _⟩ => ⟨S4x4096x4x1, .f32⟩
  | .hbm, ⟨9, _⟩ => ⟨S_, .f32⟩
  | .hbm, ⟨10, _⟩ => ⟨S4x4096x4x1, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S4x4096x4x1, .f32⟩
  | .hbm, ⟨16, _⟩ => ⟨S4x4096x4x512, .f32⟩
  | .hbm, ⟨17, _⟩ => ⟨S4x4096x4x512, .f32⟩
  | .hbm, ⟨18, _⟩ => ⟨S4x4096x4x512, .f32⟩
  | .hbm, ⟨19, _⟩ => ⟨S4x4096x4x512, .f32⟩
  | .hbm, ⟨20, _⟩ => ⟨S4x4096x4x512, .f32⟩
  | .hbm, ⟨21, _⟩ => ⟨S_, .f32⟩
  | .hbm, ⟨22, _⟩ => ⟨S4x4096x4x512, .f32⟩
  | .hbm, ⟨23, _⟩ => ⟨S4x4096x4x512, .f32⟩
  | .hbm, ⟨24, _⟩ => ⟨S_, .f32⟩
  | .hbm, ⟨25, _⟩ => ⟨S4x4096x4x512, .f32⟩
  | .hbm, ⟨26, _⟩ => ⟨S4x4096x4x512, .f32⟩
  | .hbm, ⟨27, _⟩ => ⟨S4x4096x4x512, .f32⟩
  | .hbm, ⟨28, _⟩ => ⟨S4x4096x4x512, .f32⟩
  | .hbm, ⟨29, _⟩ => ⟨S4x4096x2048, .f32⟩
  | .hbm, ⟨30, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048 : Shape := ⟨1, ![2048]⟩
abbrev S4x1x2048 : Shape := ⟨3, ![4, 1, 2048]⟩
abbrev S2048x5152 : Shape := ⟨2, ![2048, 5152]⟩
abbrev S2048x5120 : Shape := ⟨2, ![2048, 5120]⟩
abbrev S2048x32 : Shape := ⟨2, ![2048, 32]⟩
abbrev S_ : Shape := ⟨0, ![]⟩
abbrev S2048x128 : Shape := ⟨2, ![2048, 128]⟩
abbrev S1x2048 : Shape := ⟨2, ![1, 2048]⟩
abbrev S4x4096x5120 : Shape := ⟨3, ![4, 4096, 5120]⟩
abbrev S4x4096x128 : Shape := ⟨3, ![4, 4096, 128]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1x1024x128 : Shape := ⟨3, ![1, 1024, 128]⟩
abbrev S1024x2048 : Shape := ⟨2, ![1024, 2048]⟩
abbrev S1024 : Shape := ⟨1, ![1024]⟩
abbrev S1024x1 : Shape := ⟨2, ![1024, 1]⟩
abbrev S1024x128 : Shape := ⟨2, ![1024, 128]⟩
abbrev S1024x512 : Shape := ⟨2, ![1024, 512]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x5152, .f32⟩
  | .hbm, ⟨5, _⟩ => ⟨S2048x5120, .f32⟩
  | .hbm, ⟨6, _⟩ => ⟨S2048x5120, .bf16⟩
  | .hbm, ⟨7, _⟩ => ⟨S2048x32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S1x2048, .f32⟩
  | .hbm, ⟨13, _⟩ => ⟨S4x4096x5120, .bf16⟩
  | .hbm, ⟨14, _⟩ => ⟨S4x4096x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x128, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference6Ideal.lean ====
abbrev S4x4096x2048 : Shape := ⟨3, ![4, 4096, 2048]⟩
abbrev S2048 : Shape := ⟨1, ![2048]⟩
abbrev S4x1x2048 : Shape := ⟨3, ![4, 1, 2048]⟩
abbrev S2048x5152 : Shape := ⟨2, ![2048, 5152]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5152 : Shape := ⟨3, ![4, 4096, 5152]⟩
abbrev S4x4096x5120 : Shape := ⟨3, ![4, 4096, 5120]⟩
abbrev S4x4096x32 : Shape := ⟨3, ![4, 4096, 32]⟩
abbrev S4x4096x128 : Shape := ⟨3, ![4, 4096, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x5152, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x5152, .f32⟩
  | .hbm, ⟨29, _⟩ => ⟨S4x4096x5120, .f32⟩
  | .hbm, ⟨30, _⟩ => ⟨S4x4096x5120, .bf16⟩
  | .hbm, ⟨31, _⟩ => ⟨S4x4096x32, .f32⟩
  | .hbm, ⟨32, _⟩ => ⟨S_, .i32⟩
  | .hbm, ⟨33, _⟩ => ⟨S_, .f32⟩
  | .hbm, ⟨34, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Ret.KRun.lean ====
/- The body's run over any arithmetic: it ends, giving back every block and buffer it was handed. -/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, owning its nine input blocks, its output block and its scratch buffers, ends owning the same inputs, and
the output block and the scratch buffers at some contents. -/
theorem bodyRun (c : Dev nD) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)
    (x0 : Vec F S2x1x1x128 .f32) (x1 : Vec F S1x4096x256 .bf16) (x2 : Vec F S1x4096x256 .bf16) (x3 : Vec F S1x4096x512 .bf16) (x4 : Vec F S1x256x256 .bf16) (x5 : Vec F S1x256x256 .bf16) (x6 : Vec F S1x256x512 .bf16) (x7 : Vec F S4096x128 .f32) (x8 : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  · simp only [cc0_retention_eq_skeleton]; unfold cc0_retention_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Ret.KFrame.lean ====
/- The frame of the kernel over any arithmetic: every weakly fair execution ends, with the arguments unchanged and
every semaphore at zero.  What the output block holds is not recorded: nothing here reads it. -/
module

public import proofs.«01_k».proof.Proof.Ret.KRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents are not recorded: the output. -/
def fgt (w : Fin cfg0.W) : Bool := match w with
  | ⟨9, _⟩ => true
  | _ => false

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (bodyRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding
-- plain definitions in a metavariable's type
set_option backward.isDefEq.respectTransparency.types false in
/-- The launch: every input array and every buffer outside the pipeline ends as the region found it, every counter at zero. -/
theorem run_main_quiescent : θ_run defs (onTc (τ := τ) (main (F := F))) (s₀ m ρ) (fun r =>
    (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- Every weakly fair execution of @main on the TensorCores ends, with the argument arrays unchanged and every semaphore
counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => by
    obtain ⟨h, hs⟩ := hr
    refine ⟨fun c => ⟨?_, ?_, ?_, ?_, ?_⟩, hs⟩
    · exact (h.arr_in c 3 rfl).trans ((A_eq m c 3).trans (V_main_arg0 m c))
    · exact (h.arr_in c 6 rfl).trans ((A_eq m c 6).trans (V_main_arg1 m c))
    · exact ((h c).2 main_arg2 (Pipeline.mem_restRefs_of main_arg2 (by decide) (by decide))).trans (V_main_arg2 m c)
    · exact (h.arr_in c 7 rfl).trans ((A_eq m c 7).trans (V_main_arg3 m c))
    · exact (h.arr_in c 8 rfl).trans ((A_eq m c 8).trans (V_main_arg4 m c))) (run_main_quiescent m ρ)

end Cert.Kernel.Gen

end
-- ==== Proof.Ret.Spec.lean ====
/- The retention of one head of one batch entry as a recurrence over chunks of 128 tokens, in both directions, over the
   extended reals: the state before each chunk, and what a chunk's tokens read out of it and of one another. Both the
   kernel and the reference are shown to compute these functions. -/
module

public import Idealize.ShloMosaic.Lib.Pointwise

@[expose] public section

noncomputable section

namespace Cert.Ret

open Idealize.ShloMosaic

/-- The chunk that direction `d` visits at step `n`: direction 0 takes the 34 chunks in order; direction 1 takes the two
    context chunks backwards and then the 32 latent chunks backwards. -/
def ch (d : Fin 2) (n : ℕ) : ℕ := if d = 0 then n else if n < 2 then 1 - n else 35 - n

/-- What the recurrence reads: queries and keys and values by chunk, token and feature, and the decays by direction. -/
structure Args where
  /-- queries -/
  Q : ℕ → Fin 128 → Fin 256 → EReal
  /-- keys, scaled -/
  K : ℕ → Fin 128 → Fin 256 → EReal
  /-- values -/
  V : ℕ → Fin 128 → Fin 512 → EReal
  /-- the decay between two tokens of a chunk -/
  dec : Fin 2 → Fin 128 → Fin 128 → EReal
  /-- the decay from the chunk's start to a token -/
  xi : Fin 2 → Fin 128 → EReal
  /-- the decay from a token to the chunk's end -/
  ze : Fin 2 → Fin 128 → EReal
  /-- the decay over a whole chunk -/
  g : Fin 2 → EReal

variable (A : Args)

/-- The state of direction `d` before step `n`. -/
def St (d : Fin 2) : ℕ → Fin 256 → Fin 512 → EReal
  | 0, _, _ => 0
  | n + 1, a, b => St d n a b * A.g d + ∑ c, A.K (ch d n) c a * (A.V (ch d n) c b * A.ze d c)

/-- What token `i` of the chunk visited at step `n` gets in direction `d`. -/
def Out (d : Fin 2) (n : ℕ) (i : Fin 128) (b : Fin 512) : EReal :=
  (∑ j, (∑ a, A.Q (ch d n) i a * A.K (ch d n) j a) * A.dec d i j * A.V (ch d n) j b)
    + A.xi d i * ∑ a, A.Q (ch d n) i a * St A d n a b

/-- What latent token `t` of chunk `n` gets from both directions together. -/
def Both (n : ℕ) (t : Fin 128) (b : Fin 512) : EReal := Out A 0 (n + 2) t b + Out A 1 (33 - n) t b

/-- An integer as an extended real. -/
def fl (n : ℤ) : EReal := ((n : ℝ) : EReal)

/-- The place of token `i` of a chunk in the order in which direction `d` takes the chunk's tokens. -/
def pos (d : Fin 2) (i : Fin 128) : ℤ := if d = 0 then (i.val : ℤ) else 127 - (i.val : ℤ)

/-- The logarithm of a direction's decay per token, from its parameter. -/
def lgOf (θ : EReal) : EReal := 0 - Ideal.exp θ

/-- The decay from token `j` of a chunk to token `i`; zero unless `j` comes no later. -/
def decOf (θ : Fin 2 → EReal) (d : Fin 2) (i j : Fin 128) : EReal :=
  if pos d j ≤ pos d i then Ideal.exp (fl (pos d i - pos d j) * lgOf (θ d)) else 0

/-- The decay from the chunk's start to token `i`. -/
def xiOf (θ : Fin 2 → EReal) (d : Fin 2) (i : Fin 128) : EReal := Ideal.exp ((fl (pos d i) + 1) * lgOf (θ d))

/-- The decay from token `i` to the chunk's end (the constant is 127). -/
def zeOf (θ : Fin 2 → EReal) (d : Fin 2) (i : Fin 128) : EReal :=
  Ideal.exp ((Ideal.ofBits .f32 0x42FE0000#32 - fl (pos d i)) * lgOf (θ d))

/-- The decay over a whole chunk (the constant is 128). -/
def gOf (θ : Fin 2 → EReal) (d : Fin 2) : EReal := Ideal.exp (Ideal.ofBits .f32 0x43000000#32 * lgOf (θ d))

/-- A vector of 256 features, its two halves rotated by the angles whose cosines and sines are given. -/
def rope (x : Fin 256 → EReal) (c s : Fin 128 → EReal) (a : Fin 256) : EReal :=
  if h : a.val < 128 then x ⟨a.val, by omega⟩ * c ⟨a.val, h⟩ - x ⟨128 + a.val, by omega⟩ * s ⟨a.val, h⟩
  else x ⟨a.val - 128, by omega⟩ * s ⟨a.val - 128, by omega⟩ + x ⟨128 + (a.val - 128), by omega⟩ * c ⟨a.val - 128, by omega⟩

/-- An element read through a unit-stride rectangle is the buffer's element at the offsets plus the position. -/
theorem readAt_unit {sig : RefSig} {κ : Kind} {sp : Space} {s : Shape} {e : EltTy} {Val : EltTy → Type}
    (v : View sig κ sp s e) (f : v.ty.Contents Val) {off off' size : Fin s.rank → ℕ}
    (inb : ∀ a, off a + size a ≤ s.size a) (heq : off = off') (x : (Rect.unit off size inb).shape.Idx) (y : s.Idx)
    (hy : ∀ a, (y a).val = off' a + (x a).val) :
    v.readAt Val (Rect.unit off size inb).toLoadRect f x = v.read Val f y := by
  subst heq
  show v.read Val f ((Rect.unit off size inb).toLoadRect.idx x) = v.read Val f y
  congr 1
  funext a
  apply Fin.ext
  rw [hy a]
  show off a + 1 * (x a).val = _
  rw [Nat.one_mul]

end Cert.Ret

end
-- ==== Proof.Ret.Reads.lean ====
/- What each of the kernel's loads reads, element by element. -/
module

public import proofs.«01_k».proof.KernelIdeal
public import proofs.«01_k».proof.Proof.Ret.Spec

@[expose] public section

set_option maxRecDepth 16384

noncomputable section

namespace Cert.Ret

open Cert.KernelIdeal Idealize.ShloMosaic

/-- A load of 128 rows of the rotated queries. -/
theorem rd_q {κ : Kind} {sp : Space} {e : EltTy} (v : View sig κ sp S4352x256 e) (f : v.ty.Contents (Elt Ideal)) (o : ℕ) (ho : o + 128 ≤ 4352)
    {off : Fin 2 → ℕ} (inb : ∀ a : Fin 2, off a + S128x256.size a ≤ S4352x256.size a) (heq : off = ![o, 0]) (x : Fin 128) (y : Fin 256) :
    v.readAt (Elt Ideal) (Rect.unit (s := S4352x256) off S128x256.size inb).toLoadRect f (ix2 x y)
      = v.read (Elt Ideal) f (ix2 ⟨o + x.val, by omega⟩ y) :=
  readAt_unit v f inb heq _ _ (by intro a; fin_cases a <;> simp [ix2])

/-- A load of one chunk of the transposed keys. -/
theorem rd_k {κ : Kind} {sp : Space} {e : EltTy} (v : View sig κ sp S34x256x128 e) (f : v.ty.Contents (Elt Ideal)) (n : ℕ) (hn : n + 1 ≤ 34)
    {off : Fin 3 → ℕ} (inb : ∀ a : Fin 3, off a + S1x256x128.size a ≤ S34x256x128.size a) (heq : off = ![n, 0, 0]) (y : Fin 256) (z : Fin 128) :
    v.readAt (Elt Ideal) (Rect.unit (s := S34x256x128) off S1x256x128.size inb).toLoadRect f (ix3 0 y z)
      = v.read (Elt Ideal) f (ix3 ⟨n, by omega⟩ y z) :=
  readAt_unit v f inb heq _ _ (by intro a; fin_cases a <;> simp [ix3])

/-- A load of one direction's state. -/
theorem rd_s {κ : Kind} {sp : Space} {e : EltTy} (v : View sig κ sp S2x256x512 e) (f : v.ty.Contents (Elt Ideal)) (d : ℕ) (hd : d + 1 ≤ 2)
    {off : Fin 3 → ℕ} (inb : ∀ a : Fin 3, off a + S1x256x512.size a ≤ S2x256x512.size a) (heq : off = ![d, 0, 0]) (y : Fin 256) (z : Fin 512) :
    v.readAt (Elt Ideal) (Rect.unit (s := S2x256x512) off S1x256x512.size inb).toLoadRect f (ix3 0 y z)
      = v.read (Elt Ideal) f (ix3 ⟨d, by omega⟩ y z) :=
  readAt_unit v f inb heq _ _ (by intro a; fin_cases a <;> simp [ix3])

/-- A load of 128 rows of a latent block 512 wide. -/
theorem rd_v {κ : Kind} {sp : Space} {e : EltTy} (v : View sig κ sp S1x4096x512 e) (f : v.ty.Contents (Elt Ideal)) (o : ℕ) (ho : o + 128 ≤ 4096)
    {off : Fin 3 → ℕ} (inb : ∀ a : Fin 3, off a + S1x128x512.size a ≤ S1x4096x512.size a) (heq : off = ![0, o, 0]) (y : Fin 128) (z : Fin 512) :
    v.readAt (Elt Ideal) (Rect.unit (s := S1x4096x512) off S1x128x512.size inb).toLoadRect f (ix3 0 y z)
      = v.read (Elt Ideal) f (ix3 0 ⟨o + y.val, by omega⟩ z) :=
  readAt_unit v f inb heq _ _ (by intro a; fin_cases a <;> simp [ix3])

/-- A load of 128 rows of a context block 512 wide. -/
theorem rd_vc {κ : Kind} {sp : Space} {e : EltTy} (v : View sig κ sp S1x256x512 e) (f : v.ty.Contents (Elt Ideal)) (o : ℕ) (ho : o + 128 ≤ 256)
    {off : Fin 3 → ℕ} (inb : ∀ a : Fin 3, off a + S1x128x512.size a ≤ S1x256x512.size a) (heq : off = ![0, o, 0]) (y : Fin 128) (z : Fin 512) :
    v.readAt (Elt Ideal) (Rect.unit (s := S1x256x512) off S1x128x512.size inb).toLoadRect f (ix3 0 y z)
      = v.read (Elt Ideal) f (ix3 0 ⟨o + y.val, by omega⟩ z) :=
  readAt_unit v f inb heq _ _ (by intro a; fin_cases a <;> simp [ix3])

/-- A load of 128 rows of a latent block 256 wide. -/
theorem rd_x {κ : Kind} {sp : Space} {e : EltTy} (v : View sig κ sp S1x4096x256 e) (f : v.ty.Contents (Elt Ideal)) (o : ℕ) (ho : o + 128 ≤ 4096)
    {off : Fin 3 → ℕ} (inb : ∀ a : Fin 3, off a + S1x128x256.size a ≤ S1x4096x256.size a) (heq : off = ![0, o, 0]) (y : Fin 128) (z : Fin 256) :
    v.readAt (Elt Ideal) (Rect.unit (s := S1x4096x256) off S1x128x256.size inb).toLoadRect f (ix3 0 y z)
      = v.read (Elt Ideal) f (ix3 0 ⟨o + y.val, by omega⟩ z) :=
  readAt_unit v f inb heq _ _ (by intro a; fin_cases a <;> simp [ix3])

/-- A load of 128 rows of a context block 256 wide. -/
theorem rd_xc {κ : Kind} {sp : Space} {e : EltTy} (v : View sig κ sp S1x256x256 e) (f : v.ty.Contents (Elt Ideal)) (o : ℕ) (ho : o + 128 ≤ 256)
    {off : Fin 3 → ℕ} (inb : ∀ a : Fin 3, off a + S1x128x256.size a ≤ S1x256x256.size a) (heq : off = ![0, o, 0]) (y : Fin 128) (z : Fin 256) :
    v.readAt (Elt Ideal) (Rect.unit (s := S1x256x256) off S1x128x256.size inb).toLoadRect f (ix3 0 y z)
      = v.read (Elt Ideal) f (ix3 0 ⟨o + y.val, by omega⟩ z) :=
  readAt_unit v f inb heq _ _ (by intro a; fin_cases a <;> simp [ix3])

/-- A load of 128 rows of an angle table. -/
theorem rd_t {κ : Kind} {sp : Space} {e : EltTy} (v : View sig κ sp S4096x128 e) (f : v.ty.Contents (Elt Ideal)) (o : ℕ) (ho : o + 128 ≤ 4096)
    {off : Fin 2 → ℕ} (inb : ∀ a : Fin 2, off a + S128x128.size a ≤ S4096x128.size a) (heq : off = ![o, 0]) (x : Fin 128) (y : Fin 128) :
    v.readAt (Elt Ideal) (Rect.unit (s := S4096x128) off S128x128.size inb).toLoadRect f (ix2 x y)
      = v.read (Elt Ideal) f (ix2 ⟨o + x.val, by omega⟩ y) :=
  readAt_unit v f inb heq _ _ (by intro a; fin_cases a <;> simp [ix2])

/-- A load of one direction's decays between tokens. -/
theorem rd_d {κ : Kind} {sp : Space} {e : EltTy} (v : View sig κ sp S2x128x128 e) (f : v.ty.Contents (Elt Ideal)) (d : ℕ) (hd : d + 1 ≤ 2)
    {off : Fin 3 → ℕ} (inb : ∀ a : Fin 3, off a + S1x128x128.size a ≤ S2x128x128.size a) (heq : off = ![d, 0, 0]) (y : Fin 128) (z : Fin 128) :
    v.readAt (Elt Ideal) (Rect.unit (s := S2x128x128) off S1x128x128.size inb).toLoadRect f (ix3 0 y z)
      = v.read (Elt Ideal) f (ix3 ⟨d, by omega⟩ y z) :=
  readAt_unit v f inb heq _ _ (by intro a; fin_cases a <;> simp [ix3])

/-- A load of one direction's decays to a chunk's edge. -/
theorem rd_xz {κ : Kind} {sp : Space} {e : EltTy} (v : View sig κ sp S2x2x128x512 e) (f : v.ty.Contents (Elt Ideal)) (d p : ℕ) (hd : d + 1 ≤ 2) (hp : p + 1 ≤ 2)
    {off : Fin 4 → ℕ} (inb : ∀ a : Fin 4, off a + S1x1x128x512.size a ≤ S2x2x128x512.size a) (heq : off = ![d, p, 0, 0]) (z : Fin 128) (w : Fin 512) :
    v.readAt (Elt Ideal) (Rect.unit (s := S2x2x128x512) off S1x1x128x512.size inb).toLoadRect f (ix4 0 0 z w)
      = v.read (Elt Ideal) f (ix4 ⟨d, by omega⟩ ⟨p, by omega⟩ z w) :=
  readAt_unit v f inb heq _ _ (by intro a; fin_cases a <;> simp [ix4])

/-- A load of one direction's decay exponents. -/
theorem rd_th {κ : Kind} {sp : Space} {e : EltTy} (v : View sig κ sp S2x1x1x128 e) (f : v.ty.Contents (Elt Ideal)) (d : ℕ) (hd : d + 1 ≤ 2)
    {off : Fin 4 → ℕ} (inb : ∀ a : Fin 4, off a + S1x1x1x128.size a ≤ S2x1x1x128.size a) (heq : off = ![d, 0, 0, 0]) (w : Fin 128) :
    v.readAt (Elt Ideal) (Rect.unit (s := S2x1x1x128) off S1x1x1x128.size inb).toLoadRect f (ix4 0 0 0 w)
      = v.read (Elt Ideal) f (ix4 ⟨d, by omega⟩ 0 0 w) :=
  readAt_unit v f inb heq _ _ (by intro a; fin_cases a <;> simp [ix4])

end Cert.Ret

end
-- ==== Proof.Ret.Trip1.lean ====
/- The loop that copies the two context chunks of the queries and of the keys. -/
module

public import proofs.«01_k».proof.Proof.Gen.KernelIdeal.Loops
public import proofs.«01_k».proof.Proof.Ret.Reads
public import Idealize.ShloMosaic.Lib.WritesUnit

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (X6 : BufTy.Contents (Elt Ideal) arg6.view.ty) (X7 : BufTy.Contents (Elt Ideal) arg7.view.ty)

/-- One trip writes chunk `k + 0` of the queries and of the keys, and nothing else. -/
theorem t1_step (k : Fin k0_t1_loop.trips)
    (h6 : ∀ (n : ℕ) (hn : n < 2) (t : Fin 128) a, arg6.view.read (Elt Ideal) X6 (ix3 0 ⟨128 * n + t.val, by omega⟩ a) = A.Q n t a)
    (h7 : ∀ (n : ℕ) (hn : n < 2) (t : Fin 128) a, arg7.view.read (Elt Ideal) X7 (ix3 0 ⟨128 * n + t.val, by omega⟩ a)
      * Ideal.ofBits .f32 0x3D800000#32 = A.K n t a)
    (f : BufTy.Contents (Elt Ideal) arg12.view.ty) (s : BufTy.Contents (Elt Ideal) arg13.view.ty) (n : ℕ) (hn : n < 34) (t : Fin 128) (a : Fin 256) :
    arg12.view.read (Elt Ideal) (arg12.view.writes (Elt Ideal) f ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).1))
        (ix2 ⟨128 * n + t.val, by omega⟩ a) = (if n = k.val + 0 then A.Q n t a else arg12.view.read (Elt Ideal) f (ix2 ⟨128 * n + t.val, by omega⟩ a))
    ∧ arg13.view.read (Elt Ideal) (arg13.view.writes (Elt Ideal) s ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).2.1))
        (ix3 ⟨n, hn⟩ a t) = (if n = k.val + 0 then A.K n t a else arg13.view.read (Elt Ideal) s (ix3 ⟨n, hn⟩ a t)) := by
  have hk : k.val < 2 := Nat.lt_of_lt_of_le k.isLt k0_t1_abs.2.1
  unfold trip_k0_t1
  by_cases h : n = k.val + 0
  · subst h
    rw [if_pos rfl, if_pos rfl]
    constructor
    · refine (View.read_writes_cons_unit_of_mem _ _ _ _ _ _ (ix2 t a) (k0_off2_eq k) (by intro a; fin_cases a <;> simp [ix2] <;> omega)).trans ?_
      unfold_payloads
      pointwise
      simp only [rd_xc arg6.view X6 (128 * k.val) (by omega) _ (k0_off1_eq k)]
      exact h6 k.val hk t a
    · refine (View.read_writes_cons_unit_of_mem _ _ _ _ _ _ (ix3 0 a t) (k0_off3_eq k) (by intro a; fin_cases a <;> simp [ix3])).trans ?_
      unfold_payloads
      pointwise
      simp only [rd_xc arg7.view X7 (128 * k.val) (by omega) _ (k0_off1_eq k)]
      exact h7 k.val hk t a
  · rw [if_neg h, if_neg h]
    constructor
    · refine (View.read_writes_cons_unit_of_not_mem _ _ _ _ _ _ (k0_off2_eq k) (0 : Fin 2) (by simp [ix2]; omega)).trans ?_
      rfl
    · refine (View.read_writes_cons_unit_of_not_mem _ _ _ _ _ _ (k0_off3_eq k) (0 : Fin 3) (by simp [ix3]; omega)).trans ?_
      rfl

/-- After `k` trips the chunks `0, …, 0 + k - 1` hold the queries and the keys, the others what they held. -/
theorem t1_loop
    (h6 : ∀ (n : ℕ) (hn : n < 2) (t : Fin 128) a, arg6.view.read (Elt Ideal) X6 (ix3 0 ⟨128 * n + t.val, by omega⟩ a) = A.Q n t a)
    (h7 : ∀ (n : ℕ) (hn : n < 2) (t : Fin 128) a, arg7.view.read (Elt Ideal) X7 (ix3 0 ⟨128 * n + t.val, by omega⟩ a)
      * Ideal.ofBits .f32 0x3D800000#32 = A.K n t a)
    (f : BufTy.Contents (Elt Ideal) arg12.view.ty) (s : BufTy.Contents (Elt Ideal) arg13.view.ty) :
    ∀ k : ℕ, k ≤ k0_t1_loop.trips → ∀ (n : ℕ) (hn : n < 34) (t : Fin 128) (a : Fin 256),
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).1)
        (ix2 ⟨128 * n + t.val, by omega⟩ a) = (if 0 ≤ n ∧ n < k + 0 then A.Q n t a else arg12.view.read (Elt Ideal) f (ix2 ⟨128 * n + t.val, by omega⟩ a))
    ∧ arg13.view.read (Elt Ideal) (arg13.view.writes (Elt Ideal) s (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).2)
        (ix3 ⟨n, hn⟩ a t) = (if 0 ≤ n ∧ n < k + 0 then A.K n t a else arg13.view.read (Elt Ideal) s (ix3 ⟨n, hn⟩ a t))
  | 0, _ => fun n hn t a => by rw [if_neg (by omega), if_neg (by omega)]; exact ⟨rfl, rfl⟩
  | k + 1, hk => fun n hn t a => by
    have ih := t1_loop h6 h7 f s k (by omega) n hn t a
    have st := t1_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X6 X7 ⟨k, hk⟩ h6 h7
      (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).1)
      (arg13.view.writes (Elt Ideal) s (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k).2) n hn t a
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 ⟨k, hk⟩, View.writes_append, View.writes_append]
    refine ⟨st.1.trans ?_, st.2.trans ?_⟩
    · rw [ih.1]; dsimp only; split_ifs <;> first | omega | rfl
    · rw [ih.2]; dsimp only; split_ifs <;> first | omega | rfl

end Cert.Ret

end
-- ==== Proof.Ret.Trip2.lean ====
/- The loop that rotates the 32 latent chunks of the queries and of the keys by their positions. -/
module

public import proofs.«01_k».proof.Proof.Gen.KernelIdeal.Loops
public import proofs.«01_k».proof.Proof.Ret.Reads
public import Idealize.ShloMosaic.Lib.WritesUnit

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty)

/-- One trip writes chunk `k + 2` of the queries and of the keys, and nothing else. -/
theorem t2_step (k : Fin k0_t2_loop.trips)
    (h3 : ∀ (n : ℕ) (hn : n < 32) (t : Fin 128) a, rope (fun y => arg3.view.read (Elt Ideal) X3 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a = A.Q (n + 2) t a)
    (h4 : ∀ (n : ℕ) (hn : n < 32) (t : Fin 128) a, rope (fun y => arg4.view.read (Elt Ideal) X4 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a
      * Ideal.ofBits .f32 0x3D800000#32 = A.K (n + 2) t a)
    (f : BufTy.Contents (Elt Ideal) arg12.view.ty) (s : BufTy.Contents (Elt Ideal) arg13.view.ty) (n : ℕ) (hn : n < 34) (t : Fin 128) (a : Fin 256) :
    arg12.view.read (Elt Ideal) (arg12.view.writes (Elt Ideal) f ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).1))
        (ix2 ⟨128 * n + t.val, by omega⟩ a) = (if n = k.val + 2 then A.Q n t a else arg12.view.read (Elt Ideal) f (ix2 ⟨128 * n + t.val, by omega⟩ a))
    ∧ arg13.view.read (Elt Ideal) (arg13.view.writes (Elt Ideal) s ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).2.1))
        (ix3 ⟨n, hn⟩ a t) = (if n = k.val + 2 then A.K n t a else arg13.view.read (Elt Ideal) s (ix3 ⟨n, hn⟩ a t)) := by
  have hk : k.val < 32 := Nat.lt_of_lt_of_le k.isLt k0_t2_abs.2.1
  unfold trip_k0_t2
  by_cases h : n = k.val + 2
  · subst h
    rw [if_pos rfl, if_pos rfl]
    constructor
    · refine (View.read_writes_cons_unit_of_mem _ _ _ _ _ _ (ix2 t a) (k0_off6_eq k) (by intro a; fin_cases a <;> simp [ix2] <;> omega)).trans ?_
      unfold_payloads
      pointwise
      simp only [rd_x arg3.view X3 (128 * k.val) (by omega) _ (k0_off5_eq k),
        rd_t arg9.view X9 (128 * k.val) (by omega) _ (k0_off4_eq k), rd_t arg10.view X10 (128 * k.val) (by omega) _ (k0_off4_eq k)]
      exact h3 k.val hk t a
    · refine (View.read_writes_cons_unit_of_mem _ _ _ _ _ _ (ix3 0 a t) (k0_off7_eq k) (by intro a; fin_cases a <;> simp [ix3])).trans ?_
      unfold trip_k0_t2.sl.r
      unfold_payloads
      pointwise
      simp only [rd_x arg4.view X4 (128 * k.val) (by omega) _ (k0_off5_eq k),
        rd_t arg9.view X9 (128 * k.val) (by omega) _ (k0_off4_eq k), rd_t arg10.view X10 (128 * k.val) (by omega) _ (k0_off4_eq k)]
      exact h4 k.val hk t a
  · rw [if_neg h, if_neg h]
    constructor
    · refine (View.read_writes_cons_unit_of_not_mem _ _ _ _ _ _ (k0_off6_eq k) (0 : Fin 2) (by simp [ix2]; omega)).trans ?_
      rfl
    · refine (View.read_writes_cons_unit_of_not_mem _ _ _ _ _ _ (k0_off7_eq k) (0 : Fin 3) (by simp [ix3]; omega)).trans ?_
      rfl

/-- After `k` trips the chunks `2, …, 2 + k - 1` hold the queries and the keys, the others what they held. -/
theorem t2_loop
    (h3 : ∀ (n : ℕ) (hn : n < 32) (t : Fin 128) a, rope (fun y => arg3.view.read (Elt Ideal) X3 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a = A.Q (n + 2) t a)
    (h4 : ∀ (n : ℕ) (hn : n < 32) (t : Fin 128) a, rope (fun y => arg4.view.read (Elt Ideal) X4 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a
      * Ideal.ofBits .f32 0x3D800000#32 = A.K (n + 2) t a)
    (f : BufTy.Contents (Elt Ideal) arg12.view.ty) (s : BufTy.Contents (Elt Ideal) arg13.view.ty) :
    ∀ k : ℕ, k ≤ k0_t2_loop.trips → ∀ (n : ℕ) (hn : n < 34) (t : Fin 128) (a : Fin 256),
    arg12.view.read (Elt Ideal) (arg12.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).1)
        (ix2 ⟨128 * n + t.val, by omega⟩ a) = (if 2 ≤ n ∧ n < k + 2 then A.Q n t a else arg12.view.read (Elt Ideal) f (ix2 ⟨128 * n + t.val, by omega⟩ a))
    ∧ arg13.view.read (Elt Ideal) (arg13.view.writes (Elt Ideal) s (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).2)
        (ix3 ⟨n, hn⟩ a t) = (if 2 ≤ n ∧ n < k + 2 then A.K n t a else arg13.view.read (Elt Ideal) s (ix3 ⟨n, hn⟩ a t))
  | 0, _ => fun n hn t a => by rw [if_neg (by omega), if_neg (by omega)]; exact ⟨rfl, rfl⟩
  | k + 1, hk => fun n hn t a => by
    have ih := t2_loop h3 h4 f s k (by omega) n hn t a
    have st := t2_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X3 X4 X9 X10 ⟨k, hk⟩ h3 h4
      (arg12.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).1)
      (arg13.view.writes (Elt Ideal) s (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k).2) n hn t a
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 ⟨k, hk⟩, View.writes_append, View.writes_append]
    refine ⟨st.1.trans ?_, st.2.trans ?_⟩
    · rw [ih.1]; dsimp only; split_ifs <;> first | omega | rfl
    · rw [ih.2]; dsimp only; split_ifs <;> first | omega | rfl

end Cert.Ret

end
-- ==== Proof.Ret.Trip3.lean ====
/- The loop over the two context chunks: what it leaves in the state buffer is the state before step 2. -/
module

public import proofs.«01_k».proof.Proof.Gen.KernelIdeal.Loops
public import proofs.«01_k».proof.Proof.Ret.Reads
public import Idealize.ShloMosaic.Lib.WritesUnit

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (v42 v48 : FVec Ideal S1x1 .f32)
  (X8 : BufTy.Contents (Elt Ideal) arg8.view.ty) (X13 : BufTy.Contents (Elt Ideal) arg13.view.ty)
  (X16 : BufTy.Contents (Elt Ideal) arg16.view.ty)

/-- One trip over a context chunk takes the state before step `k` to the state before step `k + 1`, in both
    directions. -/
theorem t3_step (k : Fin k0_t3_loop.trips)
    (h8 : ∀ (n : ℕ) (hn : n < 2) (t : Fin 128) b, arg8.view.read (Elt Ideal) X8 (ix3 0 ⟨128 * n + t.val, by omega⟩ b) = A.V n t b)
    (h13 : ∀ (n : ℕ) (hn : n < 34) a t, arg13.view.read (Elt Ideal) X13 (ix3 ⟨n, hn⟩ a t) = A.K n t a)
    (h16 : ∀ d t b, arg16.view.read (Elt Ideal) X16 (ix4 d 1 t b) = A.ze d t)
    (hg0 : v42 (ix2 0 0) = A.g 0) (hg1 : Ideal.exp (Ideal.ofBits FTy.f32 1124073472#32 * v48 (ix2 0 0)) = A.g 1)
    (f : BufTy.Contents (Elt Ideal) arg14.view.ty)
    (hf : ∀ d a b, arg14.view.read (Elt Ideal) f (ix3 d a b) = St A d k.val a b) (d : Fin 2) (a : Fin 256) (b : Fin 512) :
    arg14.view.read (Elt Ideal) (arg14.view.writes (Elt Ideal) f
      ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 X13 X16 k).1 f)) (ix3 d a b) = St A d (k.val + 1) a b := by
  have hk : k.val < 2 := Nat.lt_of_lt_of_le k.isLt k0_t3_abs.2.1
  unfold trip_k0_t3
  fin_cases d
  · refine (View.read_writes_cons_unit_of_not_mem _ _ _ _ _ _ rfl (0 : Fin 3) (by simp [ix3])).trans ?_
    refine (View.read_writes_cons_unit_of_mem _ _ _ _ _ _ (ix3 0 a b) rfl (by intro a; fin_cases a <;> simp [ix3])).trans ?_
    unfold_payloads
    pointwise
    simp only [rd_k arg13.view X13 k.val (by omega) _ (k0_off8_eq k),
      rd_vc arg8.view X8 (128 * k.val) (by omega) _ (k0_off9_eq k),
      rd_s arg14.view f 0 (by omega) _ rfl, rd_xz arg16.view X16 0 1 (by omega) (by omega) _ rfl]
    simp only [hf, h13, h8 _ hk]
    rw [hg0]
    exact congrArg _ (Finset.sum_congr rfl fun x _ => congrArg _ (congrArg _ (h16 0 x b)))
  · refine (View.read_writes_cons_unit_of_mem _ _ _ _ _ _ (ix3 0 a b) rfl (by intro a; fin_cases a <;> simp [ix3])).trans ?_
    simp only [trip_k0_t3.sl.r, trip_k0_t3.sl.r_1, trip_k0_t3.sl.v127]
    unfold_payloads
    pointwise
    simp only [rd_k arg13.view X13 (1 - k.val) (by omega) _ (k0_off10_eq k),
      rd_vc arg8.view X8 (128 * (1 - k.val)) (by omega) _
        ((k0_off11_eq k).trans (by rw [show 128 - 128 * k.val = 128 * (1 - k.val) by omega])),
      rd_s arg14.view f 1 (by omega) _ rfl, rd_xz arg16.view X16 1 1 (by omega) (by omega) _ rfl]
    simp only [hf, h13, h8 (1 - k.val) (by omega)]
    rw [hg1]
    have hc : ch 1 k.val = 1 - k.val := by simp [ch, hk]
    show _ = St A 1 k.val a b * A.g 1 + ∑ c, A.K (ch 1 k.val) c a * (A.V (ch 1 k.val) c b * A.ze 1 c)
    rw [hc]
    exact congrArg _ (Finset.sum_congr rfl fun x _ => congrArg _ (congrArg _ (h16 1 x b)))

/-- After the loop over the context the buffer holds the state before step 2, if it held zeros. -/
theorem t3_loop
    (h8 : ∀ (n : ℕ) (hn : n < 2) (t : Fin 128) b, arg8.view.read (Elt Ideal) X8 (ix3 0 ⟨128 * n + t.val, by omega⟩ b) = A.V n t b)
    (h13 : ∀ (n : ℕ) (hn : n < 34) a t, arg13.view.read (Elt Ideal) X13 (ix3 ⟨n, hn⟩ a t) = A.K n t a)
    (h16 : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg14.view.ty)
    (hf : ∀ d a b, arg14.view.read (Elt Ideal) f (ix3 d a b) = 0) :
    ∀ k : ℕ, k ≤ k0_t3_loop.trips → ∀ d a b, arg14.view.read (Elt Ideal) (arg14.view.writes (Elt Ideal) f
      (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 X13 X16 f k)) (ix3 d a b) = St A d k a b
  | 0, _ => fun d a b => by rw [show St A d 0 a b = 0 from rfl, ← hf d a b]; rfl
  | k + 1, hk => fun d a b => by
    have ih := t3_loop h8 h13 h16 hg0 hg1 f hf k (by omega)
    rw [pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 X13 X16 f ⟨k, hk⟩, View.writes_append]
    exact t3_step (hg0 := hg0) (hg1 := hg1) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X8 X13 X16 ⟨k, hk⟩ h8 h13 h16 _ ih d a b

end Cert.Ret

end
-- ==== Proof.Ret.Trip4.lean ====
/- The first 16 trips of the loop over the latent chunks: what they leave in the state buffer and in the output. -/
module

public import proofs.«01_k».proof.Proof.Gen.KernelIdeal.Loops
public import proofs.«01_k».proof.Proof.Ret.Reads
public import Idealize.ShloMosaic.Lib.WritesUnit

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (v42 v48 : FVec Ideal S1x1 .f32)
  (X5 : BufTy.Contents (Elt Ideal) arg5.view.ty) (X12 : BufTy.Contents (Elt Ideal) arg12.view.ty)
  (X13 : BufTy.Contents (Elt Ideal) arg13.view.ty) (X15 : BufTy.Contents (Elt Ideal) arg15.view.ty)
  (X16 : BufTy.Contents (Elt Ideal) arg16.view.ty)

/-- One trip takes the state before step `k + 2` to the state before step `k + 3`, in both directions. -/
theorem t4_state (k : Fin k0_t4_loop.trips)
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d (k.val + 2) a b) (d : Fin 2) (a : Fin 256) (b : Fin 512) :
    arg14.view.read (Elt Ideal) (arg14.view.writes (Elt Ideal) s
      ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 k).2.1 f s)) (ix3 d a b) = St A d (k.val + 3) a b := by
  have hk : k.val < 16 := Nat.lt_of_lt_of_le k.isLt k0_t4_abs.2.1
  unfold trip_k0_t4
  fin_cases d
  · refine (View.read_writes_cons_unit_of_not_mem _ _ _ _ _ _ rfl (0 : Fin 3) (by simp [ix3])).trans ?_
    refine (View.read_writes_cons_unit_of_mem _ _ _ _ _ _ (ix3 0 a b) rfl (by intro a; fin_cases a <;> simp [ix3])).trans ?_
    simp only [trip_k0_t4.sl.r, trip_k0_t4.sl.r_1, trip_k0_t4.sl.r_2]
    unfold_payloads
    pointwise
    simp only [rd_k arg13.view X13 (k.val + 2) (by omega) _ (k0_off13_eq k),
      rd_v arg5.view X5 (128 * (k.val + 0)) (by omega) _ ((k0_off14_eq k).trans (by rw [show 128 * k.val = 128 * (k.val + 0) by omega])),
      rd_s arg14.view s 0 (by omega) _ rfl, rd_xz arg16.view X16 0 1 (by omega) (by omega) _ rfl]
    simp only [hf, h13, h5 (k.val + 0) (by omega)]
    rw [hg0]
    exact congrArg _ (Finset.sum_congr rfl fun x _ => congrArg _ (congrArg _ (h16' 0 x b)))
  · refine (View.read_writes_cons_unit_of_mem _ _ _ _ _ _ (ix3 0 a b) rfl (by intro a; fin_cases a <;> simp [ix3])).trans ?_
    simp only [trip_k0_t4.sl.r_4, trip_k0_t4.sl.r_5, trip_k0_t4.sl.r_6, trip_k0_t4.sl.v153]
    unfold_payloads
    pointwise
    simp only [rd_k arg13.view X13 (33 - k.val) (by omega) _ (k0_off16_eq k),
      rd_v arg5.view X5 (128 * (31 - k.val)) (by omega) _ ((k0_off17_eq k).trans (by rw [show 3968 - 128 * k.val = 128 * (31 - k.val) by omega])),
      rd_s arg14.view s 1 (by omega) _ rfl, rd_xz arg16.view X16 1 1 (by omega) (by omega) _ rfl]
    simp only [hf, h13, h5 (31 - k.val) (by omega)]
    rw [hg1]
    have hc : ch 1 (k.val + 2) = 31 - k.val + 2 := by simp [ch] <;> omega
    show _ = St A 1 (k.val + 2) a b * A.g 1 + ∑ c, A.K (ch 1 (k.val + 2)) c a * (A.V (ch 1 (k.val + 2)) c b * A.ze 1 c)
    rw [hc, show 33 - k.val = 31 - k.val + 2 by omega]
    exact congrArg _ (Finset.sum_congr rfl fun x _ => congrArg _ (congrArg _ (h16' 1 x b)))

/-- One trip writes chunk `k` with direction 0 and chunk `31 - k` with direction 1, and nothing else. -/
theorem t4_out (k : Fin k0_t4_loop.trips)
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d (k.val + 2) a b)
    (n : ℕ) (hn : n < 32) (t : Fin 128) (b : Fin 512) :
    arg11.view.read (Elt Ideal) (arg11.view.writes (Elt Ideal) f
      ((trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 k).1 f s)) (ix3 0 ⟨128 * n + t.val, by omega⟩ b)
    = if n = k.val + 0 then Out A 0 (k.val + 2) t b
      else if n = 31 - k.val then Out A 1 (k.val + 2) t b
      else arg11.view.read (Elt Ideal) f (ix3 0 ⟨128 * n + t.val, by omega⟩ b) := by
  have hk : k.val < 16 := Nat.lt_of_lt_of_le k.isLt k0_t4_abs.2.1
  unfold trip_k0_t4
  by_cases h1 : n = 31 - k.val
  · rw [if_neg (by omega), if_pos h1]; subst h1
    refine (View.read_writes_cons_unit_of_mem _ _ _ _ _ _ (ix3 0 t b) (k0_off17_eq k)
      (by intro a; fin_cases a <;> simp [ix3]; omega)).trans ?_
    simp only [trip_k0_t4.sl.r_3, trip_k0_t4.sl.r_6, trip_k0_t4.sl.r_7, trip_k0_t4.sl.v153]
    unfold_payloads
    pointwise
    simp only [rd_q arg12.view X12 (128 * (33 - k.val)) (by omega) _ ((k0_off15_eq k).trans (by rw [show 4224 - 128 * k.val = 128 * (33 - k.val) by omega])),
      rd_k arg13.view X13 (33 - k.val) (by omega) _ (k0_off16_eq k),
      rd_v arg5.view X5 (128 * (31 - k.val)) (by omega) _ ((k0_off17_eq k).trans (by rw [show 3968 - 128 * k.val = 128 * (31 - k.val) by omega])),
      rd_s arg14.view s 1 (by omega) _ rfl, rd_d arg15.view X15 1 (by omega) _ rfl, rd_xz arg16.view X16 1 0 (by omega) (by omega) _ rfl]
    have hc : ch 1 (k.val + 2) = 33 - k.val := by simp [ch] <;> omega
    have e15 : ∀ x, arg15.view.read (Elt Ideal) X15 (ix3 ⟨1, by omega⟩ t x) = A.dec 1 t x := h15 1 t
    have e16 : arg16.view.read (Elt Ideal) X16 (ix4 ⟨1, by omega⟩ ⟨0, by omega⟩ t b) = A.xi 1 t := h16 1 t b
    simp only [hf, h13, h12 (33 - k.val) (by omega), h5 (31 - k.val) (by omega), e15, e16]
    rw [show 31 - k.val + 2 = 33 - k.val by omega]
    unfold Out
    rw [hc]
    rfl
  · by_cases h0 : n = k.val + 0
    · rw [if_pos h0]; subst h0
      refine (View.read_writes_cons_unit_of_not_mem _ _ _ _ _ _ (k0_off17_eq k) (1 : Fin 3) (by simp [ix3]; omega)).trans ?_

      refine (View.read_writes_cons_unit_of_mem _ _ _ _ _ _ (ix3 0 t b) (k0_off14_eq k)
        (by intro a; fin_cases a <;> simp [ix3])).trans ?_

      unfold_payloads
      pointwise
      simp only [rd_q arg12.view X12 (128 * (k.val + 2)) (by omega) _ ((k0_off12_eq k).trans (by rw [show 128 * k.val + 256 = 128 * (k.val + 2) by omega])),
        rd_k arg13.view X13 (k.val + 2) (by omega) _ (k0_off13_eq k),
        rd_v arg5.view X5 (128 * (k.val + 0)) (by omega) _ ((k0_off14_eq k).trans (by rw [show 128 * k.val = 128 * (k.val + 0) by omega])),
        rd_s arg14.view s 0 (by omega) _ rfl, rd_d arg15.view X15 0 (by omega) _ rfl, rd_xz arg16.view X16 0 0 (by omega) (by omega) _ rfl]
      have hc : ch 0 (k.val + 2) = k.val + 2 := by simp [ch]
      have e15 : ∀ x, arg15.view.read (Elt Ideal) X15 (ix3 ⟨0, by omega⟩ t x) = A.dec 0 t x := h15 0 t
      have e16 : arg16.view.read (Elt Ideal) X16 (ix4 ⟨0, by omega⟩ ⟨0, by omega⟩ t b) = A.xi 0 t := h16 0 t b
      simp only [hf, h13, h12 (k.val + 2) (by omega), h5 (k.val + 0) (by omega), e15, e16]
      unfold Out
      rw [hc]
      rfl
    · rw [if_neg h0, if_neg h1]
      refine (View.read_writes_cons_unit_of_not_mem _ _ _ _ _ _ (k0_off17_eq k) (1 : Fin 3) (by simp [ix3]; omega)).trans ?_

      refine (View.read_writes_cons_unit_of_not_mem _ _ _ _ _ _ (k0_off14_eq k) (1 : Fin 3) (by simp [ix3]; omega)).trans ?_
      rfl

/-- After `k` of these trips the buffer holds the state before step `k + 2`, the first `k` chunks of the output hold direction 0 and the last `k` direction 1. -/
theorem t4_loop
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d 2 a b) :
    ∀ k : ℕ, k ≤ k0_t4_loop.trips →
      (∀ d a b, arg14.view.read (Elt Ideal) (arg14.view.writes (Elt Ideal) s
        (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).2) (ix3 d a b) = St A d (k + 2) a b)
      ∧ ∀ (n : ℕ) (hn : n < 32) (t : Fin 128) (b : Fin 512), arg11.view.read (Elt Ideal) (arg11.view.writes (Elt Ideal) f
        (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) (ix3 0 ⟨128 * n + t.val, by omega⟩ b)
        = if n < k then Out A 0 (n + 2) t b
        else if 32 - k ≤ n then Out A 1 (33 - n) t b
        else arg11.view.read (Elt Ideal) f (ix3 0 ⟨128 * n + t.val, by omega⟩ b)
  | 0, _ => ⟨fun d a b => by rw [Nat.zero_add, ← hf d a b]; rfl, fun n hn t b => by
      rw [if_neg (by omega), if_neg (by omega)]; rfl⟩
  | k + 1, hk => by
    have hT : k < 16 := Nat.lt_of_lt_of_le hk k0_t4_abs.2.1
    obtain ⟨ih, ih'⟩ := t4_loop h5 h12 h13 h15 h16 h16' hg0 hg1 f s hf k (by omega)
    rw [pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s ⟨k, hk⟩, View.writes_append, View.writes_append]
    refine ⟨fun d a b => ?_, fun n hn t b => ?_⟩
    · have := t4_state (hg0 := hg0) (hg1 := hg1) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 X12 X13 X15 X16 ⟨k, hk⟩ h5 h12 h13 h15 h16 h16'
        (arg11.view.writes (Elt Ideal) f (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) _ ih d a b
      rw [show k + 1 + 2 = k + 3 by omega]
      exact this
    · refine (t4_out (hg0 := hg0) (hg1 := hg1) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 X12 X13 X15 X16 ⟨k, hk⟩ h5 h12 h13 h15 h16 h16'
        (arg11.view.writes (Elt Ideal) f (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) _ ih n hn t b).trans ?_
      rw [ih' n hn t b]
      dsimp only [Nat.add_zero]
      by_cases h0 : n = k
      · subst h0
        rw [if_pos rfl, if_pos (by omega)]
      · rw [if_neg h0]
        by_cases h1 : n = 31 - k
        · subst h1
          rw [if_pos rfl, if_neg (by omega), if_pos (by omega), show 33 - (31 - k) = k + 2 by omega]
        · rw [if_neg h1]
          split_ifs <;> first | omega | rfl

end Cert.Ret

end
-- ==== Proof.Ret.Trip5.lean ====
/- The last 16 trips of the loop over the latent chunks: what they leave in the state buffer and in the output. -/
module

public import proofs.«01_k».proof.Proof.Gen.KernelIdeal.Loops
public import proofs.«01_k».proof.Proof.Ret.Reads
public import Idealize.ShloMosaic.Lib.WritesUnit

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (v42 v48 : FVec Ideal S1x1 .f32)
  (X5 : BufTy.Contents (Elt Ideal) arg5.view.ty) (X12 : BufTy.Contents (Elt Ideal) arg12.view.ty)
  (X13 : BufTy.Contents (Elt Ideal) arg13.view.ty) (X15 : BufTy.Contents (Elt Ideal) arg15.view.ty)
  (X16 : BufTy.Contents (Elt Ideal) arg16.view.ty)

/-- One trip takes the state before step `k + 18` to the state before step `k + 19`, in both directions. -/
theorem t5_state (k : Fin k0_t5_loop.trips)
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d (k.val + 18) a b) (d : Fin 2) (a : Fin 256) (b : Fin 512) :
    arg14.view.read (Elt Ideal) (arg14.view.writes (Elt Ideal) s
      ((trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 k).2.1 f s)) (ix3 d a b) = St A d (k.val + 19) a b := by
  have hk : k.val < 16 := Nat.lt_of_lt_of_le k.isLt k0_t5_abs.2.1
  unfold trip_k0_t5
  fin_cases d
  · refine (View.read_writes_cons_unit_of_not_mem _ _ _ _ _ _ rfl (0 : Fin 3) (by simp [ix3])).trans ?_
    refine (View.read_writes_cons_unit_of_mem _ _ _ _ _ _ (ix3 0 a b) rfl (by intro a; fin_cases a <;> simp [ix3])).trans ?_
    simp only [trip_k0_t5.sl.r, trip_k0_t5.sl.r_1, trip_k0_t5.sl.r_2]
    unfold_payloads
    pointwise
    simp only [rd_k arg13.view X13 (k.val + 18) (by omega) _ (k0_off19_eq k),
      rd_v arg5.view X5 (128 * (k.val + 16)) (by omega) _ ((k0_off20_eq k).trans (by rw [show 128 * k.val + 2048 = 128 * (k.val + 16) by omega])),
      rd_s arg14.view s 0 (by omega) _ rfl, rd_xz arg16.view X16 0 1 (by omega) (by omega) _ rfl]
    simp only [hf, h13, h5 (k.val + 16) (by omega)]
    rw [hg0]
    exact congrArg _ (Finset.sum_congr rfl fun x _ => congrArg _ (congrArg _ (h16' 0 x b)))
  · refine (View.read_writes_cons_unit_of_mem _ _ _ _ _ _ (ix3 0 a b) rfl (by intro a; fin_cases a <;> simp [ix3])).trans ?_
    simp only [trip_k0_t5.sl.r_5, trip_k0_t5.sl.r_6, trip_k0_t5.sl.r_7, trip_k0_t5.sl.v157]
    unfold_payloads
    pointwise
    simp only [rd_k arg13.view X13 (17 - k.val) (by omega) _ (k0_off22_eq k),
      rd_v arg5.view X5 (128 * (15 - k.val)) (by omega) _ ((k0_off23_eq k).trans (by rw [show 1920 - 128 * k.val = 128 * (15 - k.val) by omega])),
      rd_s arg14.view s 1 (by omega) _ rfl, rd_xz arg16.view X16 1 1 (by omega) (by omega) _ rfl]
    simp only [hf, h13, h5 (15 - k.val) (by omega)]
    rw [hg1]
    have hc : ch 1 (k.val + 18) = 15 - k.val + 2 := by simp [ch] <;> omega
    show _ = St A 1 (k.val + 18) a b * A.g 1 + ∑ c, A.K (ch 1 (k.val + 18)) c a * (A.V (ch 1 (k.val + 18)) c b * A.ze 1 c)
    rw [hc, show 17 - k.val = 15 - k.val + 2 by omega]
    exact congrArg _ (Finset.sum_congr rfl fun x _ => congrArg _ (congrArg _ (h16' 1 x b)))

/-- One trip writes chunk `k + 16`, adding direction 0 to what it held, and chunk `15 - k`, adding direction 1. -/
theorem t5_out (k : Fin k0_t5_loop.trips)
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d (k.val + 18) a b)
    (n : ℕ) (hn : n < 32) (t : Fin 128) (b : Fin 512) :
    arg11.view.read (Elt Ideal) (arg11.view.writes (Elt Ideal) f
      ((trip_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 k).1 f s)) (ix3 0 ⟨128 * n + t.val, by omega⟩ b)
    = if n = k.val + 16 then arg11.view.read (Elt Ideal) f (ix3 0 ⟨128 * n + t.val, by omega⟩ b) + Out A 0 (k.val + 18) t b
      else if n = 15 - k.val then arg11.view.read (Elt Ideal) f (ix3 0 ⟨128 * n + t.val, by omega⟩ b) + Out A 1 (k.val + 18) t b
      else arg11.view.read (Elt Ideal) f (ix3 0 ⟨128 * n + t.val, by omega⟩ b) := by
  have hk : k.val < 16 := Nat.lt_of_lt_of_le k.isLt k0_t5_abs.2.1
  unfold trip_k0_t5
  by_cases h1 : n = 15 - k.val
  · rw [if_neg (by omega), if_pos h1]; subst h1
    refine (View.read_writes_cons_unit_of_mem _ _ _ _ _ _ (ix3 0 t b) (k0_off23_eq k)
      (by intro a; fin_cases a <;> simp [ix3]; omega)).trans ?_
    simp only [trip_k0_t5.sl.r_4, trip_k0_t5.sl.r_6, trip_k0_t5.sl.r_7, trip_k0_t5.sl.r_8, trip_k0_t5.sl.v157]
    unfold_payloads
    pointwise
    simp only [rd_q arg12.view X12 (128 * (17 - k.val)) (by omega) _ ((k0_off21_eq k).trans (by rw [show 2176 - 128 * k.val = 128 * (17 - k.val) by omega])),
      rd_k arg13.view X13 (17 - k.val) (by omega) _ (k0_off22_eq k),
      rd_v arg5.view X5 (128 * (15 - k.val)) (by omega) _ ((k0_off23_eq k).trans (by rw [show 1920 - 128 * k.val = 128 * (15 - k.val) by omega])),
      rd_s arg14.view s 1 (by omega) _ rfl, rd_d arg15.view X15 1 (by omega) _ rfl, rd_xz arg16.view X16 1 0 (by omega) (by omega) _ rfl]
    rw [rd_v arg11.view _ (128 * (15 - k.val)) (by omega) _ ((k0_off23_eq k).trans (by rw [show 1920 - 128 * k.val = 128 * (15 - k.val) by omega]))]
    unfold trip_k0_t5.sl.HW_arg11_1
    rw [View.read_writes_cons_unit_of_not_mem _ _ _ _ _ _ (k0_off20_eq k) (1 : Fin 3) (by simp [ix3]; omega)]
    refine congrArg₂ (· + ·) rfl ?_
    have hc : ch 1 (k.val + 18) = 17 - k.val := by simp [ch] <;> omega
    have e15 : ∀ x, arg15.view.read (Elt Ideal) X15 (ix3 ⟨1, by omega⟩ t x) = A.dec 1 t x := h15 1 t
    have e16 : arg16.view.read (Elt Ideal) X16 (ix4 ⟨1, by omega⟩ ⟨0, by omega⟩ t b) = A.xi 1 t := h16 1 t b
    simp only [hf, h13, h12 (17 - k.val) (by omega), h5 (15 - k.val) (by omega), e15, e16]
    rw [show 15 - k.val + 2 = 17 - k.val by omega]
    unfold Out
    rw [hc]
    rfl
  · by_cases h0 : n = k.val + 16
    · rw [if_pos h0]; subst h0
      refine (View.read_writes_cons_unit_of_not_mem _ _ _ _ _ _ (k0_off23_eq k) (1 : Fin 3) (by simp [ix3]; omega)).trans ?_
      unfold trip_k0_t5.sl.HW_arg11_1
      refine (View.read_writes_cons_unit_of_mem _ _ _ _ _ _ (ix3 0 t b) (k0_off20_eq k)
        (by intro a; fin_cases a <;> simp [ix3]; omega)).trans ?_
      unfold trip_k0_t5.sl.r_3
      unfold_payloads
      pointwise
      simp only [rd_q arg12.view X12 (128 * (k.val + 18)) (by omega) _ ((k0_off18_eq k).trans (by rw [show 128 * k.val + 2304 = 128 * (k.val + 18) by omega])),
        rd_k arg13.view X13 (k.val + 18) (by omega) _ (k0_off19_eq k),
        rd_v arg5.view X5 (128 * (k.val + 16)) (by omega) _ ((k0_off20_eq k).trans (by rw [show 128 * k.val + 2048 = 128 * (k.val + 16) by omega])),
        rd_s arg14.view s 0 (by omega) _ rfl, rd_d arg15.view X15 0 (by omega) _ rfl, rd_xz arg16.view X16 0 0 (by omega) (by omega) _ rfl]
      rw [rd_v arg11.view _ (128 * (k.val + 16)) (by omega) _ ((k0_off20_eq k).trans (by rw [show 128 * k.val + 2048 = 128 * (k.val + 16) by omega]))]
      refine congrArg₂ (· + ·) rfl ?_
      have hc : ch 0 (k.val + 18) = k.val + 18 := by simp [ch]
      have e15 : ∀ x, arg15.view.read (Elt Ideal) X15 (ix3 ⟨0, by omega⟩ t x) = A.dec 0 t x := h15 0 t
      have e16 : arg16.view.read (Elt Ideal) X16 (ix4 ⟨0, by omega⟩ ⟨0, by omega⟩ t b) = A.xi 0 t := h16 0 t b
      simp only [hf, h13, h12 (k.val + 18) (by omega), h5 (k.val + 16) (by omega), e15, e16]
      unfold Out
      rw [hc]
      rfl
    · rw [if_neg h0, if_neg h1]
      refine (View.read_writes_cons_unit_of_not_mem _ _ _ _ _ _ (k0_off23_eq k) (1 : Fin 3) (by simp [ix3]; omega)).trans ?_
      unfold trip_k0_t5.sl.HW_arg11_1
      refine (View.read_writes_cons_unit_of_not_mem _ _ _ _ _ _ (k0_off20_eq k) (1 : Fin 3) (by simp [ix3]; omega)).trans ?_
      rfl

/-- After `k` of these trips the buffer holds the state before step `k + 18`, and the `k` chunks on either side of the middle of the output have the other direction added. -/
theorem t5_loop
    (h5 : ∀ (n : ℕ) (hn : n < 32) (t : Fin 128) b, arg5.view.read (Elt Ideal) X5 (ix3 0 ⟨128 * n + t.val, by omega⟩ b) = A.V (n + 2) t b)
    (h12 : ∀ (n : ℕ) (hn : n < 34) (t : Fin 128) a, arg12.view.read (Elt Ideal) X12 (ix2 ⟨128 * n + t.val, by omega⟩ a) = A.Q n t a)
    (h13 : ∀ (n : ℕ) (hn : n < 34) a t, arg13.view.read (Elt Ideal) X13 (ix3 ⟨n, hn⟩ a t) = A.K n t a)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (f : BufTy.Contents (Elt Ideal) arg11.view.ty) (s : BufTy.Contents (Elt Ideal) arg14.view.ty)
    (hf : ∀ d a b, arg14.view.read (Elt Ideal) s (ix3 d a b) = St A d 18 a b) :
    ∀ k : ℕ, k ≤ k0_t5_loop.trips →
      (∀ d a b, arg14.view.read (Elt Ideal) (arg14.view.writes (Elt Ideal) s
        (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).2) (ix3 d a b) = St A d (k + 18) a b)
      ∧ ∀ (n : ℕ) (hn : n < 32) (t : Fin 128) (b : Fin 512), arg11.view.read (Elt Ideal) (arg11.view.writes (Elt Ideal) f
        (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) (ix3 0 ⟨128 * n + t.val, by omega⟩ b)
        = if n < 16 then (if 16 - k ≤ n then arg11.view.read (Elt Ideal) f (ix3 0 ⟨128 * n + t.val, by omega⟩ b) + Out A 1 (33 - n) t b
          else arg11.view.read (Elt Ideal) f (ix3 0 ⟨128 * n + t.val, by omega⟩ b))
        else if n < 16 + k then arg11.view.read (Elt Ideal) f (ix3 0 ⟨128 * n + t.val, by omega⟩ b) + Out A 0 (n + 2) t b
        else arg11.view.read (Elt Ideal) f (ix3 0 ⟨128 * n + t.val, by omega⟩ b)
  | 0, _ => ⟨fun d a b => by rw [Nat.zero_add, ← hf d a b]; rfl, fun n hn t b => by
      split_ifs <;> first | omega | rfl⟩
  | k + 1, hk => by
    have hT : k < 16 := Nat.lt_of_lt_of_le hk k0_t5_abs.2.1
    obtain ⟨ih, ih'⟩ := t5_loop h5 h12 h13 h15 h16 h16' hg0 hg1 f s hf k (by omega)
    rw [pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s ⟨k, hk⟩, View.writes_append, View.writes_append]
    refine ⟨fun d a b => ?_, fun n hn t b => ?_⟩
    · have := t5_state (hg0 := hg0) (hg1 := hg1) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 X12 X13 X15 X16 ⟨k, hk⟩ h5 h12 h13 h15 h16 h16'
        (arg11.view.writes (Elt Ideal) f (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) _ ih d a b
      rw [show k + 1 + 18 = k + 19 by omega]
      exact this
    · refine (t5_out (hg0 := hg0) (hg1 := hg1) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 X12 X13 X15 X16 ⟨k, hk⟩ h5 h12 h13 h15 h16 h16'
        (arg11.view.writes (Elt Ideal) f (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 X12 X13 X15 X16 f s k).1) _ ih n hn t b).trans ?_
      rw [ih' n hn t b]
      by_cases h0 : n = k + 16
      · subst h0
        rw [if_pos rfl, if_neg (by omega), if_neg (by omega), if_neg (by omega), if_pos (by omega)]
      · rw [if_neg h0]
        by_cases h1 : n = 15 - k
        · subst h1
          rw [if_pos rfl, if_pos (by omega), if_neg (by omega), if_pos (by omega), if_pos (by omega), show 33 - (15 - k) = k + 18 by omega]
        · rw [if_neg h1]
          split_ifs <;> first | omega | rfl

end Cert.Ret

end
-- ==== Proof.Ret.Loops.lean ====
/- The five loops together: what the body leaves in the output block. -/
module

public import proofs.«01_k».proof.Proof.Ret.Trip1
public import proofs.«01_k».proof.Proof.Ret.Trip2
public import proofs.«01_k».proof.Proof.Ret.Trip3
public import proofs.«01_k».proof.Proof.Ret.Trip4
public import proofs.«01_k».proof.Proof.Ret.Trip5

@[expose] public section

set_option maxRecDepth 16384

noncomputable section

namespace Cert.Ret

open Cert.KernelIdeal Cert.KernelIdeal.Gen Idealize.ShloMosaic Idealize.ShloMosaic.TcCoe Idealize.SL.Sem

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)

variable (A : Args) (v42 v48 : FVec Ideal S1x1 .f32)
  (X3 : BufTy.Contents (Elt Ideal) arg3.view.ty)
  (X4 : BufTy.Contents (Elt Ideal) arg4.view.ty)
  (X5 : BufTy.Contents (Elt Ideal) arg5.view.ty)
  (X6 : BufTy.Contents (Elt Ideal) arg6.view.ty)
  (X7 : BufTy.Contents (Elt Ideal) arg7.view.ty)
  (X8 : BufTy.Contents (Elt Ideal) arg8.view.ty)
  (X9 : BufTy.Contents (Elt Ideal) arg9.view.ty)
  (X10 : BufTy.Contents (Elt Ideal) arg10.view.ty)
  (X15 : BufTy.Contents (Elt Ideal) arg15.view.ty)
  (X16 : BufTy.Contents (Elt Ideal) arg16.view.ty)
  (q : BufTy.Contents (Elt Ideal) arg12.view.ty) (r : BufTy.Contents (Elt Ideal) arg13.view.ty)
  (f : BufTy.Contents (Elt Ideal) arg11.view.ty) (s : BufTy.Contents (Elt Ideal) arg14.view.ty)
  (L0 : List (View.Piece (Elt Ideal) S2x256x512 .f32))

/-- After the two copying loops every chunk of the queries and of the keys is in place. -/
theorem qk_loops
    (h3 : ∀ (n : ℕ) (hn : n < 32) (t : Fin 128) a, rope (fun y => arg3.view.read (Elt Ideal) X3 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a = A.Q (n + 2) t a)
    (h4 : ∀ (n : ℕ) (hn : n < 32) (t : Fin 128) a, rope (fun y => arg4.view.read (Elt Ideal) X4 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a
      * Ideal.ofBits .f32 0x3D800000#32 = A.K (n + 2) t a)
    (h6 : ∀ (n : ℕ) (hn : n < 2) (t : Fin 128) a, arg6.view.read (Elt Ideal) X6 (ix3 0 ⟨128 * n + t.val, by omega⟩ a) = A.Q n t a)
    (h7 : ∀ (n : ℕ) (hn : n < 2) (t : Fin 128) a, arg7.view.read (Elt Ideal) X7 (ix3 0 ⟨128 * n + t.val, by omega⟩ a)
      * Ideal.ofBits .f32 0x3D800000#32 = A.K n t a)
    (n : ℕ) (hn : n < 34) (t : Fin 128) (a : Fin 256) :
    arg12.view.read (Elt Ideal) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (ix2 ⟨128 * n + t.val, by omega⟩ a) = A.Q n t a
    ∧ arg13.view.read (Elt Ideal) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) (ix3 ⟨n, hn⟩ a t) = A.K n t a := by
  have e1 : k0_t1_loop.trips = 2 := by decide +kernel
  have e2 : k0_t2_loop.trips = 32 := by decide +kernel
  have l1 := t1_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X6 X7 h6 h7 q r k0_t1_loop.trips le_rfl n hn t a
  have l2 := t2_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X3 X4 X9 X10 h3 h4 (arg12.view.writes (Elt Ideal) q (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)
    (arg13.view.writes (Elt Ideal) r (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2) k0_t2_loop.trips le_rfl n hn t a
  rw [View.writes_append, View.writes_append]
  refine ⟨l2.1.trans ?_, l2.2.trans ?_⟩
  · rw [l1.1, e1, e2]; split_ifs <;> first | rfl | omega
  · rw [l1.2, e1, e2]; split_ifs <;> first | rfl | omega

/-- What the output block holds after the five loops: at each latent token both directions together. -/
theorem assemble
    (h3 : ∀ (n : ℕ) (hn : n < 32) (t : Fin 128) a, rope (fun y => arg3.view.read (Elt Ideal) X3 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a = A.Q (n + 2) t a)
    (h4 : ∀ (n : ℕ) (hn : n < 32) (t : Fin 128) a, rope (fun y => arg4.view.read (Elt Ideal) X4 (ix3 0 ⟨128 * n + t.val, by omega⟩ y))
      (fun y => arg9.view.read (Elt Ideal) X9 (ix2 ⟨128 * n + t.val, by omega⟩ y))
      (fun y => arg10.view.read (Elt Ideal) X10 (ix2 ⟨128 * n + t.val, by omega⟩ y)) a
      * Ideal.ofBits .f32 0x3D800000#32 = A.K (n + 2) t a)
    (h5 : ∀ (n : ℕ) (hn : n < 32) (t : Fin 128) b, arg5.view.read (Elt Ideal) X5 (ix3 0 ⟨128 * n + t.val, by omega⟩ b) = A.V (n + 2) t b)
    (h6 : ∀ (n : ℕ) (hn : n < 2) (t : Fin 128) a, arg6.view.read (Elt Ideal) X6 (ix3 0 ⟨128 * n + t.val, by omega⟩ a) = A.Q n t a)
    (h7 : ∀ (n : ℕ) (hn : n < 2) (t : Fin 128) a, arg7.view.read (Elt Ideal) X7 (ix3 0 ⟨128 * n + t.val, by omega⟩ a)
      * Ideal.ofBits .f32 0x3D800000#32 = A.K n t a)
    (h8 : ∀ (n : ℕ) (hn : n < 2) (t : Fin 128) b, arg8.view.read (Elt Ideal) X8 (ix3 0 ⟨128 * n + t.val, by omega⟩ b) = A.V n t b)
    (h15 : ∀ d s t, arg15.view.read (Elt Ideal) X15 (ix3 d s t) = A.dec d s t)
    (h16 : ∀ d t b, arg16.view.read (Elt Ideal) X16 (ix4 d 0 t b) = A.xi d t)
    (h16' : ∀ d t b, arg16.view.read (Elt Ideal) X16 (ix4 d 1 t b) = A.ze d t)
    (hg0 : v42 (ix2 0 0) = A.g 0)
    (hg1 : Ideal.exp (Ideal.ofBits FTy.f32 1124073472#32 * v48 (ix2 0 0)) = A.g 1)
    (h14 : ∀ d a b, arg14.view.read (Elt Ideal) (arg14.view.writes (Elt Ideal) s L0) (ix3 d a b) = 0)
    (n : ℕ) (hn : n < 32) (t : Fin 128) (b : Fin 512) :
    arg11.view.read (Elt Ideal) (arg11.view.writes (Elt Ideal) f ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X15 X16 (arg11.view.writes (Elt Ideal) f (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X16 (arg14.view.writes (Elt Ideal) s L0) k0_t3_loop.trips) ++ L0)) k0_t4_loop.trips).1) (arg14.view.writes (Elt Ideal) s ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X16 (arg14.view.writes (Elt Ideal) s L0) k0_t3_loop.trips) ++ L0)) k0_t4_loop.trips).2 ++ ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X16 (arg14.view.writes (Elt Ideal) s L0) k0_t3_loop.trips) ++ L0))) k0_t5_loop.trips).1 ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) X16 (arg14.view.writes (Elt Ideal) s L0) k0_t3_loop.trips) ++ L0)) k0_t4_loop.trips).1)) (ix3 0 ⟨128 * n + t.val, by omega⟩ b)
      = Both A n t b := by
  have e3 : k0_t3_loop.trips = 2 := by decide +kernel
  have e4 : k0_t4_loop.trips = 16 := by decide +kernel
  have e5 : k0_t5_loop.trips = 16 := by decide +kernel
  have h12 : ∀ (n : ℕ) (hn : n < 34) (t : Fin 128) a, arg12.view.read (Elt Ideal) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) (ix2 ⟨128 * n + t.val, by omega⟩ a) = A.Q n t a :=
    fun n hn t a => (qk_loops 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X3 X4 X6 X7 X9 X10 q r h3 h4 h6 h7 n hn t a).1
  have h13 : ∀ (n : ℕ) (hn : n < 34) a t, arg13.view.read (Elt Ideal) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) (ix3 ⟨n, hn⟩ a t) = A.K n t a :=
    fun n hn a t => (qk_loops 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A X3 X4 X6 X7 X9 X10 q r h3 h4 h6 h7 n hn t a).2
  generalize (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).1)) = x12 at h12 ⊢
  generalize (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X3 X4 X9 X10 k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X6 X7 k0_t1_loop.trips).2)) = x13 at h13 ⊢
  have l3 := t3_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X8 x13 X16 h8 h13 h16' hg0 hg1 _ h14 k0_t3_loop.trips le_rfl
  rw [← View.writes_append] at l3
  generalize (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X8 x13 X16 (arg14.view.writes (Elt Ideal) s L0) k0_t3_loop.trips) ++ L0 = L3 at l3 ⊢
  have l3' : ∀ d a b, arg14.view.read (Elt Ideal) (arg14.view.writes (Elt Ideal) s L3) (ix3 d a b) = St A d 2 a b :=
    fun d a b => (l3 d a b).trans (by rw [e3])
  have l4 := t4_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 x12 x13 X15 X16 h5 h12 h13 h15 h16 h16' hg0 hg1 f _ l3' k0_t4_loop.trips le_rfl
  rw [← View.writes_append] at l4
  have l4' : ∀ d a b, arg14.view.read (Elt Ideal) (arg14.view.writes (Elt Ideal) s
      ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 x12 x13 X15 X16 f (arg14.view.writes (Elt Ideal) s L3) k0_t4_loop.trips).2 ++ L3)) (ix3 d a b) = St A d 18 a b :=
    fun d a b => (l4.1 d a b).trans (by rw [e4])
  have l5 := t5_loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 A v42 v48 X5 x12 x13 X15 X16 h5 h12 h13 h15 h16 h16' hg0 hg1
    (arg11.view.writes (Elt Ideal) f (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v42 v48 X5 x12 x13 X15 X16 f (arg14.view.writes (Elt Ideal) s L3) k0_t4_loop.trips).1) _ l4' k0_t5_loop.trips le_rfl
  rw [View.writes_append]
  refine (l5.2 n hn t b).trans ?_
  rw [l4.2 n hn t b, e4, e5]
  unfold Both
  split_ifs <;> first | rfl | omega | exact add_comm _ _

end Cert.Ret

end
-- ==== Proof.Ret.Decay.lean ====
/- The decays as the body computes them, read at an index. -/
module

public import proofs.«01_k».proof.Proof.Gen.KernelIdeal.Loops
public import proofs.«01_k».proof.Proof.Ret.Reads

@[expose] public section

set_option maxRecDepth 16384

noncomputable section

namespace Cert.Ret

open Cert.KernelIdeal Cert.KernelIdeal.Gen Idealize.ShloMosaic Idealize.ShloMosaic.TcCoe

/-- The comparison of two positions, as a bit. -/
theorem cmp_bit : ∀ i j : Fin 128, IntOp.cmpi CmpIPredicate.sge
    (IntOp.subi (BitVec.ofNat 32 i.val) (BitVec.ofNat 32 j.val)) 0#32 = if j.val ≤ i.val then 1#1 else 0#1 := by
  decide +kernel

/-- The difference of two positions, where it is not negative, as an integer. -/
theorem sub_int : ∀ i j : Fin 128, (IntOp.subi (BitVec.ofNat 32 i.val) (BitVec.ofNat 32 j.val)).toInt
    = (i.val : ℤ) - j.val := by decide +kernel

/-- A position as an integer. -/
theorem pos_int : ∀ i : Fin 128, (BitVec.ofNat 32 i.val).toInt = (i.val : ℤ) := by decide +kernel

/-- A position counted from the chunk's end, as an integer. -/
theorem rev_int : ∀ i : Fin 128, (IntOp.subi 127#32 (BitVec.ofNat 32 i.val)).toInt = 127 - (i.val : ℤ) := by
  decide +kernel

/-- The masked decay between two positions is the exponential where the first comes no earlier, and zero elsewhere. -/
theorem masked (i j : Fin 128) (x : EReal) :
    Scalar.select (IntOp.cmpi CmpIPredicate.sge (IntOp.subi (BitVec.ofNat 32 i.val) (BitVec.ofNat 32 j.val)) 0#32)
      (Ideal.exp (FloatOps.sitofp (F := Ideal) FTy.f32 (Scalar.select (IntOp.cmpi CmpIPredicate.sge
        (IntOp.subi (BitVec.ofNat 32 i.val) (BitVec.ofNat 32 j.val)) 0#32)
        (IntOp.subi (BitVec.ofNat 32 i.val) (BitVec.ofNat 32 j.val)) 0#32) * x)) (0 : EReal)
      = if (j.val : ℤ) ≤ i.val then Ideal.exp (fl ((i.val : ℤ) - j.val) * x) else 0 := by
  rw [cmp_bit]
  by_cases h : j.val ≤ i.val
  · rw [if_pos h, if_pos (by exact_mod_cast h)]
    show Ideal.exp ((((IntOp.subi (BitVec.ofNat 32 i.val) (BitVec.ofNat 32 j.val)).toInt : ℝ) : EReal) * x) = _
    rw [sub_int]; rfl
  · rw [if_neg h, if_neg (by exact_mod_cast h)]; rfl

variable (θ : Fin 2 → EReal) (v : Vec Ideal S1x1x1x128 .f32)

/-- The forward mask. -/
theorem dec_fwd (hv : ∀ l, v (ix4 0 0 0 l) = θ 0) (i j : Fin 128) : k0_pay40 v (ix3 0 i j) = decOf θ 0 i j := by
  unfold_payloads; pointwise
  rw [hv]
  exact (masked i j _).trans rfl

/-- The backward mask. -/
theorem dec_bwd (hv : ∀ l, v (ix4 0 0 0 l) = θ 1) (i j : Fin 128) :
    k0_pay48 (iota .tc S128x128 32 [0] iota_S128x128_d0_w32) (iota .tc S128x128 32 [1] iota_S128x128_d1_w32) v (ix3 0 i j)
      = decOf θ 1 i j := by
  unfold_payloads; pointwise
  rw [hv]
  refine (masked j i _).trans ?_
  unfold decOf pos
  have e : (1 : Fin 2) ≠ 0 := by decide
  rw [if_neg e, if_neg e]
  have h : (127 - (i.val : ℤ)) - (127 - (j.val : ℤ)) = j.val - i.val := by ring
  rw [h]
  exact if_congr (by omega) rfl rfl

/-- The forward decay from the chunk's start. -/
theorem xi_fwd (hv : ∀ l, v (ix4 0 0 0 l) = θ 0) (i : Fin 128) (b : Fin 512) : k0_pay41 v (ix4 0 0 i b) = xiOf θ 0 i := by
  unfold_payloads; pointwise
  rw [hv]
  show Ideal.exp (((((BitVec.ofNat 32 i.val).toInt : ℝ) : EReal) + 1) * _) = _
  rw [pos_int]; rfl

/-- The forward decay to the chunk's end. -/
theorem ze_fwd (hv : ∀ l, v (ix4 0 0 0 l) = θ 0) (i : Fin 128) (b : Fin 512) :
    k0_pay43 (k0_pay42 v) (ix4 0 0 i b) = zeOf θ 0 i := by
  unfold_payloads; pointwise
  rw [hv]
  show Ideal.exp ((_ - (((BitVec.ofNat 32 i.val).toInt : ℝ) : EReal)) * _) = _
  rw [pos_int]; rfl

/-- The backward decay from the chunk's start. -/
theorem xi_bwd (hv : ∀ l, v (ix4 0 0 0 l) = θ 1) (i : Fin 128) (b : Fin 512) :
    k0_pay49 (iota .tc S128x512 32 [0] iota_S128x512_d0_w32) v (ix4 0 0 i b) = xiOf θ 1 i := by
  unfold_payloads; pointwise
  rw [hv]
  show Ideal.exp (((((IntOp.subi 127#32 (BitVec.ofNat 32 i.val)).toInt : ℝ) : EReal) + 1) * _) = _
  rw [rev_int]; rfl

/-- The backward decay to the chunk's end. -/
theorem ze_bwd (hv : ∀ l, v (ix4 0 0 0 l) = θ 1) (i : Fin 128) (b : Fin 512) :
    k0_pay1 (k0_pay46 v) (k0_pay47 (iota .tc S128x512 32 [0] iota_S128x512_d0_w32)) (ix4 0 0 i b) = zeOf θ 1 i := by
  unfold_payloads; pointwise
  rw [hv]
  show Ideal.exp ((_ - (((IntOp.subi 127#32 (BitVec.ofNat 32 i.val)).toInt : ℝ) : EReal)) * _) = _
  rw [rev_int]; rfl

/-- The forward decay over a chunk. -/
theorem g_fwd (hv : ∀ l, v (ix4 0 0 0 l) = θ 0) : k0_pay44 (k0_pay38 v) (ix2 0 0) = gOf θ 0 := by
  unfold_payloads; pointwise
  rw [hv]; rfl

/-- The backward decay over a chunk. -/
theorem g_bwd (hv : ∀ l, v (ix4 0 0 0 l) = θ 1) :
    Ideal.exp (Ideal.ofBits FTy.f32 1124073472#32 * k0_pay46 v (ix2 0 0)) = gOf θ 1 := by
  unfold_payloads; pointwise
  rw [hv]; rfl

/-- The zero of the state. -/
theorem zero_st (d : Fin 2) (a : Fin 256) (b : Fin 512) : k0_pay3 (F := Ideal) (ix3 d a b) = 0 := by
  unfold_payloads; pointwise

end Cert.Ret

end
-- ==== Proof.Ret.Inputs.lean ====
/- The values the body computes on, from its blocks; and what it leaves in the output block. -/
module

public import proofs.«01_k».proof.Proof.Ret.Loops
public import proofs.«01_k».proof.Proof.Ret.Decay

@[expose] public section

set_option maxRecDepth 16384

noncomputable section

namespace Cert.Ret

open Cert.KernelIdeal Cert.KernelIdeal.Gen Idealize.ShloMosaic Idealize.ShloMosaic.TcCoe Idealize.SL.Sem

/-- The queries, keys, values and decays of one batch and head, from the blocks of the latents, of the context, of the
two tables of angles and from the two directions' parameters. The keys are scaled by 1/16. -/
def argsOf (θ : Fin 2 → EReal) (ql kl : S1x4096x256.Idx → EReal) (vl : S1x4096x512.Idx → EReal)
    (qc kc : S1x256x256.Idx → EReal) (vc : S1x256x512.Idx → EReal) (cs sn : S4096x128.Idx → EReal) : Args where
  Q n t a := if h : n < 2 then qc (ix3 0 ⟨128 * n + t.val, by omega⟩ a) else if h : n < 34 then
    rope (fun y => ql (ix3 0 ⟨128 * (n - 2) + t.val, by omega⟩ y)) (fun y => cs (ix2 ⟨128 * (n - 2) + t.val, by omega⟩ y))
      (fun y => sn (ix2 ⟨128 * (n - 2) + t.val, by omega⟩ y)) a else 0
  K n t a := (if h : n < 2 then kc (ix3 0 ⟨128 * n + t.val, by omega⟩ a) else if h : n < 34 then
    rope (fun y => kl (ix3 0 ⟨128 * (n - 2) + t.val, by omega⟩ y)) (fun y => cs (ix2 ⟨128 * (n - 2) + t.val, by omega⟩ y))
      (fun y => sn (ix2 ⟨128 * (n - 2) + t.val, by omega⟩ y)) a else 0) * Ideal.ofBits .f32 0x3D800000#32
  V n t b := if h : n < 2 then vc (ix3 0 ⟨128 * n + t.val, by omega⟩ b) else if h : n < 34 then
    vl (ix3 0 ⟨128 * (n - 2) + t.val, by omega⟩ b) else 0
  dec := decOf θ
  xi := xiOf θ
  ze := zeOf θ
  g := gOf θ

/-- The output block of one batch and head. -/
def outOf (A : Args) : S1x4096x512.Idx → EReal := fun x =>
  Both A ((x (1 : Fin 3)).val / 128) ⟨(x (1 : Fin 3)).val % 128, Nat.mod_lt _ (by norm_num)⟩ ⟨(x (2 : Fin 3)).val, (x (2 : Fin 3)).isLt⟩

variable (𝒱 : Variants) (c : Dev nD) (bd : Option 𝒱.V) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)
variable (θ : Fin 2 → EReal) (x0 : Vec Ideal S2x1x1x128 .f32) (x1 : Vec Ideal S1x4096x256 .bf16) (x2 : Vec Ideal S1x4096x256 .bf16)
  (x3 : Vec Ideal S1x4096x512 .bf16) (x4 : Vec Ideal S1x256x256 .bf16) (x5 : Vec Ideal S1x256x256 .bf16)
  (x6 : Vec Ideal S1x256x512 .bf16) (x7 : Vec Ideal S4096x128 .f32) (x8 : Vec Ideal S4096x128 .f32)
  (q : BufTy.Contents (Elt Ideal) arg12.view.ty) (r : BufTy.Contents (Elt Ideal) arg13.view.ty)
  (f : BufTy.Contents (Elt Ideal) arg11.view.ty) (s : BufTy.Contents (Elt Ideal) arg14.view.ty)
  (d5 : BufTy.Contents (Elt Ideal) arg15.view.ty) (d6 : BufTy.Contents (Elt Ideal) arg16.view.ty)

/-- The two directions' masks, once both are stored. -/
theorem masks_read (v : Vec Ideal S1x1x1x128 .f32) (w : Vec Ideal S1x1x1x128 .f32)
    (hv : ∀ l, v (ix4 0 0 0 l) = θ 0) (hw : ∀ l, w (ix4 0 0 0 l) = θ 1) (d : Fin 2) (i j : Fin 128) :
    arg15.view.read (Elt Ideal) (arg15.view.writes (Elt Ideal) d5
      [⟨Rect.unit (s := S2x128x128) ![1, 0, 0] S1x128x128.size inb_S2x128x128_S1x128x128_1_0_0,
        k0_pay48 (iota .tc S128x128 32 [0] iota_S128x128_d0_w32) (iota .tc S128x128 32 [1] iota_S128x128_d1_w32) w⟩,
       ⟨Rect.unit (s := S2x128x128) ![0, 0, 0] S1x128x128.size inb_S2x128x128_S1x128x128_0_0_0, k0_pay40 v⟩]) (ix3 d i j)
      = decOf θ d i j := by
  fin_cases d
  · refine (View.read_writes_cons_unit_of_not_mem _ _ _ _ _ _ rfl (0 : Fin 3) (by simp [ix3])).trans ?_
    refine (View.read_writes_cons_unit_of_mem _ _ _ _ _ _ (ix3 0 i j) rfl (by intro a; fin_cases a <;> simp [ix3])).trans ?_
    exact dec_fwd θ v hv i j
  · refine (View.read_writes_cons_unit_of_mem _ _ _ _ _ _ (ix3 0 i j) rfl (by intro a; fin_cases a <;> simp [ix3])).trans ?_
    exact dec_bwd θ w hw i j

/-- The four vectors of decays, once all are stored. -/
theorem decays_read (v : Vec Ideal S1x1x1x128 .f32) (w : Vec Ideal S1x1x1x128 .f32)
    (hv : ∀ l, v (ix4 0 0 0 l) = θ 0) (hw : ∀ l, w (ix4 0 0 0 l) = θ 1) (d p : Fin 2) (i : Fin 128) (b : Fin 512) :
    arg16.view.read (Elt Ideal) (arg16.view.writes (Elt Ideal) d6
      [⟨Rect.unit (s := S2x2x128x512) ![1, 1, 0, 0] ![1, 1, 128, 512] inb_S2x2x128x512_S1x1x128x512_1_1_0_0,
        k0_pay1 (k0_pay46 w) (k0_pay47 (iota .tc S128x512 32 [0] iota_S128x512_d0_w32))⟩,
       ⟨Rect.unit (s := S2x2x128x512) ![1, 0, 0, 0] S1x1x128x512.size inb_S2x2x128x512_S1x1x128x512_1_0_0_0,
        k0_pay49 (iota .tc S128x512 32 [0] iota_S128x512_d0_w32) w⟩,
       ⟨Rect.unit (s := S2x2x128x512) ![0, 1, 0, 0] S1x1x128x512.size inb_S2x2x128x512_S1x1x128x512_0_1_0_0,
        k0_pay43 (k0_pay42 v)⟩,
       ⟨Rect.unit (s := S2x2x128x512) ![0, 0, 0, 0] S1x1x128x512.size inb_S2x2x128x512_S1x1x128x512_0_0_0_0, k0_pay41 v⟩])
      (ix4 d p i b) = if p = 0 then xiOf θ d i else zeOf θ d i := by
  fin_cases d <;> fin_cases p
  · refine (View.read_writes_cons_unit_of_not_mem _ _ _ _ _ _ rfl (0 : Fin 4) (by simp [ix4])).trans ?_
    refine (View.read_writes_cons_unit_of_not_mem _ _ _ _ _ _ rfl (0 : Fin 4) (by simp [ix4])).trans ?_
    refine (View.read_writes_cons_unit_of_not_mem _ _ _ _ _ _ rfl (1 : Fin 4) (by simp [ix4])).trans ?_
    refine (View.read_writes_cons_unit_of_mem _ _ _ _ _ _ (ix4 0 0 i b) rfl (by intro a; fin_cases a <;> simp [ix4])).trans ?_
    exact xi_fwd θ v hv i b
  · refine (View.read_writes_cons_unit_of_not_mem _ _ _ _ _ _ rfl (0 : Fin 4) (by simp [ix4])).trans ?_
    refine (View.read_writes_cons_unit_of_not_mem _ _ _ _ _ _ rfl (0 : Fin 4) (by simp [ix4])).trans ?_
    refine (View.read_writes_cons_unit_of_mem _ _ _ _ _ _ (ix4 0 0 i b) rfl (by intro a; fin_cases a <;> simp [ix4])).trans ?_
    exact ze_fwd θ v hv i b
  · refine (View.read_writes_cons_unit_of_not_mem _ _ _ _ _ _ rfl (1 : Fin 4) (by simp [ix4])).trans ?_
    refine (View.read_writes_cons_unit_of_mem _ _ _ _ _ _ (ix4 0 0 i b) rfl (by intro a; fin_cases a <;> simp [ix4])).trans ?_
    exact xi_bwd θ w hw i b
  · refine (View.read_writes_cons_unit_of_mem _ _ _ _ _ _ (ix4 0 0 i b) rfl (by intro a; fin_cases a <;> simp [ix4])).trans ?_
    exact ze_bwd θ w hw i b

/-- The lanes of one direction's parameter. -/
theorem theta_read (f : BufTy.Contents (Elt Ideal) arg2.view.ty) (x0 : Vec Ideal S2x1x1x128 .f32)
    (hr : ∀ i, arg2.view.read (Elt Ideal) f i = x0 i) (hx : ∀ d l, x0 (ix4 d 0 0 l) = θ d) (d : ℕ) (hd : d < 2)
    (inb : ∀ a : Fin 4, (![d, 0, 0, 0] : Fin 4 → ℕ) a + S1x1x1x128.size a ≤ S2x1x1x128.size a) (l : Fin 128) :
    arg2.view.readAt (Elt Ideal) (Rect.unit (s := S2x1x1x128) ![d, 0, 0, 0] S1x1x1x128.size inb).toLoadRect f (ix4 0 0 0 l) = θ ⟨d, hd⟩ :=
  (rd_th arg2.view f d hd inb rfl l).trans ((hr _).trans (hx _ _))

/-- What the body leaves in the output block, whatever it found there and in its scratch buffers. -/
theorem body_out (v3 v43 : Vec Ideal S1x1x1x128 .f32) (hv : ∀ l, v3 (ix4 0 0 0 l) = θ 0) (hw : ∀ l, v43 (ix4 0 0 0 l) = θ 1)
    (X15 : BufTy.Contents (Elt Ideal) arg15.view.ty) (X16 : BufTy.Contents (Elt Ideal) arg16.view.ty)
    (L0 : List (View.Piece (Elt Ideal) S2x256x512 .f32))
    (h15 : X15 = (arg15.view.writes (Elt Ideal) d5
      [⟨Rect.unit (s := S2x128x128) ![1, 0, 0] S1x128x128.size inb_S2x128x128_S1x128x128_1_0_0,
        k0_pay48 (iota .tc S128x128 32 [0] iota_S128x128_d0_w32) (iota .tc S128x128 32 [1] iota_S128x128_d1_w32) v43⟩,
       ⟨Rect.unit (s := S2x128x128) ![0, 0, 0] S1x128x128.size inb_S2x128x128_S1x128x128_0_0_0, k0_pay40 v3⟩]))
    (h16 : X16 = (arg16.view.writes (Elt Ideal) d6
      [⟨Rect.unit (s := S2x2x128x512) ![1, 1, 0, 0] ![1, 1, 128, 512] inb_S2x2x128x512_S1x1x128x512_1_1_0_0,
        k0_pay1 (k0_pay46 v43) (k0_pay47 (iota .tc S128x512 32 [0] iota_S128x512_d0_w32))⟩,
       ⟨Rect.unit (s := S2x2x128x512) ![1, 0, 0, 0] S1x1x128x512.size inb_S2x2x128x512_S1x1x128x512_1_0_0_0,
        k0_pay49 (iota .tc S128x512 32 [0] iota_S128x512_d0_w32) v43⟩,
       ⟨Rect.unit (s := S2x2x128x512) ![0, 1, 0, 0] S1x1x128x512.size inb_S2x2x128x512_S1x1x128x512_0_1_0_0,
        k0_pay43 (k0_pay42 v3)⟩,
       ⟨Rect.unit (s := S2x2x128x512) ![0, 0, 0, 0] S1x1x128x512.size inb_S2x2x128x512_S1x1x128x512_0_0_0_0, k0_pay41 v3⟩]))
    (h14 : L0 = [⟨Rect.unit (s := S2x256x512) ![0, 0, 0] ![2, 256, 512] inb_S2x256x512_S2x256x512_0_0_0, k0_pay3 (F := Ideal)⟩]) :
    arg11.view.read (Elt Ideal) (arg11.view.writes (Elt Ideal) f ((pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg5.unread x3) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X15 X16 (arg11.view.writes (Elt Ideal) f (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg5.unread x3) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg8.unread x6) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X16 (arg14.view.writes (Elt Ideal) s L0) k0_t3_loop.trips) ++ L0)) k0_t4_loop.trips).1) (arg14.view.writes (Elt Ideal) s ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg5.unread x3) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg8.unread x6) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X16 (arg14.view.writes (Elt Ideal) s L0) k0_t3_loop.trips) ++ L0)) k0_t4_loop.trips).2 ++ ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg8.unread x6) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X16 (arg14.view.writes (Elt Ideal) s L0) k0_t3_loop.trips) ++ L0))) k0_t5_loop.trips).1 ++ (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg5.unread x3) (arg12.view.writes (Elt Ideal) q ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).1 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).1)) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X15 X16 f (arg14.view.writes (Elt Ideal) s ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay44 (k0_pay38 v3)) (k0_pay46 v43) (harg8.unread x6) (arg13.view.writes (Elt Ideal) r ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) (harg4.unread x2) (harg9.unread x7) (harg10.unread x8) k0_t2_loop.trips).2 ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg6.unread x4) (harg7.unread x5) k0_t1_loop.trips).2)) X16 (arg14.view.writes (Elt Ideal) s L0) k0_t3_loop.trips) ++ L0)) k0_t4_loop.trips).1))
      = outOf (argsOf θ x1 x2 x3 x4 x5 x6 x7 x8) := by
  funext x
  obtain ⟨x, rfl⟩ : ∃ y : Fin 1 × Fin 4096 × Fin 512, ix3 y.1 y.2.1 y.2.2 = x :=
    ⟨(x 0, x 1, x 2), by funext a; fin_cases a <;> rfl⟩
  obtain ⟨z, y, b⟩ := x
  obtain rfl : z = 0 := Subsingleton.elim _ _
  have key := assemble 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (argsOf θ x1 x2 x3 x4 x5 x6 x7 x8) (k0_pay44 (k0_pay38 v3)) (k0_pay46 v43)
    (harg3.unread x1) (harg4.unread x2) (harg5.unread x3) (harg6.unread x4) (harg7.unread x5) (harg8.unread x6) (harg9.unread x7) (harg10.unread x8) X15 X16 q r f s L0
    (fun n hn t a => ?_) (fun n hn t a => ?_) (fun n hn t b => ?_) (fun n hn t a => ?_) (fun n hn t a => ?_) (fun n hn t b => ?_)
    (fun d s t => ?_) (fun d t b => ?_) (fun d t b => ?_) (g_fwd θ v3 hv) (g_bwd θ v43 hw) (fun d a b => ?_)
    (y.val / 128) (by omega) ⟨y.val % 128, Nat.mod_lt _ (by norm_num)⟩ b
  · have e : (⟨128 * (y.val / 128) + y.val % 128, by omega⟩ : Fin 4096) = y := Fin.ext (Nat.div_add_mod _ _)
    simp only [e] at key
    exact key
  · simp only [harg3.read_unread, harg9.read_unread, harg10.read_unread, argsOf, dif_neg (show ¬ n + 2 < 2 by omega),
      dif_pos (show n + 2 < 34 by omega), Nat.add_sub_cancel]
  · simp only [harg4.read_unread, harg9.read_unread, harg10.read_unread, argsOf, dif_neg (show ¬ n + 2 < 2 by omega),
      dif_pos (show n + 2 < 34 by omega), Nat.add_sub_cancel]
  · simp only [harg5.read_unread, argsOf, dif_neg (show ¬ n + 2 < 2 by omega),
      dif_pos (show n + 2 < 34 by omega), Nat.add_sub_cancel]
  · simp only [harg6.read_unread, argsOf, dif_pos hn]
  · simp only [harg7.read_unread, argsOf, dif_pos hn]
  · simp only [harg8.read_unread, argsOf, dif_pos hn]
  · rw [h15]; exact masks_read arg15 θ d5 v3 v43 hv hw d s t
  · rw [h16]; exact (decays_read arg16 θ d6 v3 v43 hv hw d 0 t b).trans (if_pos rfl)
  · rw [h16]; exact (decays_read arg16 θ d6 v3 v43 hv hw d 1 t b).trans (if_neg (by decide))
  · rw [h14]
    refine (View.read_writes_cons_unit_of_mem _ _ _ _ _ _ (ix3 d a b) rfl (by intro a; fin_cases a <;> simp [ix3])).trans ?_
    exact zero_st d a b

end Cert.Ret

end
-- ==== Proof.Ret.Run.lean ====
/- The body's run over the ideal arithmetic: from blocks held whole to the output block of the retention. -/
module

public import proofs.«01_k».proof.Proof.Gen.KernelIdeal.Frame.Runs
public import proofs.«01_k».proof.Proof.Ret.Inputs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body, owning its nine input blocks, its output block and its scratch buffers, ends owning the same inputs and
in the output block the retention of one batch and head. -/
theorem bodyRun (c : Dev nD) (i : grid0.Coords) (arg2 : Memref sig .tc .vmem S2x1x1x128 .f32) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x512 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x256x512 .bf16) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x4096x512 .f32) (harg11 : arg11.IsWhole) (arg12 : Memref sig .tc .vmem S4352x256 .bf16) (harg12 : arg12.IsWhole) (arg13 : Memref sig .tc .vmem S34x256x128 .bf16) (harg13 : arg13.IsWhole) (arg14 : Memref sig .tc .vmem S2x256x512 .f32) (harg14 : arg14.IsWhole) (arg15 : Memref sig .tc .vmem S2x128x128 .f32) (harg15 : arg15.IsWhole) (arg16 : Memref sig .tc .vmem S2x2x128x512 .f32) (harg16 : arg16.IsWhole)
    (θ : Fin 2 → EReal) (x0 : Vec Ideal S2x1x1x128 .f32) (x1 : Vec Ideal S1x4096x256 .bf16) (x2 : Vec Ideal S1x4096x256 .bf16) (x3 : Vec Ideal S1x4096x512 .bf16) (x4 : Vec Ideal S1x256x256 .bf16) (x5 : Vec Ideal S1x256x256 .bf16) (x6 : Vec Ideal S1x256x512 .bf16) (x7 : Vec Ideal S4096x128 .f32) (x8 : Vec Ideal S4096x128 .f32)
    (hx : ∀ d l, x0 (ix4 d 0 0 l) = θ d) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (Cert.Ret.outOf (Cert.Ret.argsOf θ x1 x2 x3 x4 x5 x6 x7 x8)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  · simp only [cc0_retention_eq_skeleton]; unfold cc0_retention_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      exact Cert.Ret.body_out Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 θ x1 x2 x3 x4 x5 x6 x7 x8 _ _ _ _ _ _ _ _
        (Cert.Ret.theta_read arg2 θ _ x0 (fun _ => congrFun (harg2.read_unread x0) _) hx 0 (by norm_num) _)
        (Cert.Ret.theta_read arg2 θ _ x0 (fun _ => congrFun (harg2.read_unread x0) _) hx 1 (by norm_num) _) _ _ _ rfl rfl rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.Ret.Blocks.lean ====
/- The windows' blocks, element by element, in terms of the arguments. -/
module

public import proofs.«01_k».proof.Proof.Gen.KernelIdeal.Frame.Runs
public import proofs.«01_k».proof.Proof.Ret.Spec
public import Idealize.ShloMosaic.Lib.Pipeline.Value
public import Idealize.ShloMosaic.Lib.Pipeline.ValueKit

@[expose] public section

set_option maxRecDepth 16384

noncomputable section

namespace Cert.Ret

open Cert.KernelIdeal Cert.KernelIdeal.Gen Idealize.ShloMosaic Idealize.ShloMosaic.TcCoe Idealize.SL.Sem

/-- The batch of a grid point. -/
def bt (t : Fin cfg0.N) : Fin 4 := ⟨(grid0.coords t (0 : Fin 2)).val, (grid0.coords t (0 : Fin 2)).isLt⟩
/-- The head of a grid point. -/
def hd (t : Fin cfg0.N) : Fin 4 := ⟨(grid0.coords t (1 : Fin 2)).val, (grid0.coords t (1 : Fin 2)).isLt⟩

/-- Window 0's block index at a grid point. -/
theorem idx0 : ∀ t : Fin cfg0.N, win0_0.index t = ![0, (hd t).val, 0, 0] :=
  (by decide +kernel : ∀ t : Fin grid0.N, win0_0.index t = ![0, (hd t).val, 0, 0])

/-- Window 1's block index at a grid point. -/
theorem idx1 : ∀ t : Fin cfg0.N, win0_1.index t = ![(bt t).val, 0, 8 + (hd t).val] :=
  (by decide +kernel : ∀ t : Fin grid0.N, win0_1.index t = ![(bt t).val, 0, 8 + (hd t).val])

/-- Window 2's block index at a grid point. -/
theorem idx2 : ∀ t : Fin cfg0.N, win0_2.index t = ![(bt t).val, 0, 12 + (hd t).val] :=
  (by decide +kernel : ∀ t : Fin grid0.N, win0_2.index t = ![(bt t).val, 0, 12 + (hd t).val])

/-- Window 3's block index at a grid point. -/
theorem idx3 : ∀ t : Fin cfg0.N, win0_3.index t = ![(bt t).val, 0, 8 + (hd t).val] :=
  (by decide +kernel : ∀ t : Fin grid0.N, win0_3.index t = ![(bt t).val, 0, 8 + (hd t).val])

/-- Window 4's block index at a grid point. -/
theorem idx4 : ∀ t : Fin cfg0.N, win0_4.index t = ![(bt t).val, 0, 8 + (hd t).val] :=
  (by decide +kernel : ∀ t : Fin grid0.N, win0_4.index t = ![(bt t).val, 0, 8 + (hd t).val])

/-- Window 5's block index at a grid point. -/
theorem idx5 : ∀ t : Fin cfg0.N, win0_5.index t = ![(bt t).val, 0, 12 + (hd t).val] :=
  (by decide +kernel : ∀ t : Fin grid0.N, win0_5.index t = ![(bt t).val, 0, 12 + (hd t).val])

/-- Window 6's block index at a grid point. -/
theorem idx6 : ∀ t : Fin cfg0.N, win0_6.index t = ![(bt t).val, 0, 8 + (hd t).val] :=
  (by decide +kernel : ∀ t : Fin grid0.N, win0_6.index t = ![(bt t).val, 0, 8 + (hd t).val])

/-- Window 7's block index at a grid point. -/
theorem idx7 : ∀ t : Fin cfg0.N, win0_7.index t = ![0, 0] :=
  (by decide +kernel : ∀ t : Fin grid0.N, win0_7.index t = ![0, 0])

/-- Window 8's block index at a grid point. -/
theorem idx8 : ∀ t : Fin cfg0.N, win0_8.index t = ![0, 0] :=
  (by decide +kernel : ∀ t : Fin grid0.N, win0_8.index t = ![0, 0])

/-- Window 9's block index at a grid point. -/
theorem idx9 : ∀ t : Fin cfg0.N, win0_9.index t = ![(bt t).val, 0, (hd t).val] :=
  (by decide +kernel : ∀ t : Fin grid0.N, win0_9.index t = ![(bt t).val, 0, (hd t).val])

variable (m : (ℓ : Loc nD τ sig) → Buf (Elt Ideal) ℓ)

/-- The parameters as the region finds them: the argument, one copy per lane. -/
theorem theta_V (c : Dev nD) (d : Fin 2) (h : Fin 4) (l : Fin 128) :
    V m c main_v1 (ix4 d h 0 l) = m ((c : Thread nD τ).loc main_arg2) (ix2 d h) := by
  show StableHlo.after hostOps0 _ main_v1 _ = _
  unfold hostOps0
  rw [StableHlo.after_cons, StableHlo.after_cons, StableHlo.after_nil, StableHlo.unary_result, StableHlo.reshape_result]
  show broadcastInDim S2x4x1x128 ![0, 1, 2, 3] bcast_S2x4x1x1_S2x4x1x128_0_1_2_3
    (shapeCast S2x4x1x1 (m ((c : Thread nD τ).loc main_arg2)) shapeCasts_S2x4_S2x4x1x1) (ix4 d h 0 l) = _
  pointwise

/-- The parameters' block: one direction's parameter in every lane. -/
theorem iblk0_at (c : Dev nD) (t : Fin cfg0.N) (d : Fin 2) (l : Fin 128) :
    iblk m c 0 t (ix4 d 0 0 l) = m ((c : Thread nD τ).loc main_arg2) (ix2 d (hd t)) := by
  refine Eq.trans ?_ (theta_V m c d (hd t) l)
  unfold iblk
  rw [View.read_apply]
  show V m c main_v1 _ = _
  refine congrArg (V m c main_v1) ?_
  blk_ext [idx0]

/-- The block of the latent queries. -/
theorem iblk1_at (c : Dev nD) (t : Fin cfg0.N) (y : Fin 4096) (a : Fin 256) :
    iblk m c 1 t (ix3 0 y a) = m ((c : Thread nD τ).loc main_arg0) (ix3 (bt t) y ⟨256 * (8 + (hd t).val) + a.val, by omega⟩) := by
  unfold iblk
  rw [View.read_apply]
  show V m c main_arg0 _ = _
  rw [V_main_arg0]
  refine congrArg (m ((c : Thread nD τ).loc main_arg0)) ?_
  blk_ext [idx1]

/-- The block of the latent keys. -/
theorem iblk2_at (c : Dev nD) (t : Fin cfg0.N) (y : Fin 4096) (a : Fin 256) :
    iblk m c 2 t (ix3 0 y a) = m ((c : Thread nD τ).loc main_arg0) (ix3 (bt t) y ⟨256 * (12 + (hd t).val) + a.val, by omega⟩) := by
  unfold iblk
  rw [View.read_apply]
  show V m c main_arg0 _ = _
  rw [V_main_arg0]
  refine congrArg (m ((c : Thread nD τ).loc main_arg0)) ?_
  blk_ext [idx2]

/-- The block of the latent values. -/
theorem iblk3_at (c : Dev nD) (t : Fin cfg0.N) (y : Fin 4096) (a : Fin 512) :
    iblk m c 3 t (ix3 0 y a) = m ((c : Thread nD τ).loc main_arg0) (ix3 (bt t) y ⟨512 * (8 + (hd t).val) + a.val, by omega⟩) := by
  unfold iblk
  rw [View.read_apply]
  show V m c main_arg0 _ = _
  rw [V_main_arg0]
  refine congrArg (m ((c : Thread nD τ).loc main_arg0)) ?_
  blk_ext [idx3]

/-- The block of the context queries. -/
theorem iblk4_at (c : Dev nD) (t : Fin cfg0.N) (y : Fin 256) (a : Fin 256) :
    iblk m c 4 t (ix3 0 y a) = m ((c : Thread nD τ).loc main_arg1) (ix3 (bt t) y ⟨256 * (8 + (hd t).val) + a.val, by omega⟩) := by
  unfold iblk
  rw [View.read_apply]
  show V m c main_arg1 _ = _
  rw [V_main_arg1]
  refine congrArg (m ((c : Thread nD τ).loc main_arg1)) ?_
  blk_ext [idx4]

/-- The block of the context keys. -/
theorem iblk5_at (c : Dev nD) (t : Fin cfg0.N) (y : Fin 256) (a : Fin 256) :
    iblk m c 5 t (ix3 0 y a) = m ((c : Thread nD τ).loc main_arg1) (ix3 (bt t) y ⟨256 * (12 + (hd t).val) + a.val, by omega⟩) := by
  unfold iblk
  rw [View.read_apply]
  show V m c main_arg1 _ = _
  rw [V_main_arg1]
  refine congrArg (m ((c : Thread nD τ).loc main_arg1)) ?_
  blk_ext [idx5]

/-- The block of the context values. -/
theorem iblk6_at (c : Dev nD) (t : Fin cfg0.N) (y : Fin 256) (a : Fin 512) :
    iblk m c 6 t (ix3 0 y a) = m ((c : Thread nD τ).loc main_arg1) (ix3 (bt t) y ⟨512 * (8 + (hd t).val) + a.val, by omega⟩) := by
  unfold iblk
  rw [View.read_apply]
  show V m c main_arg1 _ = _
  rw [V_main_arg1]
  refine congrArg (m ((c : Thread nD τ).loc main_arg1)) ?_
  blk_ext [idx6]

/-- The block of the cosines: the whole table. -/
theorem iblk7_at (c : Dev nD) (t : Fin cfg0.N) (y : Fin 4096) (a : Fin 128) :
    iblk m c 7 t (ix2 y a) = m ((c : Thread nD τ).loc main_arg3) (ix2 y a) := by
  unfold iblk
  rw [View.read_apply]
  show V m c main_arg3 _ = _
  rw [V_main_arg3]
  refine congrArg (m ((c : Thread nD τ).loc main_arg3)) ?_
  blk_ext [idx7]

/-- The block of the sines: the whole table. -/
theorem iblk8_at (c : Dev nD) (t : Fin cfg0.N) (y : Fin 4096) (a : Fin 128) :
    iblk m c 8 t (ix2 y a) = m ((c : Thread nD τ).loc main_arg4) (ix2 y a) := by
  unfold iblk
  rw [View.read_apply]
  show V m c main_arg4 _ = _
  rw [V_main_arg4]
  refine congrArg (m ((c : Thread nD τ).loc main_arg4)) ?_
  blk_ext [idx8]

end Cert.Ret

end
-- ==== Proof.Ret.Kernel.lean ====
/- The kernel's run over the ideal arithmetic: it terminates, leaves its arguments as they were, and its result array is the
retention of the arguments. -/
module

public import proofs.«01_k».proof.Proof.Ret.Run
public import proofs.«01_k».proof.Proof.Ret.Blocks
public import Idealize.ShloMosaic.Lib.Claim

@[expose] public section

set_option maxRecDepth 16384

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The queries, keys, values and decays of batch `b` and head `h`, from the whole arguments. -/
def memArgs (x0 : S4x4096x8192.Idx → EReal) (x1 : S4x256x8192.Idx → EReal) (x2 : S2x4.Idx → EReal)
    (x3 x4 : S4096x128.Idx → EReal) (b h : Fin 4) : Args :=
  argsOf (fun d => x2 (ix2 d h))
    (fun i => x0 (ix3 b ⟨(i (1 : Fin 3)).val, (i (1 : Fin 3)).isLt⟩ ⟨256 * (8 + h.val) + (i (2 : Fin 3)).val, by have h1 : (i (2 : Fin 3)).val < 256 := (i (2 : Fin 3)).isLt; omega⟩))
    (fun i => x0 (ix3 b ⟨(i (1 : Fin 3)).val, (i (1 : Fin 3)).isLt⟩ ⟨256 * (12 + h.val) + (i (2 : Fin 3)).val, by have h1 : (i (2 : Fin 3)).val < 256 := (i (2 : Fin 3)).isLt; omega⟩))
    (fun i => x0 (ix3 b ⟨(i (1 : Fin 3)).val, (i (1 : Fin 3)).isLt⟩ ⟨512 * (8 + h.val) + (i (2 : Fin 3)).val, by have h1 : (i (2 : Fin 3)).val < 512 := (i (2 : Fin 3)).isLt; omega⟩))
    (fun i => x1 (ix3 b ⟨(i (1 : Fin 3)).val, (i (1 : Fin 3)).isLt⟩ ⟨256 * (8 + h.val) + (i (2 : Fin 3)).val, by have h1 : (i (2 : Fin 3)).val < 256 := (i (2 : Fin 3)).isLt; omega⟩))
    (fun i => x1 (ix3 b ⟨(i (1 : Fin 3)).val, (i (1 : Fin 3)).isLt⟩ ⟨256 * (12 + h.val) + (i (2 : Fin 3)).val, by have h1 : (i (2 : Fin 3)).val < 256 := (i (2 : Fin 3)).isLt; omega⟩))
    (fun i => x1 (ix3 b ⟨(i (1 : Fin 3)).val, (i (1 : Fin 3)).isLt⟩ ⟨512 * (8 + h.val) + (i (2 : Fin 3)).val, by have h1 : (i (2 : Fin 3)).val < 512 := (i (2 : Fin 3)).isLt; omega⟩))
    x3 x4

/-- The retention of the arguments: at batch `b`, token `y` and column `j`, head `j / 512` at its column `j % 512`. -/
def retOf (x0 : S4x4096x8192.Idx → EReal) (x1 : S4x256x8192.Idx → EReal) (x2 : S2x4.Idx → EReal)
    (x3 x4 : S4096x128.Idx → EReal) : S4x4096x2048.Idx → EReal := fun i =>
  Both (memArgs x0 x1 x2 x3 x4 ⟨(i (0 : Fin 3)).val, (i (0 : Fin 3)).isLt⟩
      ⟨(i (2 : Fin 3)).val / 512, by have h1 : (i (2 : Fin 3)).val < 2048 := (i (2 : Fin 3)).isLt; omega⟩)
    ((i (1 : Fin 3)).val / 128) ⟨(i (1 : Fin 3)).val % 128, Nat.mod_lt _ (by norm_num)⟩
    ⟨(i (2 : Fin 3)).val % 512, Nat.mod_lt _ (by norm_num)⟩

/-- A function of three-axis indices with a leading axis of one, from its values at coordinates. -/
theorem ext3 {n k : ℕ} (f g : Shape.Idx ⟨3, ![1, n, k]⟩ → EReal) (h : ∀ y a, f (ix3 0 y a) = g (ix3 0 y a)) : f = g := by
  funext x
  obtain ⟨x, rfl⟩ : ∃ y : Fin 1 × Fin n × Fin k, ix3 y.1 y.2.1 y.2.2 = x :=
    ⟨(x 0, x 1, x 2), by funext a; fin_cases a <;> rfl⟩
  obtain ⟨z, y, b⟩ := x
  obtain rfl : z = 0 := Subsingleton.elim _ _
  exact h y b

/-- A function of two-axis indices, from its values at coordinates. -/
theorem ext2 {n k : ℕ} (f g : Shape.Idx ⟨2, ![n, k]⟩ → EReal) (h : ∀ y a, f (ix2 y a) = g (ix2 y a)) : f = g := by
  funext x
  obtain ⟨x, rfl⟩ : ∃ y : Fin n × Fin k, ix2 y.1 y.2 = x := ⟨(x 0, x 1), by funext a; fin_cases a <;> rfl⟩
  exact h x.1 x.2

variable (m : (ℓ : Loc nD τ sig) → Buf (Elt Ideal) ℓ) (ρ : Dev nD → PrngReg)

/-- What the output's staging buffer holds after the body at point `t`. -/
def outsAt0 (c : Dev nD) (t : Fin cfg0.N) : Vec Ideal S1x4096x512 .f32 :=
  outOf (memArgs (m ((c : Thread nD τ).loc main_arg0)) (m ((c : Thread nD τ).loc main_arg1)) (m ((c : Thread nD τ).loc main_arg2))
    (m ((c : Thread nD τ).loc main_arg3)) (m ((c : Thread nD τ).loc main_arg4)) (bt t) (hd t))

/-- The same from the point's blocks. -/
theorem outsAt0_eq (c : Dev nD) (t : Fin cfg0.N) : outsAt0 m c t =
    outOf (argsOf (fun d => m ((c : Thread nD τ).loc main_arg2) (ix2 d (hd t))) (iblk m c 1 t) (iblk m c 2 t) (iblk m c 3 t)
      (iblk m c 4 t) (iblk m c 5 t) (iblk m c 6 t) (iblk m c 7 t) (iblk m c 8 t)) := by
  have e1 := ext3 (iblk m c 1 t) (fun i => m ((c : Thread nD τ).loc main_arg0) (ix3 (bt t) ⟨(i (1 : Fin 3)).val, (i (1 : Fin 3)).isLt⟩ ⟨256 * (8 + (hd t).val) + (i (2 : Fin 3)).val, by have h1 : (i (2 : Fin 3)).val < 256 := (i (2 : Fin 3)).isLt; omega⟩)) fun y a => iblk1_at m c t y a
  have e2 := ext3 (iblk m c 2 t) (fun i => m ((c : Thread nD τ).loc main_arg0) (ix3 (bt t) ⟨(i (1 : Fin 3)).val, (i (1 : Fin 3)).isLt⟩ ⟨256 * (12 + (hd t).val) + (i (2 : Fin 3)).val, by have h1 : (i (2 : Fin 3)).val < 256 := (i (2 : Fin 3)).isLt; omega⟩)) fun y a => iblk2_at m c t y a
  have e3 := ext3 (iblk m c 3 t) (fun i => m ((c : Thread nD τ).loc main_arg0) (ix3 (bt t) ⟨(i (1 : Fin 3)).val, (i (1 : Fin 3)).isLt⟩ ⟨512 * (8 + (hd t).val) + (i (2 : Fin 3)).val, by have h1 : (i (2 : Fin 3)).val < 512 := (i (2 : Fin 3)).isLt; omega⟩)) fun y a => iblk3_at m c t y a
  have e4 := ext3 (iblk m c 4 t) (fun i => m ((c : Thread nD τ).loc main_arg1) (ix3 (bt t) ⟨(i (1 : Fin 3)).val, (i (1 : Fin 3)).isLt⟩ ⟨256 * (8 + (hd t).val) + (i (2 : Fin 3)).val, by have h1 : (i (2 : Fin 3)).val < 256 := (i (2 : Fin 3)).isLt; omega⟩)) fun y a => iblk4_at m c t y a
  have e5 := ext3 (iblk m c 5 t) (fun i => m ((c : Thread nD τ).loc main_arg1) (ix3 (bt t) ⟨(i (1 : Fin 3)).val, (i (1 : Fin 3)).isLt⟩ ⟨256 * (12 + (hd t).val) + (i (2 : Fin 3)).val, by have h1 : (i (2 : Fin 3)).val < 256 := (i (2 : Fin 3)).isLt; omega⟩)) fun y a => iblk5_at m c t y a
  have e6 := ext3 (iblk m c 6 t) (fun i => m ((c : Thread nD τ).loc main_arg1) (ix3 (bt t) ⟨(i (1 : Fin 3)).val, (i (1 : Fin 3)).isLt⟩ ⟨512 * (8 + (hd t).val) + (i (2 : Fin 3)).val, by have h1 : (i (2 : Fin 3)).val < 512 := (i (2 : Fin 3)).isLt; omega⟩)) fun y a => iblk6_at m c t y a
  have e7 := ext2 (iblk m c 7 t) (m ((c : Thread nD τ).loc main_arg3)) fun y a => iblk7_at m c t y a
  have e8 := ext2 (iblk m c 8 t) (m ((c : Thread nD τ).loc main_arg4)) fun y a => iblk8_at m c t y a
  rw [e1, e2, e3, e4, e5, e6, e7, e8]; rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [outsAt0_eq m c t]
  iapply (bodyRun c (grid0.coords t) _ _ _ _ _ _ _ _ _ _ _ _ _ _ _ _ _ _ _ _ _ _ _ _ _ _ _ _ _ _ (fun d => m ((c : Thread nD τ).loc main_arg2) (ix2 d (hd t))) (iblk m c 0 t) (iblk m c 1 t) (iblk m c 2 t) (iblk m c 3 t) (iblk m c 4 t) (iblk m c 5 t) (iblk m c 6 t) (iblk m c 7 t) (iblk m c 8 t)
    (fun d l => iblk0_at m c t d l) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any contents, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) over the ideal arithmetic. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The result array is the retention of the arguments. -/
theorem final (c : Dev nD) : (dats m 0 c).arrAt 9 cfg0.N
    = retOf (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 9 _ (by decide +kernel) fun t hf y => ?_
  blk_simp
  rw [after0_9]
  obtain ⟨y, rfl⟩ : ∃ z : Fin 1 × Fin 4096 × Fin 512, ix3 z.1 z.2.1 z.2.2 = y :=
    ⟨(y (0 : Fin 3), y (1 : Fin 3), y (2 : Fin 3)), by funext a; fin_cases a <;> rfl⟩
  obtain ⟨z, y, b⟩ := y
  obtain rfl : z = 0 := Subsingleton.elim _ _
  have e : (win0_9.blk t).view.emb (ix3 0 y b) = ix3 (bt t) y ⟨512 * (hd t).val + b.val, by omega⟩ := by
    blk_ext [idx9]
  refine Eq.trans ?_ (congrArg _ e.symm)
  have e1 : (⟨(512 * (hd t).val + b.val) / 512, by omega⟩ : Fin 4) = hd t := Fin.ext (by show (512 * (hd t).val + b.val) / 512 = (hd t).val; omega)
  have e2 : (⟨(512 * (hd t).val + b.val) % 512, by omega⟩ : Fin 512) = b := Fin.ext (by show (512 * (hd t).val + b.val) % 512 = b.val; omega)
  show Both _ _ _ b = Both (memArgs _ _ _ _ _ (bt t) ⟨(512 * (hd t).val + b.val) / 512, _⟩) _ _ ⟨(512 * (hd t).val + b.val) % 512, _⟩
  rw [e1, e2]; rfl

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v2) = (dats m 0 c).arrAt 9 cfg0.N :=
  (h c).1 9

/-- After the frame run, argument `main_arg0` is as launched: input window 3 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 6 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 7 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 7).trans (((dats m 0 c).arrAt_in 7 rfl _).trans ((A_eq m c 7).trans (V_main_arg3 m c)))

/-- After the frame run, argument `main_arg4` is as launched: input window 8 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 8).trans (((dats m 0 c).arrAt_in 8 rfl _).trans ((A_eq m c 8).trans (V_main_arg4 m c)))

/-- The run: the result array is the retention of the arguments, and the arguments are unchanged. -/
theorem run_blocks : θ_run defs (onTc (τ := τ) (main (F := Ideal))) ⟨m, fun _ => 0, ρ⟩ fun r => ∀ c : Dev nD,
      r.2.mem ((c : Thread nD τ).loc main_v2) = retOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post9 m r h c).trans (final m c),
      kept_main_arg0 m r h c,
      kept_main_arg1 m r h c,
      kept_main_arg2 m r h c,
      kept_main_arg3 m r h c,
      kept_main_arg4 m r h c⟩)
    (run_main m ρ)

end Cert.Ret

end
-- ==== Proof.Ret.RefArgs.lean ====
/- What the reference computes before its loop, at an index: the queries, keys and values of both directions, chunk by
   chunk, and the decays. -/
module

public import proofs.«01_k».proof.Proof.Gen.ReferenceIdeal.Step
public import proofs.«01_k».proof.Proof.Ret.Decay

@[expose] public section

set_option maxRecDepth 16384

noncomputable section

namespace Cert.Ret.Ref

open Cert.ReferenceIdeal Cert.ReferenceIdeal.Gen Cert.ReferenceIdeal.Step Idealize.ShloMosaic

/-- The token of a chunk at place `c` of the order in which direction `z` takes the chunk's tokens. -/
def rv (z : Fin 2) (c : Fin 128) : Fin 128 := if z = 0 then c else ⟨127 - c.val, by omega⟩

theorem rv_rv (z : Fin 2) (c : Fin 128) : rv z (rv z c) = c := by
  fin_cases z
  · rfl
  · exact Fin.ext (by simp [rv]; omega)

theorem pos_rv (z : Fin 2) (c : Fin 128) : pos z (rv z c) = c.val := by
  fin_cases z
  · rfl
  · simp [rv, pos]; omega

variable (x0 : Vec Ideal S4x4096x8192 .bf16) (x1 : Vec Ideal S4x256x8192 .bf16) (x2 : Vec Ideal S2x4 .f32)
  (x3 x4 : Vec Ideal S4096x128 .f32)

/-- The latents' queries, rotated. -/
theorem q_lat (b h : Fin 4) (y : Fin 4096) (a : Fin 256) :
    A_main_v28 (F := Ideal) x0 x1 x2 x3 x4 (ix4 b y h a)
      = rope (fun k => x0 (ix3 b y ⟨256 * (8 + h.val) + k.val, by omega⟩)) (fun k => x3 (ix2 y k)) (fun k => x4 (ix2 y k)) a := by
  unfold A_main_v28 A_main_v27 A_main_v26 A_main_v25 A_main_v24 A_main_v23 A_main_v22 A_main_v21 A_main_v20 A_main_v19
    A_main_v18 A_main_v17 A_main_v16 A_main_v15 A_main_v14 A_main_v13 A_main_v5 A_main_v4
  unfold rope
  pointwise
  simp only [show 2048 = 256 * 8 from rfl, mul_add, add_assoc, mul_comm h.val 256]

/-- The context's queries. -/
theorem q_ctx (b h : Fin 4) (y : Fin 256) (a : Fin 256) :
    A_main_v8 (F := Ideal) x0 x1 x2 x3 x4 (ix4 b y h a) = x1 (ix3 b y ⟨256 * (8 + h.val) + a.val, by omega⟩) := by
  unfold A_main_v8 A_main_v1 A_main_v0
  pointwise
  simp only [show 2048 = 256 * 8 from rfl, mul_add, add_assoc, mul_comm h.val 256]

/-- The latents' keys, rotated and scaled. -/
theorem k_lat (b h : Fin 4) (y : Fin 4096) (a : Fin 256) :
    A_main_v46 (F := Ideal) x0 x1 x2 x3 x4 (ix4 b y h a)
      = rope (fun k => x0 (ix3 b y ⟨256 * (12 + h.val) + k.val, by omega⟩)) (fun k => x3 (ix2 y k)) (fun k => x4 (ix2 y k)) a
        * Ideal.ofBits .f32 0x3D800000#32 := by
  unfold A_main_v46 A_main_v44 A_main_v43 A_main_v42 A_main_v41 A_main_v40 A_main_v39 A_main_v38 A_main_v37 A_main_v36 A_main_v35
    A_main_v34 A_main_v33 A_main_v32 A_main_v31 A_main_v30 A_main_v29 A_main_v6 A_main_v4 K_main_v45 K_main_cst_0
  unfold rope
  pointwise
  simp only [show 3072 = 256 * 12 from rfl, mul_add, add_assoc, mul_comm h.val 256]

/-- The context's keys, scaled. -/
theorem k_ctx (b h : Fin 4) (y : Fin 256) (a : Fin 256) :
    A_main_v11 (F := Ideal) x0 x1 x2 x3 x4 (ix4 b y h a)
      = x1 (ix3 b y ⟨256 * (12 + h.val) + a.val, by omega⟩) * Ideal.ofBits .f32 0x3D800000#32 := by
  unfold A_main_v11 A_main_v9 A_main_v2 A_main_v0 K_main_v10 K_main_cst
  pointwise
  simp only [show 3072 = 256 * 12 from rfl, mul_add, add_assoc, mul_comm h.val 256]

/-- The latents' values. -/
theorem v_lat (b h : Fin 4) (y : Fin 4096) (a : Fin 512) :
    A_main_v47 (F := Ideal) x0 x1 x2 x3 x4 (ix4 b y h a) = x0 (ix3 b y ⟨512 * (8 + h.val) + a.val, by omega⟩) := by
  unfold A_main_v47 A_main_v7 A_main_v4
  pointwise
  simp only [show 4096 = 512 * 8 from rfl, mul_add, add_assoc, mul_comm h.val 512]

/-- The context's values. -/
theorem v_ctx (b h : Fin 4) (y : Fin 256) (a : Fin 512) :
    A_main_v12 (F := Ideal) x0 x1 x2 x3 x4 (ix4 b y h a) = x1 (ix3 b y ⟨512 * (8 + h.val) + a.val, by omega⟩) := by
  unfold A_main_v12 A_main_v3 A_main_v0
  pointwise
  simp only [show 4096 = 512 * 8 from rfl, mul_add, add_assoc, mul_comm h.val 512]

/-- A context and latents, one after the other, at an index. -/
theorem cat_at256 (p : Vec Ideal S4x256x4x256 .f32) (q : Vec Ideal S4x4096x4x256 .f32) (b h : Fin 4) (y : Fin 4352) (a : Fin 256) :
    concatenate S4x4352x4x256 1 [⟨S4x256x4x256, p⟩, ⟨S4x4096x4x256, q⟩] concatenates_S4x256x4x256_S4x4096x4x256_S4x4352x4x256_d1
      (ix4 b y h a) = if hn : y.val < 256 then p (ix4 b ⟨y.val, hn⟩ h a) else q (ix4 b ⟨y.val - 256, by omega⟩ h a) := by
  pointwise

/-- Two sequences stacked, at an index. -/
theorem pair_at256 (u v : Vec Ideal S4x4352x4x256 .f32) (z : Fin 2) (b h : Fin 4) (y : Fin 4352) (a : Fin 256) :
    concatenate S2x4x4352x4x256 0
    [⟨S1x4x4352x4x256, broadcastInDim S1x4x4352x4x256 ![1, 2, 3, 4] bcast_S4x4352x4x256_S1x4x4352x4x256_1_2_3_4 u⟩,
     ⟨S1x4x4352x4x256, broadcastInDim S1x4x4352x4x256 ![1, 2, 3, 4] bcast_S4x4352x4x256_S1x4x4352x4x256_1_2_3_4 v⟩]
    concatenates_S1x4x4352x4x256_S1x4x4352x4x256_S2x4x4352x4x256_d0 (ix5 z b y h a)
      = if z.val < 1 then u (ix4 b y h a) else v (ix4 b y h a) := by
  pointwise
  split <;> rfl

/-- The stack cut into chunks, at an index. -/
theorem cut_at256 (u : Vec Ideal S2x4x4352x4x256 .f32) (n : Fin 34) (z : Fin 2) (b h : Fin 4) (c : Fin 128) (a : Fin 256) :
    transpose S34x2x4x4x128x256 [2, 0, 1, 4, 3, 5] (shapeCast S2x4x34x128x4x256 u shapeCasts_S2x4x4352x4x256_S2x4x34x128x4x256)
      transposes_S2x4x34x128x4x256_S34x2x4x4x128x256_2_0_1_4_3_5 (ix6 n z b h c a)
      = u (ix5 z b ⟨n.val * 128 + c.val, by omega⟩ h a) := by
  pointwise

/-- The context taken backwards, at an index. -/
theorem rev_ctx256 (p : Vec Ideal S4x256x4x256 .f32) (b h : Fin 4) (y : Fin 256) (a : Fin 256) :
    Host.reverse [1] p (ix4 b y h a) = p (ix4 b y.rev h a) := by
  rw [Host.reverse_apply]
  congr 1
  funext i
  match i with
  | ⟨0, _⟩ | ⟨1, _⟩ | ⟨2, _⟩ | ⟨3, _⟩ => rfl

/-- The latents taken backwards, at an index. -/
theorem rev_lat256 (p : Vec Ideal S4x4096x4x256 .f32) (b h : Fin 4) (y : Fin 4096) (a : Fin 256) :
    Host.reverse [1] p (ix4 b y h a) = p (ix4 b y.rev h a) := by
  rw [Host.reverse_apply]
  congr 1
  funext i
  match i with
  | ⟨0, _⟩ | ⟨1, _⟩ | ⟨2, _⟩ | ⟨3, _⟩ => rfl

/-- A sequence of context and latents in both directions, stacked and cut into chunks. -/
def stack256 (p : Vec Ideal S4x256x4x256 .f32) (q : Vec Ideal S4x4096x4x256 .f32) : Vec Ideal S34x2x4x4x128x256 .f32 :=
  transpose S34x2x4x4x128x256 [2, 0, 1, 4, 3, 5] (shapeCast S2x4x34x128x4x256 (concatenate S2x4x4352x4x256 0
    [⟨S1x4x4352x4x256, broadcastInDim S1x4x4352x4x256 ![1, 2, 3, 4] bcast_S4x4352x4x256_S1x4x4352x4x256_1_2_3_4
        (concatenate S4x4352x4x256 1 [⟨S4x256x4x256, p⟩, ⟨S4x4096x4x256, q⟩] concatenates_S4x256x4x256_S4x4096x4x256_S4x4352x4x256_d1)⟩,
     ⟨S1x4x4352x4x256, broadcastInDim S1x4x4352x4x256 ![1, 2, 3, 4] bcast_S4x4352x4x256_S1x4x4352x4x256_1_2_3_4
        (concatenate S4x4352x4x256 1 [⟨S4x256x4x256, Host.reverse [1] p⟩, ⟨S4x4096x4x256, Host.reverse [1] q⟩]
          concatenates_S4x256x4x256_S4x4096x4x256_S4x4352x4x256_d1)⟩]
    concatenates_S1x4x4352x4x256_S1x4x4352x4x256_S2x4x4352x4x256_d0) shapeCasts_S2x4x4352x4x256_S2x4x34x128x4x256)
    transposes_S2x4x34x128x4x256_S34x2x4x4x128x256_2_0_1_4_3_5

/-- The stack at an index: direction `z` takes the chunks in its order and their tokens in its order. -/
theorem stack_at256 (p : Vec Ideal S4x256x4x256 .f32) (q : Vec Ideal S4x4096x4x256 .f32) (n : Fin 34) (z : Fin 2) (b h : Fin 4)
    (c : Fin 128) (a : Fin 256) (f : ℕ → Fin 128 → Fin 256 → EReal)
    (hp : ∀ m (hm : m < 2) t k, p (ix4 b ⟨128 * m + t.val, by omega⟩ h k) = f m t k)
    (hq : ∀ m (hm : ¬ m < 2) (hm' : m < 34) t k, q (ix4 b ⟨128 * (m - 2) + t.val, by omega⟩ h k) = f m t k) :
    stack256 p q (ix6 n z b h c a) = f (ch z n.val) (rv z c) a := by
  unfold stack256
  rw [cut_at256, pair_at256, cat_at256, cat_at256]
  fin_cases z
  · rw [if_pos (by simp)]
    by_cases hn : n.val < 2
    · rw [dif_pos (by simp only; omega)]
      refine Eq.trans ?_ (hp n.val hn c a)
      exact congrArg (fun y => p (ix4 b y h a)) (Fin.ext (by simp only; omega))
    · rw [dif_neg (by simp only; omega)]
      refine Eq.trans ?_ (hq n.val hn n.isLt c a)
      exact congrArg (fun y => q (ix4 b y h a)) (Fin.ext (by simp only; omega))
  · rw [if_neg (by simp)]
    by_cases hn : n.val < 2
    · rw [dif_pos (by simp only; omega), rev_ctx256]
      have e : ch 1 n.val = 1 - n.val := by simp [ch, hn]
      refine Eq.trans ?_ ((hp (1 - n.val) (by omega) (rv 1 c) a).trans (by rw [← e]; rfl))
      exact congrArg (fun y => p (ix4 b y h a)) (Fin.ext (by simp only [Fin.val_rev, rv, if_neg (show ¬ (1 : Fin 2) = 0 by decide)]; omega))
    · rw [dif_neg (by simp only; omega), rev_lat256]
      have e : ch 1 n.val = 35 - n.val := by simp [ch, hn]
      refine Eq.trans ?_ ((hq (35 - n.val) (by omega) (by omega) (rv 1 c) a).trans (by rw [← e]; rfl))
      exact congrArg (fun y => q (ix4 b y h a)) (Fin.ext (by simp only [Fin.val_rev, rv, if_neg (show ¬ (1 : Fin 2) = 0 by decide)]; omega))

/-- A context and latents, one after the other, at an index. -/
theorem cat_at512 (p : Vec Ideal S4x256x4x512 .f32) (q : Vec Ideal S4x4096x4x512 .f32) (b h : Fin 4) (y : Fin 4352) (a : Fin 512) :
    concatenate S4x4352x4x512 1 [⟨S4x256x4x512, p⟩, ⟨S4x4096x4x512, q⟩] concatenates_S4x256x4x512_S4x4096x4x512_S4x4352x4x512_d1
      (ix4 b y h a) = if hn : y.val < 256 then p (ix4 b ⟨y.val, hn⟩ h a) else q (ix4 b ⟨y.val - 256, by omega⟩ h a) := by
  pointwise

/-- Two sequences stacked, at an index. -/
theorem pair_at512 (u v : Vec Ideal S4x4352x4x512 .f32) (z : Fin 2) (b h : Fin 4) (y : Fin 4352) (a : Fin 512) :
    concatenate S2x4x4352x4x512 0
    [⟨S1x4x4352x4x512, broadcastInDim S1x4x4352x4x512 ![1, 2, 3, 4] bcast_S4x4352x4x512_S1x4x4352x4x512_1_2_3_4 u⟩,
     ⟨S1x4x4352x4x512, broadcastInDim S1x4x4352x4x512 ![1, 2, 3, 4] bcast_S4x4352x4x512_S1x4x4352x4x512_1_2_3_4 v⟩]
    concatenates_S1x4x4352x4x512_S1x4x4352x4x512_S2x4x4352x4x512_d0 (ix5 z b y h a)
      = if z.val < 1 then u (ix4 b y h a) else v (ix4 b y h a) := by
  pointwise
  split <;> rfl

/-- The stack cut into chunks, at an index. -/
theorem cut_at512 (u : Vec Ideal S2x4x4352x4x512 .f32) (n : Fin 34) (z : Fin 2) (b h : Fin 4) (c : Fin 128) (a : Fin 512) :
    transpose S34x2x4x4x128x512 [2, 0, 1, 4, 3, 5] (shapeCast S2x4x34x128x4x512 u shapeCasts_S2x4x4352x4x512_S2x4x34x128x4x512)
      transposes_S2x4x34x128x4x512_S34x2x4x4x128x512_2_0_1_4_3_5 (ix6 n z b h c a)
      = u (ix5 z b ⟨n.val * 128 + c.val, by omega⟩ h a) := by
  pointwise

/-- The context taken backwards, at an index. -/
theorem rev_ctx512 (p : Vec Ideal S4x256x4x512 .f32) (b h : Fin 4) (y : Fin 256) (a : Fin 512) :
    Host.reverse [1] p (ix4 b y h a) = p (ix4 b y.rev h a) := by
  rw [Host.reverse_apply]
  congr 1
  funext i
  match i with
  | ⟨0, _⟩ | ⟨1, _⟩ | ⟨2, _⟩ | ⟨3, _⟩ => rfl

/-- The latents taken backwards, at an index. -/
theorem rev_lat512 (p : Vec Ideal S4x4096x4x512 .f32) (b h : Fin 4) (y : Fin 4096) (a : Fin 512) :
    Host.reverse [1] p (ix4 b y h a) = p (ix4 b y.rev h a) := by
  rw [Host.reverse_apply]
  congr 1
  funext i
  match i with
  | ⟨0, _⟩ | ⟨1, _⟩ | ⟨2, _⟩ | ⟨3, _⟩ => rfl

/-- A sequence of context and latents in both directions, stacked and cut into chunks. -/
def stack512 (p : Vec Ideal S4x256x4x512 .f32) (q : Vec Ideal S4x4096x4x512 .f32) : Vec Ideal S34x2x4x4x128x512 .f32 :=
  transpose S34x2x4x4x128x512 [2, 0, 1, 4, 3, 5] (shapeCast S2x4x34x128x4x512 (concatenate S2x4x4352x4x512 0
    [⟨S1x4x4352x4x512, broadcastInDim S1x4x4352x4x512 ![1, 2, 3, 4] bcast_S4x4352x4x512_S1x4x4352x4x512_1_2_3_4
        (concatenate S4x4352x4x512 1 [⟨S4x256x4x512, p⟩, ⟨S4x4096x4x512, q⟩] concatenates_S4x256x4x512_S4x4096x4x512_S4x4352x4x512_d1)⟩,
     ⟨S1x4x4352x4x512, broadcastInDim S1x4x4352x4x512 ![1, 2, 3, 4] bcast_S4x4352x4x512_S1x4x4352x4x512_1_2_3_4
        (concatenate S4x4352x4x512 1 [⟨S4x256x4x512, Host.reverse [1] p⟩, ⟨S4x4096x4x512, Host.reverse [1] q⟩]
          concatenates_S4x256x4x512_S4x4096x4x512_S4x4352x4x512_d1)⟩]
    concatenates_S1x4x4352x4x512_S1x4x4352x4x512_S2x4x4352x4x512_d0) shapeCasts_S2x4x4352x4x512_S2x4x34x128x4x512)
    transposes_S2x4x34x128x4x512_S34x2x4x4x128x512_2_0_1_4_3_5

/-- The stack at an index: direction `z` takes the chunks in its order and their tokens in its order. -/
theorem stack_at512 (p : Vec Ideal S4x256x4x512 .f32) (q : Vec Ideal S4x4096x4x512 .f32) (n : Fin 34) (z : Fin 2) (b h : Fin 4)
    (c : Fin 128) (a : Fin 512) (f : ℕ → Fin 128 → Fin 512 → EReal)
    (hp : ∀ m (hm : m < 2) t k, p (ix4 b ⟨128 * m + t.val, by omega⟩ h k) = f m t k)
    (hq : ∀ m (hm : ¬ m < 2) (hm' : m < 34) t k, q (ix4 b ⟨128 * (m - 2) + t.val, by omega⟩ h k) = f m t k) :
    stack512 p q (ix6 n z b h c a) = f (ch z n.val) (rv z c) a := by
  unfold stack512
  rw [cut_at512, pair_at512, cat_at512, cat_at512]
  fin_cases z
  · rw [if_pos (by simp)]
    by_cases hn : n.val < 2
    · rw [dif_pos (by simp only; omega)]
      refine Eq.trans ?_ (hp n.val hn c a)
      exact congrArg (fun y => p (ix4 b y h a)) (Fin.ext (by simp only; omega))
    · rw [dif_neg (by simp only; omega)]
      refine Eq.trans ?_ (hq n.val hn n.isLt c a)
      exact congrArg (fun y => q (ix4 b y h a)) (Fin.ext (by simp only; omega))
  · rw [if_neg (by simp)]
    by_cases hn : n.val < 2
    · rw [dif_pos (by simp only; omega), rev_ctx512]
      have e : ch 1 n.val = 1 - n.val := by simp [ch, hn]
      refine Eq.trans ?_ ((hp (1 - n.val) (by omega) (rv 1 c) a).trans (by rw [← e]; rfl))
      exact congrArg (fun y => p (ix4 b y h a)) (Fin.ext (by simp only [Fin.val_rev, rv, if_neg (show ¬ (1 : Fin 2) = 0 by decide)]; omega))
    · rw [dif_neg (by simp only; omega), rev_lat512]
      have e : ch 1 n.val = 35 - n.val := by simp [ch, hn]
      refine Eq.trans ?_ ((hq (35 - n.val) (by omega) (by omega) (rv 1 c) a).trans (by rw [← e]; rfl))
      exact congrArg (fun y => q (ix4 b y h a)) (Fin.ext (by simp only [Fin.val_rev, rv, if_neg (show ¬ (1 : Fin 2) = 0 by decide)]; omega))

/-- The negated exponential of a parameter. -/
theorem neg_lg (t : EReal) : -Ideal.exp t = lgOf t := (zero_sub _).symm

/-- A position as an extended real. -/
theorem int_fl (i : Fin 128) : FloatOps.sitofp (F := Ideal) FTy.f32 (BitVec.ofNat 32 i.val) = fl i.val := by
  show (((BitVec.ofNat 32 i.val).toInt : ℝ) : EReal) = _
  rw [pos_int]; rfl

/-- The causal mask's bit. -/
theorem causal_bit : ∀ i j : Fin 128, Scalar.select (IntOp.cmpi CmpIPredicate.sge
    (IntOp.addi (BitVec.ofNat 32 i.val) 0#32) (BitVec.ofNat 32 j.val)) 1#1 0#1 = if j.val ≤ i.val then 1#1 else 0#1 := by
  decide +kernel

/-- The decay between two tokens of a chunk, at their places in the direction's order. -/
theorem dec_at (z : Fin 2) (h : Fin 4) (i j : Fin 128) :
    A_main_v87 (F := Ideal) x0 x1 x2 x3 x4 (ix4 z h i j) = decOf (fun d => x2 (ix2 d h)) z (rv z i) (rv z j) := by
  unfold A_main_v87 A_main_v86 A_main_v85 A_main_v84 A_main_v81 A_main_v49 A_main_v48 K_main_call7_v2 K_main_call7_v1 K_main_call7_v0
    K_main_cst_2 K_main_v83 K_main_v82 K_main_v80 K_main_v79 K_main_v78 K_main_v77 K_main_v76 K_main_v75 K_main_call6_v5
    K_main_call6_c_0 K_main_call6_v4 K_main_call6_v3 K_main_call6_v2 K_main_call6_v1 K_main_call6_c K_main_call6_v0 K_main_v74
    K_main_c K_main_v73 K_main_v72
  unfold decOf
  rw [pos_rv, pos_rv]
  pointwise
  rw [neg_lg, causal_bit, int_fl, int_fl]
  by_cases hij : j.val ≤ i.val
  · rw [if_pos hij, if_pos (by exact_mod_cast hij)]
    refine congrArg (fun y => Ideal.exp (y * _)) ?_
    show ((((i.val : ℤ) : ℝ) : EReal) - (((j.val : ℤ) : ℝ) : EReal)) = ((((i.val : ℤ) - (j.val : ℤ) : ℤ) : ℝ) : EReal)
    rw [← EReal.coe_sub, ← Int.cast_sub]
  · rw [if_neg hij, if_neg (by exact_mod_cast hij)]
    show Ideal.exp (Ideal.ofBits .f32 0xFF800000#32) = 0
    have e : Ideal.ofBits .f32 0xFF800000#32 = ⊥ := by simp [Ideal.ofBits, Ideal.ieee]
    rw [e]; rfl

theorem xi_at (z : Fin 2) (h : Fin 4) (i : Fin 128) :
    A_main_v95 (F := Ideal) x0 x1 x2 x3 x4 (ix3 z h i) = xiOf (fun d => x2 (ix2 d h)) z (rv z i) := by
  unfold A_main_v95 A_main_v94 A_main_v93 A_main_v90 A_main_v49 A_main_v48 K_main_v92 K_main_v91 K_main_v89 K_main_v88 K_main_cst_3
    K_main_v73 K_main_v72 xiOf
  rw [pos_rv]
  pointwise
  rw [neg_lg, int_fl]

theorem ze_at (z : Fin 2) (h : Fin 4) (i : Fin 128) :
    A_main_v103 (F := Ideal) x0 x1 x2 x3 x4 (ix3 z h i) = zeOf (fun d => x2 (ix2 d h)) z (rv z i) := by
  unfold A_main_v103 A_main_v102 A_main_v101 A_main_v98 A_main_v49 A_main_v48 K_main_v100 K_main_v99 K_main_v97 K_main_v96 K_main_cst_4
    K_main_v73 K_main_v72 zeOf
  rw [pos_rv]
  pointwise
  rw [neg_lg, int_fl]

theorem g_at (z : Fin 2) (h : Fin 4) :
    A_main_v106 (F := Ideal) x0 x1 x2 x3 x4 (ix2 z h) = gOf (fun d => x2 (ix2 d h)) z := by
  unfold A_main_v106 A_main_v105 A_main_v49 A_main_v48 K_main_v104 K_main_cst_5 gOf
  pointwise
  rw [neg_lg]

end Cert.Ret.Ref
-- ==== Proof.Ret.RefStep.lean ====
/- One trip of the reference's loop, at an index: the state it leaves and the outputs it stores. -/
module

public import proofs.«01_k».proof.Proof.Ret.RefArgs
public import proofs.«01_k».proof.Proof.Ret.Kernel

@[expose] public section

set_option maxRecDepth 16384

noncomputable section

namespace Cert.Ret.Ref

open Cert.ReferenceIdeal Cert.ReferenceIdeal.Gen Cert.ReferenceIdeal.Step Idealize.ShloMosaic

variable (s : State Ideal) (n : Fin 34)

/-- The trip's number as a word. -/
theorem num_int : ∀ n : Fin 34, (BitVec.ofNat 32 n.val).toInt = n.val := by decide +kernel

/-- Where a trip's slice of the stacked chunks starts. -/
theorem start256 (start : Fin 6 → ℤ) (h0 : start 0 = n.val) (h1 : start 1 = 0) (h2 : start 2 = 0) (h3 : start 3 = 0)
    (h4 : start 4 = 0) (h5 : start 5 = 0) (ht : S1x2x4x4x128x256.rank = S34x2x4x4x128x256.rank) :
    Host.clampedStart S34x2x4x4x128x256 S1x2x4x4x128x256 ht start 0 = n.val
    ∧ Host.clampedStart S34x2x4x4x128x256 S1x2x4x4x128x256 ht start 1 = 0
    ∧ Host.clampedStart S34x2x4x4x128x256 S1x2x4x4x128x256 ht start 2 = 0
    ∧ Host.clampedStart S34x2x4x4x128x256 S1x2x4x4x128x256 ht start 3 = 0
    ∧ Host.clampedStart S34x2x4x4x128x256 S1x2x4x4x128x256 ht start 4 = 0
    ∧ Host.clampedStart S34x2x4x4x128x256 S1x2x4x4x128x256 ht start 5 = 0 :=
  ⟨Host.clampedStart_of_le ht start 0 n.val h0 n.isLt, Host.clampedStart_of_le ht start 1 0 h1 (le_of_eq rfl),
    Host.clampedStart_of_le ht start 2 0 h2 (le_of_eq rfl), Host.clampedStart_of_le ht start 3 0 h3 (le_of_eq rfl),
    Host.clampedStart_of_le ht start 4 0 h4 (le_of_eq rfl), Host.clampedStart_of_le ht start 5 0 h5 (le_of_eq rfl)⟩

/-- A trip's slice of the stacked chunks is its chunk. -/
theorem slice256 (x : Vec Ideal S34x2x4x4x128x256 .f32) (start : Fin 6 → ℤ) (h0 : start 0 = n.val) (h1 : start 1 = 0)
    (h2 : start 2 = 0) (h3 : start 3 = 0) (h4 : start 4 = 0) (h5 : start 5 = 0) (z : Fin 2) (b h : Fin 4) (c : Fin 128)
    (a : Fin 256) :
    shapeCast S2x4x4x128x256 (Host.dynamicSlice S1x2x4x4x128x256 x start sliceFits_S34x2x4x4x128x256_S1x2x4x4x128x256)
      shapeCasts_S1x2x4x4x128x256_S2x4x4x128x256 (ix5 z b h c a) = x (ix6 n z b h c a) := by
  have e := start256 n start h0 h1 h2 h3 h4 h5 rfl
  pointwise
  simp only [e.1, e.2.1, e.2.2.1, e.2.2.2.1, e.2.2.2.2.1, e.2.2.2.2.2, Nat.zero_add]

/-- Where a trip's slice of the stacked chunks starts. -/
theorem start512 (start : Fin 6 → ℤ) (h0 : start 0 = n.val) (h1 : start 1 = 0) (h2 : start 2 = 0) (h3 : start 3 = 0)
    (h4 : start 4 = 0) (h5 : start 5 = 0) (ht : S1x2x4x4x128x512.rank = S34x2x4x4x128x512.rank) :
    Host.clampedStart S34x2x4x4x128x512 S1x2x4x4x128x512 ht start 0 = n.val
    ∧ Host.clampedStart S34x2x4x4x128x512 S1x2x4x4x128x512 ht start 1 = 0
    ∧ Host.clampedStart S34x2x4x4x128x512 S1x2x4x4x128x512 ht start 2 = 0
    ∧ Host.clampedStart S34x2x4x4x128x512 S1x2x4x4x128x512 ht start 3 = 0
    ∧ Host.clampedStart S34x2x4x4x128x512 S1x2x4x4x128x512 ht start 4 = 0
    ∧ Host.clampedStart S34x2x4x4x128x512 S1x2x4x4x128x512 ht start 5 = 0 :=
  ⟨Host.clampedStart_of_le ht start 0 n.val h0 n.isLt, Host.clampedStart_of_le ht start 1 0 h1 (le_of_eq rfl),
    Host.clampedStart_of_le ht start 2 0 h2 (le_of_eq rfl), Host.clampedStart_of_le ht start 3 0 h3 (le_of_eq rfl),
    Host.clampedStart_of_le ht start 4 0 h4 (le_of_eq rfl), Host.clampedStart_of_le ht start 5 0 h5 (le_of_eq rfl)⟩

/-- A trip's slice of the stacked chunks is its chunk. -/
theorem slice512 (x : Vec Ideal S34x2x4x4x128x512 .f32) (start : Fin 6 → ℤ) (h0 : start 0 = n.val) (h1 : start 1 = 0)
    (h2 : start 2 = 0) (h3 : start 3 = 0) (h4 : start 4 = 0) (h5 : start 5 = 0) (z : Fin 2) (b h : Fin 4) (c : Fin 128)
    (a : Fin 512) :
    shapeCast S2x4x4x128x512 (Host.dynamicSlice S1x2x4x4x128x512 x start sliceFits_S34x2x4x4x128x512_S1x2x4x4x128x512)
      shapeCasts_S1x2x4x4x128x512_S2x4x4x128x512 (ix5 z b h c a) = x (ix6 n z b h c a) := by
  have e := start512 n start h0 h1 h2 h3 h4 h5 rfl
  pointwise
  simp only [e.1, e.2.1, e.2.2.1, e.2.2.2.1, e.2.2.2.2.1, e.2.2.2.2.2, Nat.zero_add]

/-- A trip's outputs stored among the others. -/
theorem store_at' (x : Vec Ideal S34x2x4x4x128x512 .f32) (y : Vec Ideal S2x4x4x128x512 .f32) (start : Fin 6 → ℤ) (h0 : start 0 = n.val)
    (h1 : start 1 = 0) (h2 : start 2 = 0) (h3 : start 3 = 0) (h4 : start 4 = 0) (h5 : start 5 = 0)
    (m : Fin 34) (z : Fin 2) (b h : Fin 4) (c : Fin 128) (v : Fin 512) :
    Host.dynamicUpdateSlice x (broadcastInDim S1x2x4x4x128x512 ![1, 2, 3, 4, 5] bcast_S2x4x4x128x512_S1x2x4x4x128x512_1_2_3_4_5 y) start
      updateFits_S34x2x4x4x128x512_S1x2x4x4x128x512 (ix6 m z b h c v)
      = if m = n then y (ix5 z b h c v) else x (ix6 m z b h c v) := by
  have e := start512 n start h0 h1 h2 h3 h4 h5 rfl
  pointwise
  simp only [e.1, e.2.1, e.2.2.1, e.2.2.2.1, e.2.2.2.2.1, e.2.2.2.2.2, Nat.sub_zero, Nat.zero_le, and_true, dite_eq_ite]
  by_cases hm : m = n
  · subst hm
    rw [dif_pos ⟨⟨le_refl _, by omega⟩, ⟨trivial, by omega⟩, ⟨trivial, by omega⟩, ⟨trivial, by omega⟩, ⟨trivial, by omega⟩, trivial,
      by omega⟩, if_pos rfl]
  · rw [dif_neg (fun hc => hm (Fin.ext (by omega))), if_neg hm]

/-- The chunk of queries a trip reads. -/
theorem q_read (z : Fin 2) (b h : Fin 4) (c : Fin 128) (a : Fin 256) :
    b6 n.val s (ix5 z b h c a) = s.main_v114_0 (ix6 n z b h c a) := by
  unfold b6 b5
  exact slice256 n _ _ (num_int n) rfl rfl rfl rfl rfl z b h c a

/-- The chunk of keys a trip reads. -/
theorem k_read (z : Fin 2) (b h : Fin 4) (c : Fin 128) (a : Fin 256) :
    b13 n.val s (ix5 z b h c a) = s.main_v114_1 (ix6 n z b h c a) := by
  unfold b13 b12
  exact slice256 n _ _ (num_int n) rfl rfl rfl rfl rfl z b h c a

/-- The chunk of values a trip reads. -/
theorem v_read (z : Fin 2) (b h : Fin 4) (c : Fin 128) (a : Fin 512) :
    b20 n.val s (ix5 z b h c a) = s.main_v114_2 (ix6 n z b h c a) := by
  unfold b20 b19
  exact slice512 n _ _ (num_int n) rfl rfl rfl rfl rfl z b h c a

/-- The state a trip leaves. -/
theorem state_at (z : Fin 2) (b h : Fin 4) (a : Fin 256) (v : Fin 512) :
    b28 n.val s (ix5 z b h a v) = s.main_v114_8 (ix5 z b h a v) * s.main_v114_3 (ix2 z h)
      + ∑ c : Fin 128, b13 n.val s (ix5 z b h c a) * s.main_v114_4 (ix3 z h c) * b20 n.val s (ix5 z b h c v) := by
  unfold b28 b27 b26 b25 b24 b23 b22 b21
  pointwise

/-- What a trip computes for its chunk. -/
theorem out_at (z : Fin 2) (b h : Fin 4) (c : Fin 128) (v : Fin 512) :
    b38 n.val s (ix5 z b h c v)
      = (∑ j : Fin 128, (∑ a : Fin 256, b6 n.val s (ix5 z b h c a) * b13 n.val s (ix5 z b h j a)) * s.main_v114_5 (ix4 z h c j)
          * b20 n.val s (ix5 z b h j v))
        + ∑ a : Fin 256, b6 n.val s (ix5 z b h c a) * s.main_v114_6 (ix3 z h c) * s.main_v114_8 (ix5 z b h a v) := by
  unfold b38 b37 b36 b35 b34 b33 b32 b31 b30 b29
  pointwise

/-- The outputs after a trip. -/
theorem store_at (m : Fin 34) (z : Fin 2) (b h : Fin 4) (c : Fin 128) (v : Fin 512) :
    b45 n.val s (ix6 m z b h c v) = if m = n then b38 n.val s (ix5 z b h c v) else s.main_v114_9 (ix6 m z b h c v) := by
  unfold b45 b39
  exact store_at' n _ _ _ (num_int n) rfl rfl rfl rfl rfl m z b h c v

end Cert.Ret.Ref
-- ==== Proof.Ret.RefInv.lean ====
/- The reference's loop as the recurrence: before trip `n` its state is the recurrence's, and the outputs of the chunks
   already taken are the recurrence's. -/
module

public import proofs.«01_k».proof.Proof.Ret.RefStep

@[expose] public section

set_option maxRecDepth 16384

noncomputable section

namespace Cert.Ret.Ref

open Cert.ReferenceIdeal Cert.ReferenceIdeal.Gen Cert.ReferenceIdeal.Step Idealize.ShloMosaic

/-- The exponential of a number that is not positive is a number between zero and one. -/
theorem exp_nonpos (x : EReal) (hx : x ≤ 0) : 0 ≤ Ideal.exp x ∧ Ideal.exp x ≠ ⊤ := by
  induction x using EReal.rec with
  | bot => exact ⟨le_refl _, EReal.zero_ne_top⟩
  | coe r => exact ⟨EReal.coe_nonneg.mpr (Real.exp_pos r).le, EReal.coe_ne_top _⟩
  | top => exact absurd hx (by simp)

/-- The exponential is not negative. -/
theorem exp_nonneg (x : EReal) : 0 ≤ Ideal.exp x := by
  induction x using EReal.rec with
  | bot => exact le_refl _
  | coe r => exact EReal.coe_nonneg.mpr (Real.exp_pos r).le
  | top => exact le_top

/-- The decay from the chunk's start is a number that is not negative. -/
theorem xi_fin (θ : Fin 2 → EReal) (z : Fin 2) (i : Fin 128) : 0 ≤ xiOf θ z i ∧ xiOf θ z i ≠ ⊤ := by
  refine exp_nonpos _ ?_
  have h1 : (0 : EReal) ≤ fl (pos z i) + 1 := by
    refine add_nonneg (EReal.coe_nonneg.mpr ?_) zero_le_one
    have : 0 ≤ pos z i := by unfold pos; split <;> omega
    exact_mod_cast this
  have h2 : lgOf (θ z) ≤ 0 := by
    unfold lgOf
    rw [zero_sub]
    exact EReal.neg_le_zero.mpr (exp_nonneg _)
  exact EReal.mul_nonpos_iff.mpr (Or.inl ⟨h1, h2⟩)

/-- A number that is not negative is taken out of a sum. -/
theorem pull {ι : Type} (S : Finset ι) (x : EReal) (h0 : 0 ≤ x) (h1 : x ≠ ⊤) (f : ι → EReal) :
    ∑ a ∈ S, x * f a = x * ∑ a ∈ S, f a := by
  classical
  induction S using Finset.induction_on with
  | empty => simp
  | insert a S ha ih => rw [Finset.sum_insert ha, Finset.sum_insert ha, ih, EReal.left_distrib_of_nonneg_of_ne_top h0 h1]

/-- The tokens of a chunk in a direction's order. -/
def rvE (z : Fin 2) : Fin 128 ≃ Fin 128 := ⟨rv z, rv z, rv_rv z, rv_rv z⟩

variable (x0 : Vec Ideal S4x4096x8192 .bf16) (x1 : Vec Ideal S4x256x8192 .bf16) (x2 : Vec Ideal S2x4 .f32)
  (x3 x4 : Vec Ideal S4096x128 .f32)

/-- The queries the trips read. -/
theorem q_at (n : Fin 34) (z : Fin 2) (b h : Fin 4) (c : Fin 128) (a : Fin 256) :
    A_main_v108 (F := Ideal) x0 x1 x2 x3 x4 (ix6 n z b h c a) = (memArgs x0 x1 x2 x3 x4 b h).Q (ch z n.val) (rv z c) a := by
  refine (stack_at256 (A_main_v8 x0 x1 x2 x3 x4) (A_main_v28 x0 x1 x2 x3 x4) n z b h c a _ ?_ ?_)
  · intro m hm t k
    rw [q_ctx]
    simp only [memArgs, argsOf, dif_pos hm]; rfl
  · intro m hm hm' t k
    rw [q_lat]
    simp only [memArgs, argsOf, dif_neg hm, dif_pos hm']; rfl

/-- The keys the trips read. -/
theorem k_at (n : Fin 34) (z : Fin 2) (b h : Fin 4) (c : Fin 128) (a : Fin 256) :
    A_main_v110 (F := Ideal) x0 x1 x2 x3 x4 (ix6 n z b h c a) = (memArgs x0 x1 x2 x3 x4 b h).K (ch z n.val) (rv z c) a := by
  refine (stack_at256 (A_main_v11 x0 x1 x2 x3 x4) (A_main_v46 x0 x1 x2 x3 x4) n z b h c a _ ?_ ?_)
  · intro m hm t k
    rw [k_ctx]
    simp only [memArgs, argsOf, dif_pos hm]; rfl
  · intro m hm hm' t k
    rw [k_lat]
    simp only [memArgs, argsOf, dif_neg hm, dif_pos hm']; rfl

/-- The values the trips read. -/
theorem v_at (n : Fin 34) (z : Fin 2) (b h : Fin 4) (c : Fin 128) (a : Fin 512) :
    A_main_v112 (F := Ideal) x0 x1 x2 x3 x4 (ix6 n z b h c a) = (memArgs x0 x1 x2 x3 x4 b h).V (ch z n.val) (rv z c) a := by
  refine (stack_at512 (A_main_v12 x0 x1 x2 x3 x4) (A_main_v47 x0 x1 x2 x3 x4) n z b h c a _ ?_ ?_)
  · intro m hm t k
    rw [v_ctx]
    simp only [memArgs, argsOf, dif_pos hm]; rfl
  · intro m hm hm' t k
    rw [v_lat]
    simp only [memArgs, argsOf, dif_neg hm, dif_pos hm']; rfl

/-- What holds of the loop's state before trip `n`. -/
structure Inv (n : ℕ) (s : State Ideal) : Prop where
  st : ∀ z b h a v, s.main_v114_8 (ix5 z b h a v) = St (memArgs x0 x1 x2 x3 x4 b h) z n a v
  out : ∀ (m : Fin 34), m.val < n → ∀ z b h c v,
    s.main_v114_9 (ix6 m z b h c v) = Out (memArgs x0 x1 x2 x3 x4 b h) z m.val (rv z c) v
  q : s.main_v114_0 = A_main_v108 x0 x1 x2 x3 x4
  k : s.main_v114_1 = A_main_v110 x0 x1 x2 x3 x4
  v : s.main_v114_2 = A_main_v112 x0 x1 x2 x3 x4
  g : s.main_v114_3 = A_main_v106 x0 x1 x2 x3 x4
  ze : s.main_v114_4 = A_main_v103 x0 x1 x2 x3 x4
  dec : s.main_v114_5 = A_main_v87 x0 x1 x2 x3 x4
  xi : s.main_v114_6 = A_main_v95 x0 x1 x2 x3 x4

/-- It holds before the first trip. -/
theorem inv_init : Inv x0 x1 x2 x3 x4 0 (init x0 x1 x2 x3 x4) where
  st z b h a v := by
    show K_main_v50 (F := Ideal) (ix5 z b h a v) = 0
    unfold K_main_v50 K_main_cst_1
    pointwise
  out m hm := absurd hm (Nat.not_lt_zero _)
  q := rfl
  k := rfl
  v := rfl
  g := rfl
  ze := rfl
  dec := rfl
  xi := rfl

/-- A trip keeps it. -/
theorem inv_step (n : ℕ) (hn : n < 34) (s : State Ideal) (i : Inv x0 x1 x2 x3 x4 n s) : Inv x0 x1 x2 x3 x4 (n + 1) (step n s) where
  st z b h a v := by
    show b28 (⟨n, hn⟩ : Fin 34).val s (ix5 z b h a v) = _
    rw [state_at, i.st, i.g, g_at]
    refine congrArg (fun y => St (memArgs x0 x1 x2 x3 x4 b h) z n a v * gOf (fun d => x2 (ix2 d h)) z + y) ?_
    refine Eq.trans ?_ (Equiv.sum_comp (rvE z) _)
    refine Finset.sum_congr rfl fun c _ => ?_
    rw [k_read, v_read, i.k, i.v, i.ze, k_at, v_at, ze_at, mul_assoc]
    exact congrArg (_ * ·) (mul_comm _ _)
  out m hm z b h c v := by
    show b45 (⟨n, hn⟩ : Fin 34).val s (ix6 m z b h c v) = _
    rw [store_at]
    by_cases e : m = ⟨n, hn⟩
    · subst e
      rw [if_pos rfl, out_at]
      unfold Out
      refine congrArg₂ (· + ·) ?_ ?_
      · refine Eq.trans ?_ (Equiv.sum_comp (rvE z) _)
        refine Finset.sum_congr rfl fun j _ => ?_
        rw [v_read, i.v, i.dec, v_at, dec_at]
        refine congrArg (· * _ * _) (Finset.sum_congr rfl fun a _ => ?_)
        rw [q_read, k_read, i.q, i.k, q_at, k_at]
        rfl
      · refine Eq.trans ?_ (pull _ _ (xi_fin (fun d => x2 (ix2 d h)) z (rv z c)).1 (xi_fin (fun d => x2 (ix2 d h)) z (rv z c)).2
          fun a => (memArgs x0 x1 x2 x3 x4 b h).Q (ch z n) (rv z c) a * St (memArgs x0 x1 x2 x3 x4 b h) z n a v)
        refine Finset.sum_congr rfl fun a _ => ?_
        rw [q_read, i.q, i.xi, i.st, q_at, xi_at, mul_comm ((memArgs x0 x1 x2 x3 x4 b h).Q _ _ _), mul_assoc]
    · rw [if_neg e]
      exact i.out m (by have : m.val ≠ n := fun h => e (Fin.ext h); omega) z b h c v
  q := i.q
  k := i.k
  v := i.v
  g := i.g
  ze := i.ze
  dec := i.dec
  xi := i.xi

/-- The loop's state before trip `n`. -/
def iter : ℕ → State Ideal
  | 0 => init x0 x1 x2 x3 x4
  | n + 1 => step n (iter n)

theorem inv_iter : ∀ n, n ≤ 34 → Inv x0 x1 x2 x3 x4 n (iter x0 x1 x2 x3 x4 n)
  | 0, _ => inv_init x0 x1 x2 x3 x4
  | n + 1, h => inv_step x0 x1 x2 x3 x4 n (by omega) _ (inv_iter n (by omega))

end Cert.Ret.Ref
-- ==== Proof.Ret.RefRun.lean ====
/- The reference's run as its step iterated: each trip of its loop over the chunks is one step of the state. -/
module

public import proofs.«01_k».proof.Proof.Gen.ReferenceIdeal.Run
public import proofs.«01_k».proof.Proof.Gen.ReferenceIdeal.Step

@[expose] public section

set_option maxHeartbeats 800000

noncomputable section

namespace Cert.Ret.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v114_8) = s.main_v114_8
  f_9 : V0 (Proc.devRef .tc main_v114_9) = s.main_v114_9
  f_0 : V0 (Proc.devRef .tc main_v114_0) = s.main_v114_0
  f_1 : V0 (Proc.devRef .tc main_v114_1) = s.main_v114_1
  f_2 : V0 (Proc.devRef .tc main_v114_2) = s.main_v114_2
  f_3 : V0 (Proc.devRef .tc main_v114_3) = s.main_v114_3
  f_4 : V0 (Proc.devRef .tc main_v114_4) = s.main_v114_4
  f_5 : V0 (Proc.devRef .tc main_v114_5) = s.main_v114_5
  f_6 : V0 (Proc.devRef .tc main_v114_6) = s.main_v114_6
  n_7 : V0 (Proc.devRef .tc main_v114_7) = constantI S_ 32 (BitVec.ofNat 32 j)

variable {V0 s j}

set_option maxRecDepth 8192 in
theorem al_0 (h : Holds V0 s j) : (constantI S_ 32 0#32 : (Proc.devRef .tc main_while0b_call8_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call8_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call8_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call8_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call8_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x4x4x128x256 (V0 (Proc.devRef .tc main_v114_0)) (fun k => (((![V0 (Proc.devRef .tc main_v114_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S34x2x4x4x128x256_S1x2x4x4x128x256 : (Proc.devRef .tc main_while0b_call8_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_7]
  try rfl
set_option maxRecDepth 8192 in
theorem al_6 (h : Holds V0 s j) : (res_main_while0b_v125 V0 : (Proc.devRef .tc main_while0b_v125 : DevRef τ sig).ty.Contents (Elt F)) = Cert.ReferenceIdeal.Step.b6 j s := by
  unfold res_main_while0b_v125 Cert.ReferenceIdeal.Step.b6
  rw [← al_5 h]
  try rfl
set_option maxRecDepth 8192 in
theorem al_7 (h : Holds V0 s j) : (constantI S_ 32 0#32 : (Proc.devRef .tc main_while0b_call9_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call9_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call9_c_1 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call9_c_2 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call9_c_3 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2x4x4x128x256 (V0 (Proc.devRef .tc main_v114_1)) (fun k => (((![V0 (Proc.devRef .tc main_v114_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S34x2x4x4x128x256_S1x2x4x4x128x256 : (Proc.devRef .tc main_while0b_call9_v0 : DevRef τ sig).ty.Contents (Elt F)) = Cert.ReferenceIdeal.Step.b12 j s := by
  unfold Cert.ReferenceIdeal.Step.b12
  rw [← al_7 h, ← al_8 h, ← al_9 h, ← al_10 h, ← al_11 h, h.f_1, h.n_7]
  try rfl
set_option maxRecDepth 8192 in
theorem al_13 (h : Holds V0 s j) : (res_main_while0b_v126 V0 : (Proc.devRef .tc main_while0b_v126 : DevRef τ sig).ty.Contents (Elt F)) = Cert.ReferenceIdeal.Step.b13 j s := by
  unfold res_main_while0b_v126 Cert.ReferenceIdeal.Step.b13
  rw [← al_12 h]
  try rfl
set_option maxRecDepth 8192 in
theorem al_14 (h : Holds V0 s j) : (constantI S_ 32 0#32 : (Proc.devRef .tc main_while0b_call10_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call10_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call10_c_1 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call10_c_2 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call10_c_3 : DevRef τ sig).ty.Contents (Elt F)) = Cert.ReferenceIdeal.Step.b18 j s := by
  unfold Cert.ReferenceIdeal.Step.b18
  rfl
set_option maxRecDepth 8192 in
theorem al_19 (h : Holds V0 s j) : (Host.dynamicSlice S1x2x4x4x128x512 (V0 (Proc.devRef .tc main_v114_2)) (fun k => (((![V0 (Proc.devRef .tc main_v114_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S34x2x4x4x128x512_S1x2x4x4x128x512 : (Proc.devRef .tc main_while0b_call10_v0 : DevRef τ sig).ty.Contents (Elt F)) = Cert.ReferenceIdeal.Step.b19 j s := by
  unfold Cert.ReferenceIdeal.Step.b19
  rw [← al_14 h, ← al_15 h, ← al_16 h, ← al_17 h, ← al_18 h, h.f_2, h.n_7]
  try rfl
set_option maxRecDepth 8192 in
theorem al_20 (h : Holds V0 s j) : (res_main_while0b_v127 V0 : (Proc.devRef .tc main_while0b_v127 : DevRef τ sig).ty.Contents (Elt F)) = Cert.ReferenceIdeal.Step.b20 j s := by
  unfold res_main_while0b_v127 Cert.ReferenceIdeal.Step.b20
  rw [← al_19 h]
  try rfl
set_option maxRecDepth 8192 in
theorem al_21 (h : Holds V0 s j) : (broadcastInDim S2x1x4x1x1 ![0, 2] bcast_S2x4_S2x1x4x1x1_0_2 (V0 (Proc.devRef .tc main_v114_3)) : (Proc.devRef .tc main_while0b_v128 : DevRef τ sig).ty.Contents (Elt F)) = Cert.ReferenceIdeal.Step.b21 j s := by
  unfold Cert.ReferenceIdeal.Step.b21
  rw [h.f_3]
  try rfl
set_option maxRecDepth 8192 in
theorem al_22 (h : Holds V0 s j) : (broadcastInDim S2x4x4x256x512 ![0, 1, 2, 3, 4] bcast_S2x1x4x1x1_S2x4x4x256x512_0_1_2_3_4 (broadcastInDim S2x1x4x1x1 ![0, 2] bcast_S2x4_S2x1x4x1x1_0_2 (V0 (Proc.devRef .tc main_v114_3))) : (Proc.devRef .tc main_while0b_v129 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (mulf (V0 (Proc.devRef .tc main_v114_8)) (broadcastInDim S2x4x4x256x512 ![0, 1, 2, 3, 4] bcast_S2x1x4x1x1_S2x4x4x256x512_0_1_2_3_4 (broadcastInDim S2x1x4x1x1 ![0, 2] bcast_S2x4_S2x1x4x1x1_0_2 (V0 (Proc.devRef .tc main_v114_3)))) : (Proc.devRef .tc main_while0b_v130 : DevRef τ sig).ty.Contents (Elt F)) = Cert.ReferenceIdeal.Step.b23 j s := by
  unfold Cert.ReferenceIdeal.Step.b23
  rw [← al_22 h, h.f_8]
  try rfl
set_option maxRecDepth 8192 in
theorem al_24 (h : Holds V0 s j) : (broadcastInDim S2x1x4x128x1 ![0, 2, 3] bcast_S2x4x128_S2x1x4x128x1_0_2_3 (V0 (Proc.devRef .tc main_v114_4)) : (Proc.devRef .tc main_while0b_v131 : DevRef τ sig).ty.Contents (Elt F)) = Cert.ReferenceIdeal.Step.b24 j s := by
  unfold Cert.ReferenceIdeal.Step.b24
  rw [h.f_4]
  try rfl
set_option maxRecDepth 8192 in
theorem al_25 (h : Holds V0 s j) : (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_4))) : (Proc.devRef .tc main_while0b_v132 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (mulf (res_main_while0b_v126 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_4)))) : (Proc.devRef .tc main_while0b_v133 : DevRef τ sig).ty.Contents (Elt F)) = Cert.ReferenceIdeal.Step.b26 j s := by
  unfold Cert.ReferenceIdeal.Step.b26
  rw [← al_13 h, ← al_25 h]
  try rfl
set_option maxRecDepth 8192 in
theorem al_27 (h : Holds V0 s j) : (Host.dotGeneral dot_S2x4x4x128x256_S2x4x4x128x512_S2x4x4x256x512_3_3_4_4_012_012 none (mulf (res_main_while0b_v126 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_4))))) (res_main_while0b_v127 V0) : (Proc.devRef .tc main_while0b_v134 : DevRef τ sig).ty.Contents (Elt F)) = Cert.ReferenceIdeal.Step.b27 j s := by
  unfold Cert.ReferenceIdeal.Step.b27
  rw [← al_26 h, ← al_20 h]
  try rfl
set_option maxRecDepth 8192 in
theorem al_28 (h : Holds V0 s j) : (addf (mulf (V0 (Proc.devRef .tc main_v114_8)) (broadcastInDim S2x4x4x256x512 ![0, 1, 2, 3, 4] bcast_S2x1x4x1x1_S2x4x4x256x512_0_1_2_3_4 (broadcastInDim S2x1x4x1x1 ![0, 2] bcast_S2x4_S2x1x4x1x1_0_2 (V0 (Proc.devRef .tc main_v114_3))))) (Host.dotGeneral dot_S2x4x4x128x256_S2x4x4x128x512_S2x4x4x256x512_3_3_4_4_012_012 none (mulf (res_main_while0b_v126 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_4))))) (res_main_while0b_v127 V0)) : (Proc.devRef .tc main_while0b_v135 : DevRef τ sig).ty.Contents (Elt F)) = Cert.ReferenceIdeal.Step.b28 j s := by
  unfold Cert.ReferenceIdeal.Step.b28
  rw [← al_23 h, ← al_27 h]
  try rfl
set_option maxRecDepth 8192 in
theorem al_29 (h : Holds V0 s j) : (Host.dotGeneral dot_S2x4x4x128x256_S2x4x4x128x256_S2x4x4x128x128_4_4_3_3_012_012 none (res_main_while0b_v125 V0) (res_main_while0b_v126 V0) : (Proc.devRef .tc main_while0b_v136 : DevRef τ sig).ty.Contents (Elt F)) = Cert.ReferenceIdeal.Step.b29 j s := by
  unfold Cert.ReferenceIdeal.Step.b29
  rw [← al_6 h, ← al_13 h]
  try rfl
set_option maxRecDepth 8192 in
theorem al_30 (h : Holds V0 s j) : (broadcastInDim S2x1x4x128x128 ![0, 2, 3, 4] bcast_S2x4x128x128_S2x1x4x128x128_0_2_3_4 (V0 (Proc.devRef .tc main_v114_5)) : (Proc.devRef .tc main_while0b_v137 : DevRef τ sig).ty.Contents (Elt F)) = Cert.ReferenceIdeal.Step.b30 j s := by
  unfold Cert.ReferenceIdeal.Step.b30
  rw [h.f_5]
  try rfl
set_option maxRecDepth 8192 in
theorem al_31 (h : Holds V0 s j) : (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))) : (Proc.devRef .tc main_while0b_v138 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5)))) : (Proc.devRef .tc main_while0b_v139 : DevRef τ sig).ty.Contents (Elt F)) = Cert.ReferenceIdeal.Step.b32 j s := by
  unfold Cert.ReferenceIdeal.Step.b32
  rw [← al_29 h, ← al_31 h]
  try rfl
set_option maxRecDepth 8192 in
theorem al_33 (h : Holds V0 s j) : (Host.dotGeneral dot_S2x4x4x128x128_S2x4x4x128x512_S2x4x4x128x512_4_3_3_4_012_012 none (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))))) (res_main_while0b_v127 V0) : (Proc.devRef .tc main_while0b_v140 : DevRef τ sig).ty.Contents (Elt F)) = Cert.ReferenceIdeal.Step.b33 j s := by
  unfold Cert.ReferenceIdeal.Step.b33
  rw [← al_32 h, ← al_20 h]
  try rfl
set_option maxRecDepth 8192 in
theorem al_34 (h : Holds V0 s j) : (broadcastInDim S2x1x4x128x1 ![0, 2, 3] bcast_S2x4x128_S2x1x4x128x1_0_2_3 (V0 (Proc.devRef .tc main_v114_6)) : (Proc.devRef .tc main_while0b_v141 : DevRef τ sig).ty.Contents (Elt F)) = Cert.ReferenceIdeal.Step.b34 j s := by
  unfold Cert.ReferenceIdeal.Step.b34
  rw [h.f_6]
  try rfl
set_option maxRecDepth 8192 in
theorem al_35 (h : Holds V0 s j) : (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))) : (Proc.devRef .tc main_while0b_v142 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6)))) : (Proc.devRef .tc main_while0b_v143 : DevRef τ sig).ty.Contents (Elt F)) = Cert.ReferenceIdeal.Step.b36 j s := by
  unfold Cert.ReferenceIdeal.Step.b36
  rw [← al_6 h, ← al_35 h]
  try rfl
set_option maxRecDepth 8192 in
theorem al_37 (h : Holds V0 s j) : (Host.dotGeneral dot_S2x4x4x128x256_S2x4x4x256x512_S2x4x4x128x512_4_3_3_4_012_012 none (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))))) (V0 (Proc.devRef .tc main_v114_8)) : (Proc.devRef .tc main_while0b_v144 : DevRef τ sig).ty.Contents (Elt F)) = Cert.ReferenceIdeal.Step.b37 j s := by
  unfold Cert.ReferenceIdeal.Step.b37
  rw [← al_36 h, h.f_8]
  try rfl
set_option maxRecDepth 8192 in
theorem al_38 (h : Holds V0 s j) : (addf (Host.dotGeneral dot_S2x4x4x128x128_S2x4x4x128x512_S2x4x4x128x512_4_3_3_4_012_012 none (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))))) (res_main_while0b_v127 V0)) (Host.dotGeneral dot_S2x4x4x128x256_S2x4x4x256x512_S2x4x4x128x512_4_3_3_4_012_012 none (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))))) (V0 (Proc.devRef .tc main_v114_8))) : (Proc.devRef .tc main_while0b_v145 : DevRef τ sig).ty.Contents (Elt F)) = Cert.ReferenceIdeal.Step.b38 j s := by
  unfold Cert.ReferenceIdeal.Step.b38
  rw [← al_33 h, ← al_37 h]
  try rfl
set_option maxRecDepth 8192 in
theorem al_39 (h : Holds V0 s j) : (broadcastInDim S1x2x4x4x128x512 ![1, 2, 3, 4, 5] bcast_S2x4x4x128x512_S1x2x4x4x128x512_1_2_3_4_5 (addf (Host.dotGeneral dot_S2x4x4x128x128_S2x4x4x128x512_S2x4x4x128x512_4_3_3_4_012_012 none (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))))) (res_main_while0b_v127 V0)) (Host.dotGeneral dot_S2x4x4x128x256_S2x4x4x256x512_S2x4x4x128x512_4_3_3_4_012_012 none (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))))) (V0 (Proc.devRef .tc main_v114_8)))) : (Proc.devRef .tc main_while0b_call11_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call11_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call11_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call11_c_1 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call11_c_2 : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call11_c_3 : DevRef τ sig).ty.Contents (Elt F)) = Cert.ReferenceIdeal.Step.b44 j s := by
  unfold Cert.ReferenceIdeal.Step.b44
  rfl
set_option maxRecDepth 8192 in
theorem al_45 (h : Holds V0 s j) : (Host.dynamicUpdateSlice (V0 (Proc.devRef .tc main_v114_9)) (broadcastInDim S1x2x4x4x128x512 ![1, 2, 3, 4, 5] bcast_S2x4x4x128x512_S1x2x4x4x128x512_1_2_3_4_5 (addf (Host.dotGeneral dot_S2x4x4x128x128_S2x4x4x128x512_S2x4x4x128x512_4_3_3_4_012_012 none (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))))) (res_main_while0b_v127 V0)) (Host.dotGeneral dot_S2x4x4x128x256_S2x4x4x256x512_S2x4x4x128x512_4_3_3_4_012_012 none (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))))) (V0 (Proc.devRef .tc main_v114_8))))) (fun k => (((![V0 (Proc.devRef .tc main_v114_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S34x2x4x4x128x512_S1x2x4x4x128x512 : (Proc.devRef .tc main_while0b_v146 : DevRef τ sig).ty.Contents (Elt F)) = Cert.ReferenceIdeal.Step.b45 j s := by
  unfold Cert.ReferenceIdeal.Step.b45
  rw [← al_39 h, ← al_40 h, ← al_41 h, ← al_42 h, ← al_43 h, ← al_44 h, h.f_9, h.n_7]
  try rfl

/-! One trip's step of the carried values is `step`, field by field; a counter steps to the next number. -/

theorem step_8 (h : Holds V0 s j) : step_main_v114_8 V0 = (step j s).main_v114_8 := by
  unfold step_main_v114_8 Cert.ReferenceIdeal.Step.step
  show id (addf (mulf (V0 (Proc.devRef .tc main_v114_8)) (broadcastInDim S2x4x4x256x512 ![0, 1, 2, 3, 4] bcast_S2x1x4x1x1_S2x4x4x256x512_0_1_2_3_4 (broadcastInDim S2x1x4x1x1 ![0, 2] bcast_S2x4_S2x1x4x1x1_0_2 (V0 (Proc.devRef .tc main_v114_3))))) (Host.dotGeneral dot_S2x4x4x128x256_S2x4x4x128x512_S2x4x4x256x512_3_3_4_4_012_012 none (mulf (res_main_while0b_v126 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_4))))) (res_main_while0b_v127 V0))) = _
  rw [al_28 h]
  try rfl
theorem step_9 (h : Holds V0 s j) : step_main_v114_9 V0 = (step j s).main_v114_9 := by
  unfold step_main_v114_9 Cert.ReferenceIdeal.Step.step
  show id (Host.dynamicUpdateSlice (V0 (Proc.devRef .tc main_v114_9)) (broadcastInDim S1x2x4x4x128x512 ![1, 2, 3, 4, 5] bcast_S2x4x4x128x512_S1x2x4x4x128x512_1_2_3_4_5 (addf (Host.dotGeneral dot_S2x4x4x128x128_S2x4x4x128x512_S2x4x4x128x512_4_3_3_4_012_012 none (mulf (Host.dotGeneral dot_S2x4x4x128x256_S2x4x4x128x256_S2x4x4x128x128_4_4_3_3_012_012 none (res_main_while0b_v125 V0) (res_main_while0b_v126 V0)) (broadcastInDim S2x4x4x128x128 ![0, 1, 2, 3, 4] bcast_S2x1x4x128x128_S2x4x4x128x128_0_1_2_3_4 (broadcastInDim S2x1x4x128x128 ![0, 2, 3, 4] bcast_S2x4x128x128_S2x1x4x128x128_0_2_3_4 (V0 (Proc.devRef .tc main_v114_5))))) (res_main_while0b_v127 V0)) (Host.dotGeneral dot_S2x4x4x128x256_S2x4x4x256x512_S2x4x4x128x512_4_3_3_4_012_012 none (mulf (res_main_while0b_v125 V0) (broadcastInDim S2x4x4x128x256 ![0, 1, 2, 3, 4] bcast_S2x1x4x128x1_S2x4x4x128x256_0_1_2_3_4 (broadcastInDim S2x1x4x128x1 ![0, 2, 3] bcast_S2x4x128_S2x1x4x128x1_0_2_3 (V0 (Proc.devRef .tc main_v114_6))))) (V0 (Proc.devRef .tc main_v114_8))))) (fun k => (((![V0 (Proc.devRef .tc main_v114_7), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S34x2x4x4x128x512_S1x2x4x4x128x512) = _
  exact al_45 h
theorem step_7 (h : Holds V0 s j) : step_main_v114_7 V0 = constantI S_ 32 (BitVec.ofNat 32 (j + 1)) := by
  unfold step_main_v114_7
  rw [h.n_7]
  funext i
  show BitVec.ofNat 32 j + 1#32 = BitVec.ofNat 32 (j + 1)
  simp only [BitVec.ofNat_add]

set_option maxRecDepth 8192 in
theorem out_main_v124_holds (h : Holds V0 s j) : out_main_v124 V0 = Cert.ReferenceIdeal.Step.R_main_v124 s := by
  unfold out_main_v124 Cert.ReferenceIdeal.Step.R_main_v124
  rw [h.f_9]
  try rfl

/-- One trip keeps the valuation holding: `step` of the state, the same set-up values, the next number. -/
theorem holds_step (h : Holds V0 s j) : Holds (STEP V0) (step j s) (j + 1) where
  f_8 := (STEP_main_v114_8 V0).trans (step_8 h)
  f_9 := (STEP_main_v114_9 V0).trans (step_9 h)
  n_7 := (STEP_main_v114_7 V0).trans (step_7 h)
  f_0 := (STEP_main_v114_0 V0).trans h.f_0
  f_1 := (STEP_main_v114_1 V0).trans h.f_1
  f_2 := (STEP_main_v114_2 V0).trans h.f_2
  f_3 := (STEP_main_v114_3 V0).trans h.f_3
  f_4 := (STEP_main_v114_4 V0).trans h.f_4
  f_5 := (STEP_main_v114_5 V0).trans h.f_5
  f_6 := (STEP_main_v114_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

/-- A concatenation of two pieces. -/
def cat2 {α : Type} (t : Shape) (a : Fin t.rank) (s₁ s₂ : Shape) (x : s₁.Idx → α) (y : s₂.Idx → α)
    (h : Shape.Concatenates [s₁, s₂] t a) : t.Idx → α := concatenate t a [⟨s₁, x⟩, ⟨s₂, y⟩] h

theorem cat2_eq {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = cat2 t a s₁ s₂ x y h := rfl

set_option maxRecDepth 65536 in
open Cert.ReferenceIdeal.Step in
/-- The queries the operations before the loop leave. -/
theorem entry_0 : entryContents preI m c (Proc.devRef .tc main_v114_0) = (initState m c).main_v114_0 := by
  dsimp only [initState, init]
  unfold A_main_v108
    A_main_v107
    A_main_v57
    A_main_v56
    A_main_v54
    A_main_v53
    A_main_v52
    A_main_v55
    A_main_v51
    A_main_v8
    A_main_v1
    A_main_v0
    A_main_v28
    A_main_v27
    A_main_v26
    A_main_v25
    A_main_v24
    A_main_v23
    A_main_v22
    A_main_v21
    A_main_v20
    A_main_v17
    A_main_v15
    A_main_v19
    A_main_v18
    A_main_v16
    A_main_v14
    A_main_v13
    A_main_v5
    A_main_v4
  simp only [entryContents, afterL_cons, afterL_nil]
  after_reads_simp [cat2_eq, unaryIndexed_result', binaryIndexed_result']
  rfl

set_option maxRecDepth 65536 in
open Cert.ReferenceIdeal.Step in
/-- The keys the operations before the loop leave. -/
theorem entry_1 : entryContents preI m c (Proc.devRef .tc main_v114_1) = (initState m c).main_v114_1 := by
  dsimp only [initState, init]
  unfold A_main_v110
    A_main_v109
    A_main_v64
    A_main_v63
    A_main_v61
    A_main_v60
    A_main_v59
    A_main_v62
    A_main_v58
    A_main_v46
    K_main_v45
    K_main_cst_0
    A_main_v44
    A_main_v43
    A_main_v42
    A_main_v41
    A_main_v40
    A_main_v39
    A_main_v38
    A_main_v37
    A_main_v36
    A_main_v33
    A_main_v31
    A_main_v35
    A_main_v34
    A_main_v32
    A_main_v30
    A_main_v29
    A_main_v6
    A_main_v4
    A_main_v11
    K_main_v10
    K_main_cst
    A_main_v9
    A_main_v2
    A_main_v0
  simp only [entryContents, afterL_cons, afterL_nil]
  after_reads_simp [cat2_eq, unaryIndexed_result', binaryIndexed_result']
  rfl

set_option maxRecDepth 65536 in
open Cert.ReferenceIdeal.Step in
/-- The values the operations before the loop leave. -/
theorem entry_2 : entryContents preI m c (Proc.devRef .tc main_v114_2) = (initState m c).main_v114_2 := by
  dsimp only [initState, init]
  unfold A_main_v112
    A_main_v111
    A_main_v71
    A_main_v70
    A_main_v68
    A_main_v67
    A_main_v66
    A_main_v69
    A_main_v65
    A_main_v47
    A_main_v7
    A_main_v4
    A_main_v12
    A_main_v3
    A_main_v0
  simp only [entryContents, afterL_cons, afterL_nil]
  after_reads_simp [cat2_eq, unaryIndexed_result', binaryIndexed_result']
  rfl

set_option maxRecDepth 65536 in
/-- What @main's operations before the loop leave: the set-up values, number 0, the initial state. -/
theorem entry_holds : Holds (entryContents preI m c) (initState m c) 0 := by
  refine ⟨?_, ?_, entry_0 m c, entry_1 m c, entry_2 m c, ?_, ?_, ?_, ?_, ?_⟩ <;>
    (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 34 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v124) = Cert.ReferenceIdeal.Step.R_main_v124 (it c 34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 34
    ⟨(h c).1.trans (out_main_v124_holds hk), (h c).2.1, (h c).2.2.1, (h c).2.2.2.1, (h c).2.2.2.2.1, (h c).2.2.2.2.2⟩) (Value.run m ρ)

end Cert.Ret.RefRun

end
-- ==== Proof.Ret.RefValue.lean ====
/- The reference's result: the two directions' outputs for the latents, added. -/
module

public import proofs.«01_k».proof.Proof.Ret.RefInv
public import proofs.«01_k».proof.Proof.Ret.RefRun

@[expose] public section

set_option maxRecDepth 16384

noncomputable section

namespace Cert.Ret.Ref

open Cert.ReferenceIdeal Cert.ReferenceIdeal.Gen Cert.ReferenceIdeal.Step Idealize.ShloMosaic Idealize.ShloMosaic.TcCoe
  Idealize.SL.Sem

/-- The chunks put back in a row, at an index. -/
theorem row_at (x : Vec Ideal S34x2x4x4x128x512 .f32) (z : Fin 2) (b h : Fin 4) (y : Fin 4352) (v : Fin 512) :
    shapeCast S2x4x4352x4x512 (transpose S2x4x34x128x4x512 [1, 2, 0, 4, 3, 5] x
      transposes_S34x2x4x4x128x512_S2x4x34x128x4x512_1_2_0_4_3_5) shapeCasts_S2x4x34x128x4x512_S2x4x4352x4x512 (ix5 z b y h v)
      = x (ix6 ⟨y.val / 128, by omega⟩ z b h ⟨y.val % 128, Nat.mod_lt _ (by norm_num)⟩ v) := by
  pointwise

/-- The forward outputs of the latents. -/
theorem fwd_at (x : Vec Ideal S2x4x4352x4x512 .f32) (b h : Fin 4) (y : Fin 4096) (v : Fin 512) :
    shapeCast S4x4096x4x512 (extractStridedSlice S1x4x4096x4x512 ![0, 0, 0, 0, 0] (extractStridedSlice S2x4x4096x4x512
      ![0, 0, 256, 0, 0] x slices_S2x4x4352x4x512_S2x4x4096x4x512_0_0_256_0_0) slices_S2x4x4096x4x512_S1x4x4096x4x512_0_0_0_0_0)
      shapeCasts_S1x4x4096x4x512_S4x4096x4x512 (ix4 b y h v) = x (ix5 0 b ⟨256 + y.val, by omega⟩ h v) := by
  pointwise
  try rfl

/-- The backward outputs of the latents. -/
theorem bwd_at (x : Vec Ideal S2x4x4352x4x512 .f32) (b h : Fin 4) (y : Fin 4096) (v : Fin 512) :
    shapeCast S4x4096x4x512 (extractStridedSlice S1x4x4096x4x512 ![1, 0, 0, 0, 0] (extractStridedSlice S2x4x4096x4x512
      ![0, 0, 256, 0, 0] x slices_S2x4x4352x4x512_S2x4x4096x4x512_0_0_256_0_0) slices_S2x4x4096x4x512_S1x4x4096x4x512_1_0_0_0_0)
      shapeCasts_S1x4x4096x4x512_S4x4096x4x512 (ix4 b y h v) = x (ix5 1 b ⟨256 + y.val, by omega⟩ h v) := by
  pointwise
  try rfl

/-- The heads put side by side, at an index. -/
theorem heads_at (x y : Vec Ideal S4x4096x4x512 .f32) (b : Fin 4) (t : Fin 4096) (j : Fin 2048) :
    shapeCast S4x4096x2048 (addf (F := Ideal) (φ := .f32) x y) shapeCasts_S4x4096x4x512_S4x4096x2048 (ix3 b t j)
      = x (ix4 b t ⟨j.val / 512, by omega⟩ ⟨j.val % 512, Nat.mod_lt _ (by norm_num)⟩)
        + y (ix4 b t ⟨j.val / 512, by omega⟩ ⟨j.val % 512, Nat.mod_lt _ (by norm_num)⟩) := by
  pointwise

variable (x0 : Vec Ideal S4x4096x8192 .bf16) (x1 : Vec Ideal S4x256x8192 .bf16) (x2 : Vec Ideal S2x4 .f32)
  (x3 x4 : Vec Ideal S4096x128 .f32)

/-- The reference's result is the retention. -/
theorem result_eq : R_main_v124 (iter x0 x1 x2 x3 x4 34) = retOf x0 x1 x2 x3 x4 := by
  have i := inv_iter x0 x1 x2 x3 x4 34 (le_refl _)
  funext w
  obtain ⟨⟨b, t, j⟩, rfl⟩ : ∃ p : Fin 4 × Fin 4096 × Fin 2048, ix3 p.1 p.2.1 p.2.2 = w :=
    ⟨(w 0, w 1, w 2), by funext a; match a with | ⟨0, _⟩ | ⟨1, _⟩ | ⟨2, _⟩ => rfl⟩
  unfold R_main_v124
  refine (heads_at _ _ b t j).trans ?_
  rw [fwd_at, rev_lat512, bwd_at, row_at, row_at, i.out _ (Fin.isLt _), i.out _ (Fin.isLt _)]
  show _ = Both (memArgs x0 x1 x2 x3 x4 b ⟨j.val / 512, by omega⟩) (t.val / 128) ⟨t.val % 128, Nat.mod_lt _ (by norm_num)⟩
    ⟨j.val % 512, Nat.mod_lt _ (by norm_num)⟩
  unfold Both
  refine congrArg₂ (· + ·) ?_ ?_
  · have e1 : (256 + t.val) / 128 = t.val / 128 + 2 := by omega
    have e2 : rv 0 ⟨(256 + t.val) % 128, Nat.mod_lt _ (by norm_num)⟩ = ⟨t.val % 128, Nat.mod_lt _ (by norm_num)⟩ :=
      Fin.ext (show (256 + t.val) % 128 = t.val % 128 by omega)
    rw [e2]
    exact congrArg (fun n => Out _ 0 n _ _) e1
  · have e1 : (256 + t.rev.val) / 128 = 33 - t.val / 128 := by rw [Fin.val_rev]; omega
    have e2 : rv 1 ⟨(256 + t.rev.val) % 128, Nat.mod_lt _ (by norm_num)⟩ = ⟨t.val % 128, Nat.mod_lt _ (by norm_num)⟩ :=
      Fin.ext (show 127 - (256 + t.rev.val) % 128 = t.val % 128 by rw [Fin.val_rev]; omega)
    rw [e2]
    exact congrArg (fun n => Out _ 1 n _ _) e1

/-- The reference's run: its result is the retention of the launch's arguments, which it leaves as they are. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v124) = retOf (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq _ _ _ _ _), (h c).2⟩)
    (RefRun.run_iter m ρ (fun c => iter (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (fun _ => rfl) fun _ _ => rfl)

end Cert.Ret.Ref
-- ==== Proof.Ffn.Steps.lean ====
/- What one grid step of the feed-forward kernel leaves in its scratch and in its output block, as the step's own
   vector expressions of the blocks it reads and of what the step before left. -/
module

public import proofs.«01_k».proof.Proof.Gen.Kernel2Ideal.Frame
public import Idealize.ShloMosaic.Lib.Pipeline.Value
public import Idealize.ShloMosaic.Lib.Tactic

@[expose] public section

set_option maxRecDepth 16384

noncomputable section

namespace Cert.Ffn

open Cert.Kernel2Ideal Cert.Kernel2Ideal.Gen Idealize.ShloMosaic Idealize.ShloMosaic.TcCoe Idealize.SL.Sem

variable {F : FTy → Type} [FloatOps F]

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The first step of a row block leaves the modulated rows. -/
theorem sout0_A_0_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 x0 x1 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- The first step of a row block leaves the first share of the sum over the hidden features. -/
theorem sout0_A_1_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (k0_pay1 x0 x1 x2 x3) x5 x6 (k0_pay2 (F := F)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- A middle step adds its share to the sum. -/
theorem sout0_B_1_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : ¬cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xs0 : Vec F S512x2048 .bf16) (xs1 : Vec F S512x2048 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- The last step leaves the normalised rows. -/
theorem out0_C_9_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : ¬cond0_0 i) (hc1 : cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xs0 : Vec F S512x2048 .bf16) (xs1 : Vec F S512x2048 .f32) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 x0 x4 (k0_pay3 xs0 x5 x6 xs1 x7) x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  simp only [View.canon_cons_unit_zero (S := S1x512x2048) z3, View.canon_unit_zero (S := S1x512x2048) z3, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

end Cert.Ffn

end
-- ==== Proof.Ffn.Spec.lean ====
/- The feed-forward block of one token over the extended reals: the token's row normalised and modulated, the gated
   hidden features, their sum back into the row, the residual, and the final normalisation. Both the kernel and the
   reference are shown to compute these functions. -/
module

public import Idealize.ShloMosaic.Lib.Pointwise

@[expose] public section

noncomputable section

namespace Cert.Ffn

open Idealize.ShloMosaic

/-- The factor that normalises a row: one over the root of its mean square, offset by the small constant. -/
def rs (v : Fin 2048 → EReal) : EReal :=
  Ideal.rsqrt (Ideal.div (∑ k, v k * v k) (Ideal.ofBits .f32 0x45000000#32) + Ideal.ofBits .f32 0x358637BD#32)

/-- A row normalised, scaled by `g`, and modulated by `sc` and `sh`. -/
def modulated (x g sh sc : Fin 2048 → EReal) (k : Fin 2048) : EReal := x k * rs x * g k * (1 + sc k) + sh k

/-- One hidden feature of a row `h`: the gate `u · h` through `x · logistic x`, times `w · h`. -/
def hidden (h u w : Fin 2048 → EReal) : EReal :=
  (∑ k, h k * u k) * Ideal.logistic (∑ k, h k * u k) * ∑ k, h k * w k

/-- What the block reads for one token: the row, the weights of its norms, its modulation and the three matrices. -/
structure Row where
  /-- the token's row -/
  x : Fin 2048 → EReal
  /-- the weight of the norm before the block -/
  g : Fin 2048 → EReal
  /-- the modulation's shift -/
  sh : Fin 2048 → EReal
  /-- the modulation's scale -/
  sc : Fin 2048 → EReal
  /-- the residual's gate -/
  gt : Fin 2048 → EReal
  /-- the gate's matrix -/
  w1 : Fin 2048 → Fin 5632 → EReal
  /-- the other input matrix -/
  w3 : Fin 2048 → Fin 5632 → EReal
  /-- the output matrix -/
  w2 : Fin 5632 → Fin 2048 → EReal
  /-- the weight of the final norm -/
  f : Fin 2048 → EReal

variable (R : Row)

/-- The row going into the block. -/
def Row.h : Fin 2048 → EReal := modulated R.x R.g R.sh R.sc

/-- Hidden feature `n`'s share of output feature `j`; nothing past the last one. -/
def Row.term (j : Fin 2048) (n : ℕ) : EReal :=
  if h : n < 5632 then hidden R.h (fun k => R.w1 k ⟨n, h⟩) (fun k => R.w3 k ⟨n, h⟩) * R.w2 ⟨n, h⟩ j else 0

/-- The share of one of the features there are. -/
theorem Row.term_lt (j : Fin 2048) (n : ℕ) (h : n < 5632) :
    R.term j n = hidden R.h (fun k => R.w1 k ⟨n, h⟩) (fun k => R.w3 k ⟨n, h⟩) * R.w2 ⟨n, h⟩ j := dif_pos h

/-- The gated residual of one feature. -/
def resid (x g a : EReal) : EReal := x + g * a

/-- The row after the gated residual. -/
def Row.y (j : Fin 2048) : EReal := resid (R.x j) (R.gt j) (∑ n ∈ Finset.range 5632, R.term j n)

/-- The row after the final normalisation. -/
def Row.out (j : Fin 2048) : EReal := R.y j * rs R.y * R.f j

/-- The sum over all hidden features, as a sum over the matrices' own index. -/
theorem Row.sum_term (j : Fin 2048) : ∑ n ∈ Finset.range 5632, R.term j n
    = ∑ n : Fin 5632, hidden R.h (fun k => R.w1 k n) (fun k => R.w3 k n) * R.w2 n j := by
  rw [Finset.sum_range]
  exact Finset.sum_congr rfl fun n _ => R.term_lt j n.val n.isLt

/-- A further block of 512 hidden features. -/
theorem Row.sum_step (j : Fin 2048) (s : ℕ) : ∑ n ∈ Finset.range (512 * (s + 1)), R.term j n
    = (∑ n ∈ Finset.range (512 * s), R.term j n) + ∑ k : Fin 512, R.term j (512 * s + k.val) := by
  rw [Nat.mul_succ, Finset.sum_range_add, ← Finset.sum_range (fun k => R.term j (512 * s + k))]

end Cert.Ffn

end
-- ==== Proof.Ffn.Payloads.lean ====
/- The feed-forward kernel's vector expressions, element by element. -/
module

public import proofs.«01_k».proof.Proof.Gen.Kernel2Ideal.Skeleton
public import proofs.«01_k».proof.Proof.Ffn.Spec

@[expose] public section

set_option maxRecDepth 16384

noncomputable section

namespace Cert.Ffn

open Cert.Kernel2Ideal Cert.Kernel2Ideal.Gen Idealize.ShloMosaic

/-- The modulated rows. -/
theorem pay1_at (x : Vec Ideal S1x512x2048 .f32) (g : Vec Ideal S1x2048 .f32) (s z : Vec Ideal S1x1x2048 .f32)
    (r : Fin 512) (j : Fin 2048) : k0_pay1 x g s z (ix2 r j)
      = modulated (fun k => x (ix3 0 r k)) (fun k => g (ix2 0 k)) (fun k => s (ix3 0 0 k)) (fun k => z (ix3 0 0 k)) j := by
  unfold k0_pay1
  pointwise
  rfl

/-- The sum starts from zero. -/
theorem pay2_at (r : Fin 512) (j : Fin 2048) : k0_pay2 (F := Ideal) (ix2 r j) = 0 := by
  unfold k0_pay2
  pointwise

/-- The sum and the share of a block of hidden features. -/
theorem pay3_at (h : Vec Ideal S512x2048 .bf16) (w1 w3 : Vec Ideal S2048x512 .bf16) (a : Vec Ideal S512x2048 .f32)
    (w2 : Vec Ideal S512x2048 .bf16) (r : Fin 512) (j : Fin 2048) : k0_pay3 h w1 w3 a w2 (ix2 r j)
      = a (ix2 r j) + ∑ n : Fin 512, hidden (fun k => h (ix2 r k)) (fun k => w1 (ix2 k n)) (fun k => w3 (ix2 k n)) * w2 (ix2 n j) := by
  unfold k0_pay3
  pointwise
  rfl

/-- The residual and the final normalisation. -/
theorem pay4_at (x : Vec Ideal S1x512x2048 .f32) (g : Vec Ideal S1x1x2048 .f32) (a : Vec Ideal S512x2048 .f32)
    (f : Vec Ideal S1x2048 .f32) (r : Fin 512) (j : Fin 2048) : k0_pay4 x g a f (ix3 0 r j)
      = resid (x (ix3 0 r j)) (g (ix3 0 0 j)) (a (ix2 r j))
        * rs (fun k => resid (x (ix3 0 r k)) (g (ix3 0 0 k)) (a (ix2 r k))) * f (ix2 0 j) := by
  unfold k0_pay4
  pointwise
  rfl

end Cert.Ffn

end
-- ==== Proof.Ffn.Blocks.lean ====
/- The feed-forward kernel's windows, element by element, in terms of the arguments. -/
module

public import proofs.«01_k».proof.Proof.Gen.Kernel2Ideal.Frame.Runs
public import Idealize.ShloMosaic.Lib.Pipeline.Value
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.SL.Sem

/-- A grid point's number is below 352. -/
theorem lt_N (t : Fin cfg0.N) : t.val < 352 := lt_of_lt_of_eq t.isLt (show cfg0.N = 352 from N_0)

/-- Window 0's block index at a grid point. -/
theorem idx0 : ∀ t : Fin cfg0.N, win0_0.index t = ![t.val / 88, t.val / 11 % 8, 0] :=
  (by decide +kernel : ∀ t : Fin grid0.N, win0_0.index t = ![t.val / 88, t.val / 11 % 8, 0])

/-- Window 1's block index at a grid point. -/
theorem idx1 : ∀ t : Fin cfg0.N, win0_1.index t = ![0, 0] :=
  (by decide +kernel : ∀ t : Fin grid0.N, win0_1.index t = ![0, 0])

/-- Window 2's block index at a grid point. -/
theorem idx2 : ∀ t : Fin cfg0.N, win0_2.index t = ![t.val / 88, 0, 0] :=
  (by decide +kernel : ∀ t : Fin grid0.N, win0_2.index t = ![t.val / 88, 0, 0])

/-- Window 3's block index at a grid point. -/
theorem idx3 : ∀ t : Fin cfg0.N, win0_3.index t = ![t.val / 88, 0, 0] :=
  (by decide +kernel : ∀ t : Fin grid0.N, win0_3.index t = ![t.val / 88, 0, 0])

/-- Window 4's block index at a grid point. -/
theorem idx4 : ∀ t : Fin cfg0.N, win0_4.index t = ![t.val / 88, 0, 0] :=
  (by decide +kernel : ∀ t : Fin grid0.N, win0_4.index t = ![t.val / 88, 0, 0])

/-- Window 5's block index at a grid point. -/
theorem idx5 : ∀ t : Fin cfg0.N, win0_5.index t = ![0, t.val % 11] :=
  (by decide +kernel : ∀ t : Fin grid0.N, win0_5.index t = ![0, t.val % 11])

/-- Window 6's block index at a grid point. -/
theorem idx6 : ∀ t : Fin cfg0.N, win0_6.index t = ![0, t.val % 11] :=
  (by decide +kernel : ∀ t : Fin grid0.N, win0_6.index t = ![0, t.val % 11])

/-- Window 7's block index at a grid point. -/
theorem idx7 : ∀ t : Fin cfg0.N, win0_7.index t = ![t.val % 11, 0] :=
  (by decide +kernel : ∀ t : Fin grid0.N, win0_7.index t = ![t.val % 11, 0])

/-- Window 8's block index at a grid point. -/
theorem idx8 : ∀ t : Fin cfg0.N, win0_8.index t = ![0, 0] :=
  (by decide +kernel : ∀ t : Fin grid0.N, win0_8.index t = ![0, 0])

variable (m : (ℓ : Loc nD τ sig) → Buf (Elt Ideal) ℓ)

/-- The gate matrix as the kernel finds it: the argument. -/
theorem V0_at (c : Dev nD) (a : Fin 2048) (b : Fin 5632) :
    V m c main_v0 (ix2 a b) = m ((c : Thread nD τ).loc main_arg5) (ix2 a b) := by
  show StableHlo.after hostOps0 _ main_v0 _ = _
  unfold hostOps0
  after_results_simp
  rfl

/-- The other input matrix as the kernel finds it: the argument. -/
theorem V1_at (c : Dev nD) (a : Fin 2048) (b : Fin 5632) :
    V m c main_v1 (ix2 a b) = m ((c : Thread nD τ).loc main_arg6) (ix2 a b) := by
  show StableHlo.after hostOps0 _ main_v1 _ = _
  unfold hostOps0
  after_results_simp
  rfl

/-- The output matrix as the kernel finds it: the argument. -/
theorem V2_at (c : Dev nD) (a : Fin 5632) (b : Fin 2048) :
    V m c main_v2 (ix2 a b) = m ((c : Thread nD τ).loc main_arg7) (ix2 a b) := by
  show StableHlo.after hostOps0 _ main_v2 _ = _
  unfold hostOps0
  after_results_simp
  rfl

/-- The first norm's weight as the kernel finds it: the argument, in one row. -/
theorem V3_at (c : Dev nD) (b : Fin 2048) :
    V m c main_v3 (ix2 0 b) = m ((c : Thread nD τ).loc main_arg1) (ix1 b) := by
  show StableHlo.after hostOps0 _ main_v3 _ = _
  unfold hostOps0
  after_results_simp
  show shapeCast S1x2048 (m ((c : Thread nD τ).loc main_arg1)) shapeCasts_S2048_S1x2048 (ix2 0 b) = _
  pointwise

/-- The final norm's weight as the kernel finds it: the argument, in one row. -/
theorem V4_at (c : Dev nD) (b : Fin 2048) :
    V m c main_v4 (ix2 0 b) = m ((c : Thread nD τ).loc main_arg8) (ix1 b) := by
  show StableHlo.after hostOps0 _ main_v4 _ = _
  unfold hostOps0
  after_results_simp
  show shapeCast S1x2048 (m ((c : Thread nD τ).loc main_arg8)) shapeCasts_S2048_S1x2048 (ix2 0 b) = _
  pointwise

/-- The block of rows. -/
theorem iblk0_at (c : Dev nD) (t : Fin cfg0.N) (r : Fin 512) (k : Fin 2048) :
    iblk m c 0 t (ix3 0 r k) = m ((c : Thread nD τ).loc main_arg0) (ix3 ⟨t.val / 88, by have := lt_N t; omega⟩ ⟨512 * (t.val / 11 % 8) + r.val, by omega⟩ k) := by
  have ht := lt_N t
  unfold iblk
  rw [View.read_apply]
  show V m c main_arg0 _ = _
  rw [V_main_arg0]
  refine congrArg (m ((c : Thread nD τ).loc main_arg0)) ?_
  blk_ext [idx0]

/-- The first norm's weight. -/
theorem iblk1_at (c : Dev nD) (t : Fin cfg0.N) (k : Fin 2048) :
    iblk m c 1 t (ix2 0 k) = m ((c : Thread nD τ).loc main_arg1) (ix1 k) := by
  have ht := lt_N t
  refine Eq.trans ?_ (V3_at m c k)
  unfold iblk
  rw [View.read_apply]
  show V m c main_v3 _ = _
  refine congrArg (V m c main_v3) ?_
  blk_ext [idx1]

/-- The batch entry's shift. -/
theorem iblk2_at (c : Dev nD) (t : Fin cfg0.N) (k : Fin 2048) :
    iblk m c 2 t (ix3 0 0 k) = m ((c : Thread nD τ).loc main_arg2) (ix3 ⟨t.val / 88, by have := lt_N t; omega⟩ 0 k) := by
  have ht := lt_N t
  unfold iblk
  rw [View.read_apply]
  show V m c main_arg2 _ = _
  rw [V_main_arg2]
  refine congrArg (m ((c : Thread nD τ).loc main_arg2)) ?_
  blk_ext [idx2]

/-- The batch entry's scale. -/
theorem iblk3_at (c : Dev nD) (t : Fin cfg0.N) (k : Fin 2048) :
    iblk m c 3 t (ix3 0 0 k) = m ((c : Thread nD τ).loc main_arg3) (ix3 ⟨t.val / 88, by have := lt_N t; omega⟩ 0 k) := by
  have ht := lt_N t
  unfold iblk
  rw [View.read_apply]
  show V m c main_arg3 _ = _
  rw [V_main_arg3]
  refine congrArg (m ((c : Thread nD τ).loc main_arg3)) ?_
  blk_ext [idx3]

/-- The batch entry's gate. -/
theorem iblk4_at (c : Dev nD) (t : Fin cfg0.N) (k : Fin 2048) :
    iblk m c 4 t (ix3 0 0 k) = m ((c : Thread nD τ).loc main_arg4) (ix3 ⟨t.val / 88, by have := lt_N t; omega⟩ 0 k) := by
  have ht := lt_N t
  unfold iblk
  rw [View.read_apply]
  show V m c main_arg4 _ = _
  rw [V_main_arg4]
  refine congrArg (m ((c : Thread nD τ).loc main_arg4)) ?_
  blk_ext [idx4]

/-- The gate matrix's block of columns. -/
theorem iblk5_at (c : Dev nD) (t : Fin cfg0.N) (k : Fin 2048) (n : Fin 512) :
    iblk m c 5 t (ix2 k n) = m ((c : Thread nD τ).loc main_arg5) (ix2 k ⟨512 * (t.val % 11) + n.val, by omega⟩) := by
  have ht := lt_N t
  refine Eq.trans ?_ (V0_at m c k ⟨512 * (t.val % 11) + n.val, by omega⟩)
  unfold iblk
  rw [View.read_apply]
  show V m c main_v0 _ = _
  refine congrArg (V m c main_v0) ?_
  blk_ext [idx5]

/-- The other input matrix's block of columns. -/
theorem iblk6_at (c : Dev nD) (t : Fin cfg0.N) (k : Fin 2048) (n : Fin 512) :
    iblk m c 6 t (ix2 k n) = m ((c : Thread nD τ).loc main_arg6) (ix2 k ⟨512 * (t.val % 11) + n.val, by omega⟩) := by
  have ht := lt_N t
  refine Eq.trans ?_ (V1_at m c k ⟨512 * (t.val % 11) + n.val, by omega⟩)
  unfold iblk
  rw [View.read_apply]
  show V m c main_v1 _ = _
  refine congrArg (V m c main_v1) ?_
  blk_ext [idx6]

/-- The output matrix's block of rows. -/
theorem iblk7_at (c : Dev nD) (t : Fin cfg0.N) (n : Fin 512) (k : Fin 2048) :
    iblk m c 7 t (ix2 n k) = m ((c : Thread nD τ).loc main_arg7) (ix2 ⟨512 * (t.val % 11) + n.val, by omega⟩ k) := by
  have ht := lt_N t
  refine Eq.trans ?_ (V2_at m c ⟨512 * (t.val % 11) + n.val, by omega⟩ k)
  unfold iblk
  rw [View.read_apply]
  show V m c main_v2 _ = _
  refine congrArg (V m c main_v2) ?_
  blk_ext [idx7]

/-- The final norm's weight. -/
theorem iblk8_at (c : Dev nD) (t : Fin cfg0.N) (k : Fin 2048) :
    iblk m c 8 t (ix2 0 k) = m ((c : Thread nD τ).loc main_arg8) (ix1 k) := by
  have ht := lt_N t
  refine Eq.trans ?_ (V4_at m c k)
  unfold iblk
  rw [View.read_apply]
  show V m c main_v4 _ = _
  refine congrArg (V m c main_v4) ?_
  blk_ext [idx8]

end Cert.Ffn

end
-- ==== Proof.Ffn.Kernel.lean ====
/- The feed-forward kernel's result array: within a row block the steps add up the hidden features' shares, and the last
   one leaves the rows of the block after the residual and the final normalisation. -/
module

public import proofs.«01_k».proof.Proof.Gen.Kernel2Ideal.Value
public import proofs.«01_k».proof.Proof.Ffn.Steps
public import proofs.«01_k».proof.Proof.Ffn.Payloads
public import proofs.«01_k».proof.Proof.Ffn.Blocks

@[expose] public section

set_option maxRecDepth 16384

noncomputable section

namespace Cert.Ffn

open Cert.Kernel2Ideal Cert.Kernel2Ideal.Gen Cert.Kernel2Ideal.Value Idealize.ShloMosaic Idealize.ShloMosaic.TcCoe
  Idealize.SL.Sem

/-- What token `t` of batch entry `b` reads of the nine arguments. -/
def rowOf (x0 : S4x4096x2048.Idx → EReal) (x1 : S2048.Idx → EReal) (x2 x3 x4 : S4x1x2048.Idx → EReal)
    (x5 x6 : S2048x5632.Idx → EReal) (x7 : S5632x2048.Idx → EReal) (x8 : S2048.Idx → EReal) (b : Fin 4) (t : Fin 4096) : Row where
  x k := x0 (ix3 b t k)
  g k := x1 (ix1 k)
  sh k := x2 (ix3 b 0 k)
  sc k := x3 (ix3 b 0 k)
  gt k := x4 (ix3 b 0 k)
  w1 k n := x5 (ix2 k n)
  w3 k n := x6 (ix2 k n)
  w2 n k := x7 (ix2 n k)
  f k := x8 (ix1 k)

/-- The block's result for the nine arguments. -/
def ffnOf (x0 : S4x4096x2048.Idx → EReal) (x1 : S2048.Idx → EReal) (x2 x3 x4 : S4x1x2048.Idx → EReal)
    (x5 x6 : S2048x5632.Idx → EReal) (x7 : S5632x2048.Idx → EReal) (x8 : S2048.Idx → EReal) : S4x4096x2048.Idx → EReal :=
  fun i => (rowOf x0 x1 x2 x3 x4 x5 x6 x7 x8 (i 0) (i 1)).out (i 2)

variable (m : (ℓ : Loc nD τ sig) → Buf (Elt Ideal) ℓ)

/-- The token of row `r` of row block `q`, the row blocks numbered through the batch. -/
def rowAt (c : Dev nD) (q : ℕ) (hq : q < 32) (r : Fin 512) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    ⟨q / 8, by omega⟩ ⟨512 * (q % 8) + r.val, by omega⟩

/-- The row block of a grid point. -/
theorem q_lt (t : Fin cfg0.N) : t.val / 11 < 32 := by have := lt_N t; omega

variable (c : Dev nD) (t : Fin cfg0.N)

/-- The block of rows holds the row block's tokens. -/
theorem blk_x (r : Fin 512) (k : Fin 2048) : iblk m c 0 t (ix3 0 r k) = (rowAt m c (t.val / 11) (q_lt t) r).x k := by
  rw [iblk0_at]
  have e : (⟨t.val / 88, by have := lt_N t; omega⟩ : Fin 4) = ⟨t.val / 11 / 8, by have := lt_N t; omega⟩ := Fin.ext (by show t.val / 88 = t.val / 11 / 8; omega)
  rw [e]
  rfl

/-- The shift's block. -/
theorem blk_sh (r : Fin 512) (k : Fin 2048) : iblk m c 2 t (ix3 0 0 k) = (rowAt m c (t.val / 11) (q_lt t) r).sh k := by
  rw [iblk2_at]
  have e : (⟨t.val / 88, by have := lt_N t; omega⟩ : Fin 4) = ⟨t.val / 11 / 8, by have := lt_N t; omega⟩ := Fin.ext (by show t.val / 88 = t.val / 11 / 8; omega)
  rw [e]
  rfl

/-- The scale's block. -/
theorem blk_sc (r : Fin 512) (k : Fin 2048) : iblk m c 3 t (ix3 0 0 k) = (rowAt m c (t.val / 11) (q_lt t) r).sc k := by
  rw [iblk3_at]
  have e : (⟨t.val / 88, by have := lt_N t; omega⟩ : Fin 4) = ⟨t.val / 11 / 8, by have := lt_N t; omega⟩ := Fin.ext (by show t.val / 88 = t.val / 11 / 8; omega)
  rw [e]
  rfl

/-- The gate's block. -/
theorem blk_gt (r : Fin 512) (k : Fin 2048) : iblk m c 4 t (ix3 0 0 k) = (rowAt m c (t.val / 11) (q_lt t) r).gt k := by
  rw [iblk4_at]
  have e : (⟨t.val / 88, by have := lt_N t; omega⟩ : Fin 4) = ⟨t.val / 11 / 8, by have := lt_N t; omega⟩ := Fin.ext (by show t.val / 88 = t.val / 11 / 8; omega)
  rw [e]
  rfl

/-- The modulated rows of the first step are the row block's. -/
theorem first_h (r : Fin 512) (k : Fin 2048) :
    k0_pay1 (iblk m c 0 t) (iblk m c 1 t) (iblk m c 2 t) (iblk m c 3 t) (ix2 r k) = (rowAt m c (t.val / 11) (q_lt t) r).h k := by
  rw [pay1_at]
  simp only [blk_x m c t, iblk1_at m c t, blk_sh m c t r, blk_sc m c t r]
  rfl

/-- One step adds its 512 hidden features to the sum. -/
theorem step_sum (h : Vec Ideal S512x2048 .bf16) (a : Vec Ideal S512x2048 .f32) (r : Fin 512) (j : Fin 2048)
    (hh : ∀ k, h (ix2 r k) = (rowAt m c (t.val / 11) (q_lt t) r).h k)
    (ha : a (ix2 r j) = ∑ n ∈ Finset.range (512 * (t.val % 11)), (rowAt m c (t.val / 11) (q_lt t) r).term j n) :
    k0_pay3 h (iblk m c 5 t) (iblk m c 6 t) a (iblk m c 7 t) (ix2 r j)
      = ∑ n ∈ Finset.range (512 * (t.val % 11 + 1)), (rowAt m c (t.val / 11) (q_lt t) r).term j n := by
  rw [pay3_at, Row.sum_step, ha]
  refine congrArg _ (Finset.sum_congr rfl fun n _ => ?_)
  rw [Row.term_lt _ _ _ (by have := Nat.mod_lt t.val (show 0 < 11 by norm_num); omega)]
  simp only [hh, iblk5_at m c t, iblk6_at m c t, iblk7_at m c t]
  rfl

/-- After a step that is not a row block's last, the scratch holds the modulated rows and the sum so far. -/
theorem inv : ∀ (n : ℕ) (hn : n < cfg0.N), n % 11 ≠ 10 → ∀ r : Fin 512,
    (∀ k, (outsAt0 m c n hn).2.1 (ix2 r k) = (rowAt m c (n / 11) (q_lt ⟨n, hn⟩) r).h k)
    ∧ ∀ j, (outsAt0 m c n hn).2.2 (ix2 r j)
      = ∑ i ∈ Finset.range (512 * (n % 11 + 1)), (rowAt m c (n / 11) (q_lt ⟨n, hn⟩) r).term j i := by
  intro n
  induction n with
  | zero =>
    intro hn h1 r
    rw [outsAt0_A m c ⟨0, hn⟩ rfl h1]
    refine ⟨fun k => ?_, fun j => ?_⟩
    · dsimp only
      rw [sout0_A_0_eq]
      exact first_h m c ⟨0, hn⟩ r k
    · dsimp only
      rw [sout0_A_1_eq]
      exact step_sum m c ⟨0, hn⟩ _ _ r j (first_h m c ⟨0, hn⟩ r) (by rw [pay2_at]; rfl)
  | succ n ih =>
    intro hn h1 r
    by_cases h0 : (n + 1) % 11 = 0
    · rw [outsAt0_A m c ⟨n + 1, hn⟩ h0 h1]
      refine ⟨fun k => ?_, fun j => ?_⟩
      · dsimp only
        rw [sout0_A_0_eq]
        exact first_h m c ⟨n + 1, hn⟩ r k
      · dsimp only
        rw [sout0_A_1_eq]
        refine step_sum m c ⟨n + 1, hn⟩ _ _ r j (first_h m c ⟨n + 1, hn⟩ r) ?_
        rw [pay2_at, show (⟨n + 1, hn⟩ : Fin cfg0.N).val % 11 = 0 from h0]
        rfl
    · have hn' : n < cfg0.N := Nat.lt_of_succ_lt hn
      have i := ih hn' (by omega) r
      have ed : (n + 1) / 11 = n / 11 := by omega
      have em : (n + 1) % 11 = n % 11 + 1 := by omega
      have er : rowAt m c (n / 11) (q_lt ⟨n, hn'⟩) r = rowAt m c ((n + 1) / 11) (q_lt ⟨n + 1, hn⟩) r := by congr 1; exact ed.symm
      rw [er] at i
      rw [outsAt0_B m c ⟨n + 1, hn⟩ h0 h1]
      refine ⟨fun k => i.1 k, fun j => ?_⟩
      dsimp only
      rw [sout0_B_1_eq]
      refine step_sum m c ⟨n + 1, hn⟩ _ _ r j i.1 ((i.2 j).trans ?_)
      show _ = ∑ n_1 ∈ Finset.range (512 * ((n + 1) % 11)), _
      rw [em]

/-- A row block's last step leaves the block's result in the output's buffer. -/
theorem last (hl : t.val % 11 = 10) (r : Fin 512) (j : Fin 2048) :
    (outsAt0 m c t.val t.isLt).1 (ix3 0 r j) = (rowAt m c (t.val / 11) (q_lt t) r).out j := by
  obtain ⟨n, hn⟩ := t
  cases n with
  | zero => exact absurd hl (by norm_num)
  | succ n =>
    have hl' : (n + 1) % 11 = 10 := hl
    have hn' : n < cfg0.N := Nat.lt_of_succ_lt hn
    have i := inv m c n hn' (by omega) r
    have ed : (n + 1) / 11 = n / 11 := by omega
    have em : (n + 1) % 11 = n % 11 + 1 := by omega
    have er : rowAt m c (n / 11) (q_lt ⟨n, hn'⟩) r = rowAt m c ((n + 1) / 11) (q_lt ⟨n + 1, hn⟩) r := by congr 1; exact ed.symm
    rw [er] at i
    rw [outsAt0_C m c ⟨n + 1, hn⟩ (by show ¬(n + 1) % 11 = 0; omega) hl]
    dsimp only
    rw [out0_C_9_eq, pay4_at]
    have s : ∀ k, k0_pay3 (outsAt0 m c n hn').2.1 (iblk m c 5 ⟨n + 1, hn⟩) (iblk m c 6 ⟨n + 1, hn⟩) (outsAt0 m c n hn').2.2
        (iblk m c 7 ⟨n + 1, hn⟩) (ix2 r k)
        = ∑ i ∈ Finset.range 5632, (rowAt m c ((n + 1) / 11) (q_lt ⟨n + 1, hn⟩) r).term k i := fun k => by
      refine (step_sum m c ⟨n + 1, hn⟩ _ _ r k i.1 ((i.2 k).trans ?_)).trans ?_
      · show _ = ∑ n_1 ∈ Finset.range (512 * ((n + 1) % 11)), _
        rw [em]
      · show ∑ n_1 ∈ Finset.range (512 * ((n + 1) % 11 + 1)), _ = _
        rw [hl']
    have y : ∀ k, resid (iblk m c 0 ⟨n + 1, hn⟩ (ix3 0 r k)) (iblk m c 4 ⟨n + 1, hn⟩ (ix3 0 0 k))
        (k0_pay3 (outsAt0 m c n hn').2.1 (iblk m c 5 ⟨n + 1, hn⟩) (iblk m c 6 ⟨n + 1, hn⟩) (outsAt0 m c n hn').2.2
        (iblk m c 7 ⟨n + 1, hn⟩) (ix2 r k)) = (rowAt m c ((n + 1) / 11) (q_lt ⟨n + 1, hn⟩) r).y k := fun k => by
      rw [s k, blk_x, blk_gt m c _ r]
      rfl
    unfold Row.out
    refine congrArg₂ (· * ·) (congrArg₂ (· * ·) (y j) (congrArg rs (funext y))) ?_
    exact iblk8_at m c ⟨n + 1, hn⟩ j

/-- The result array is the block's result for the arguments. -/
theorem G9_eq : G9 m c = ffnOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  funext i
  obtain ⟨⟨b, y, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  have hp : pt9Of (ix3 b y j) = 11 * (8 * b.val + y.val / 512) + 10 := by
    show 11 * (8 * (b.val / 1 - 0) + 1 * (y.val / 512 - 0) + 1 * (j.val / 2048 - 0)) + 10 = _
    have := j.isLt
    omega
  have hN : pt9Of (ix3 b y j) < cfg0.N := by rw [hp, show cfg0.N = 352 from N_0]; omega
  unfold G9
  rw [dif_pos hN, ← outsAt0_sweep m c _ hN]
  have hl : loc9Of (ix3 b y j) = ix3 0 ⟨y.val % 512, Nat.mod_lt _ (by norm_num)⟩ j := by
    funext a
    match a with
    | ⟨0, _⟩ => exact Fin.ext (by show b.val % 1 = 0; omega)
    | ⟨1, _⟩ => rfl
    | ⟨2, _⟩ => exact Fin.ext (by show j.val % 2048 = j.val; omega)
  rw [hl]
  refine (last m c ⟨_, hN⟩ (by show pt9Of (ix3 b y j) % 11 = 10; rw [hp]; omega) _ j).trans ?_
  show (rowOf _ _ _ _ _ _ _ _ _ ⟨pt9Of (ix3 b y j) / 11 / 8, _⟩ ⟨512 * (pt9Of (ix3 b y j) / 11 % 8) + y.val % 512, _⟩).out j
    = (rowOf _ _ _ _ _ _ _ _ _ b y).out j
  have e1 : (⟨pt9Of (ix3 b y j) / 11 / 8, by rw [hp]; omega⟩ : Fin 4) = b := Fin.ext (by show pt9Of (ix3 b y j) / 11 / 8 = b.val; rw [hp]; omega)
  have e2 : (⟨512 * (pt9Of (ix3 b y j) / 11 % 8) + y.val % 512, by omega⟩ : Fin 4096) = y :=
    Fin.ext (by show 512 * (pt9Of (ix3 b y j) / 11 % 8) + y.val % 512 = y.val; rw [hp]; omega)
  rw [e1, e2]

end Cert.Ffn

end
-- ==== Proof.Ffn.Ref.lean ====
/- The reference's result: the feed-forward block of the arguments. -/
module

public import proofs.«01_k».proof.Proof.Gen.Reference2Ideal.Run
public import proofs.«01_k».proof.Proof.Ffn.Kernel

@[expose] public section

set_option maxRecDepth 16384

noncomputable section

namespace Cert.Ffn.Ref

open Cert.Reference2Ideal Cert.Reference2Ideal.Gen Idealize.ShloMosaic Idealize.ShloMosaic.TcCoe Idealize.SL.Sem

/-- The reference's operations, composed, are the block. -/
theorem result_eq (m : (ℓ : Loc nD τ sig) → Buf (Elt Ideal) ℓ) (c : Dev nD) :
    Cert.Reference2Ideal.Value.res_out0 m c = ffnOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  funext i
  obtain ⟨⟨b, t, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  show _ = (rowOf _ _ _ _ _ _ _ _ _ b t).out j
  unfold Row.out Row.y
  simp only [Row.sum_term]
  unfold Cert.Reference2Ideal.Value.res_out0 Cert.Reference2Ideal.Value.res_main_v39
  pointwise
  rfl

end Cert.Ffn.Ref

end
-- ==== Proof.FfnA.Steps.lean ====
/- What one grid step of the first layer's feed-forward kernel leaves in its scratch and in its output block, as the step's own
   vector expressions of the blocks it reads and of what the step before left. -/
module

public import proofs.«01_k».proof.Proof.Gen.Kernel3Ideal.Frame
public import Idealize.ShloMosaic.Lib.Pipeline.Value
public import Idealize.ShloMosaic.Lib.Tactic

@[expose] public section

set_option maxRecDepth 16384

noncomputable section

namespace Cert.FfnA

open Cert.Kernel3Ideal Cert.Kernel3Ideal.Gen Idealize.ShloMosaic Idealize.ShloMosaic.TcCoe Idealize.SL.Sem

variable {F : FTy → Type} [FloatOps F]

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The first step of a row block leaves the modulated rows. -/
theorem sout0_A_0_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 x0 x1 x2 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- The first step of a row block leaves the first share of the sum over the hidden features. -/
theorem sout0_A_1_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (k0_pay1 x0 x1 x2 x3) x5 x6 (k0_pay2 (F := F)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- A middle step adds its share to the sum. -/
theorem sout0_B_1_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : ¬cond0_0 i) (hc1 : ¬cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xs0 : Vec F S512x2048 .bf16) (xs1 : Vec F S512x2048 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  simp only [View.canon_cons_unit_zero (S := S512x2048) z2, View.canon_unit_zero (S := S512x2048) z2, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

/-- The last step leaves the rows after the residual. -/
theorem out0_C_9_eq (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S512x2048 .bf16) (harg13 : arg13.IsWhole) (arg14 : Memref sig .tc .vmem S512x2048 .f32) (harg14 : arg14.IsWhole) (hc0 : ¬cond0_0 i) (hc1 : cond0_1 i)
    (x0 : Vec F S1x512x2048 .f32) (x1 : Vec F S1x2048 .f32) (x2 : Vec F S1x1x2048 .f32) (x3 : Vec F S1x1x2048 .f32) (x4 : Vec F S1x1x2048 .f32) (x5 : Vec F S2048x512 .bf16) (x6 : Vec F S2048x512 .bf16) (x7 : Vec F S512x2048 .bf16) (x8 : Vec F S1x2048 .f32) (xs0 : Vec F S512x2048 .bf16) (xs1 : Vec F S512x2048 .f32) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 x0 x4 (k0_pay3 xs0 x5 x6 xs1 x7) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  simp only [View.canon_cons_unit_zero (S := S1x512x2048) z3, View.canon_unit_zero (S := S1x512x2048) z3, View.readCov_unit_zero (S := S512x2048) _ z2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x512x2048) z3, View.ld_unit_zero (S := S1x1x2048) z3, View.ld_unit_zero (S := S1x2048) z2,
    View.ld_unit_zero (S := S2048x512) z2, View.ld_unit_zero (S := S512x2048) z2]

end Cert.FfnA

end
-- ==== Proof.FfnA.Payloads.lean ====
/- The first layer's feed-forward kernel's vector expressions, element by element. -/
module

public import proofs.«01_k».proof.Proof.Gen.Kernel3Ideal.Skeleton
public import proofs.«01_k».proof.Proof.Ffn.Spec

@[expose] public section

set_option maxRecDepth 16384

noncomputable section

namespace Cert.FfnA

open Cert.Ffn Cert.Kernel3Ideal Cert.Kernel3Ideal.Gen Idealize.ShloMosaic

/-- The modulated rows. -/
theorem pay1_at (x : Vec Ideal S1x512x2048 .f32) (g : Vec Ideal S1x2048 .f32) (s z : Vec Ideal S1x1x2048 .f32)
    (r : Fin 512) (j : Fin 2048) : k0_pay1 x g s z (ix2 r j)
      = modulated (fun k => x (ix3 0 r k)) (fun k => g (ix2 0 k)) (fun k => s (ix3 0 0 k)) (fun k => z (ix3 0 0 k)) j := by
  unfold k0_pay1
  pointwise
  rfl

/-- The sum starts from zero. -/
theorem pay2_at (r : Fin 512) (j : Fin 2048) : k0_pay2 (F := Ideal) (ix2 r j) = 0 := by
  unfold k0_pay2
  pointwise

/-- The sum and the share of a block of hidden features. -/
theorem pay3_at (h : Vec Ideal S512x2048 .bf16) (w1 w3 : Vec Ideal S2048x512 .bf16) (a : Vec Ideal S512x2048 .f32)
    (w2 : Vec Ideal S512x2048 .bf16) (r : Fin 512) (j : Fin 2048) : k0_pay3 h w1 w3 a w2 (ix2 r j)
      = a (ix2 r j) + ∑ n : Fin 512, hidden (fun k => h (ix2 r k)) (fun k => w1 (ix2 k n)) (fun k => w3 (ix2 k n)) * w2 (ix2 n j) := by
  unfold k0_pay3
  pointwise
  rfl

/-- The residual. -/
theorem pay4_at (x : Vec Ideal S1x512x2048 .f32) (g : Vec Ideal S1x1x2048 .f32) (a : Vec Ideal S512x2048 .f32)
    (r : Fin 512) (j : Fin 2048) : k0_pay4 x g a (ix3 0 r j)
      = resid (x (ix3 0 r j)) (g (ix3 0 0 j)) (a (ix2 r j)) := by
  unfold k0_pay4
  pointwise
  rfl

end Cert.FfnA

end
-- ==== Proof.FfnA.Blocks.lean ====
/- The first layer's feed-forward kernel's windows, element by element, in terms of the arguments. -/
module

public import proofs.«01_k».proof.Proof.Gen.Kernel3Ideal.Frame.Runs
public import Idealize.ShloMosaic.Lib.Pipeline.Value
public import Idealize.ShloMosaic.Lib.Pipeline.ValueKit
public import Idealize.ShloMosaic.Lib.Pointwise

@[expose] public section

set_option maxRecDepth 16384

noncomputable section

namespace Cert.FfnA

open Cert.Kernel3Ideal Cert.Kernel3Ideal.Gen Idealize.ShloMosaic Idealize.ShloMosaic.TcCoe Idealize.SL.Sem

/-- A grid point's number is below 352. -/
theorem lt_N (t : Fin cfg0.N) : t.val < 352 := lt_of_lt_of_eq t.isLt (show cfg0.N = 352 from N_0)

/-- Window 0's block index at a grid point. -/
theorem idx0 : ∀ t : Fin cfg0.N, win0_0.index t = ![t.val / 88, t.val / 11 % 8, 0] :=
  (by decide +kernel : ∀ t : Fin grid0.N, win0_0.index t = ![t.val / 88, t.val / 11 % 8, 0])

/-- Window 1's block index at a grid point. -/
theorem idx1 : ∀ t : Fin cfg0.N, win0_1.index t = ![0, 0] :=
  (by decide +kernel : ∀ t : Fin grid0.N, win0_1.index t = ![0, 0])

/-- Window 2's block index at a grid point. -/
theorem idx2 : ∀ t : Fin cfg0.N, win0_2.index t = ![t.val / 88, 0, 0] :=
  (by decide +kernel : ∀ t : Fin grid0.N, win0_2.index t = ![t.val / 88, 0, 0])

/-- Window 3's block index at a grid point. -/
theorem idx3 : ∀ t : Fin cfg0.N, win0_3.index t = ![t.val / 88, 0, 0] :=
  (by decide +kernel : ∀ t : Fin grid0.N, win0_3.index t = ![t.val / 88, 0, 0])

/-- Window 4's block index at a grid point. -/
theorem idx4 : ∀ t : Fin cfg0.N, win0_4.index t = ![t.val / 88, 0, 0] :=
  (by decide +kernel : ∀ t : Fin grid0.N, win0_4.index t = ![t.val / 88, 0, 0])

/-- Window 5's block index at a grid point. -/
theorem idx5 : ∀ t : Fin cfg0.N, win0_5.index t = ![0, t.val % 11] :=
  (by decide +kernel : ∀ t : Fin grid0.N, win0_5.index t = ![0, t.val % 11])

/-- Window 6's block index at a grid point. -/
theorem idx6 : ∀ t : Fin cfg0.N, win0_6.index t = ![0, t.val % 11] :=
  (by decide +kernel : ∀ t : Fin grid0.N, win0_6.index t = ![0, t.val % 11])

/-- Window 7's block index at a grid point. -/
theorem idx7 : ∀ t : Fin cfg0.N, win0_7.index t = ![t.val % 11, 0] :=
  (by decide +kernel : ∀ t : Fin grid0.N, win0_7.index t = ![t.val % 11, 0])

variable (m : (ℓ : Loc nD τ sig) → Buf (Elt Ideal) ℓ)

/-- The gate matrix as the kernel finds it: the argument. -/
theorem V0_at (c : Dev nD) (a : Fin 2048) (b : Fin 5632) :
    V m c main_v0 (ix2 a b) = m ((c : Thread nD τ).loc main_arg5) (ix2 a b) := by
  show StableHlo.after hostOps0 _ main_v0 _ = _
  unfold hostOps0
  after_results_simp
  rfl

/-- The other input matrix as the kernel finds it: the argument. -/
theorem V1_at (c : Dev nD) (a : Fin 2048) (b : Fin 5632) :
    V m c main_v1 (ix2 a b) = m ((c : Thread nD τ).loc main_arg6) (ix2 a b) := by
  show StableHlo.after hostOps0 _ main_v1 _ = _
  unfold hostOps0
  after_results_simp
  rfl

/-- The output matrix as the kernel finds it: the argument. -/
theorem V2_at (c : Dev nD) (a : Fin 5632) (b : Fin 2048) :
    V m c main_v2 (ix2 a b) = m ((c : Thread nD τ).loc main_arg7) (ix2 a b) := by
  show StableHlo.after hostOps0 _ main_v2 _ = _
  unfold hostOps0
  after_results_simp
  rfl

/-- The first norm's weight as the kernel finds it: the argument, in one row. -/
theorem V3_at (c : Dev nD) (b : Fin 2048) :
    V m c main_v3 (ix2 0 b) = m ((c : Thread nD τ).loc main_arg1) (ix1 b) := by
  show StableHlo.after hostOps0 _ main_v3 _ = _
  unfold hostOps0
  after_results_simp
  show shapeCast S1x2048 (m ((c : Thread nD τ).loc main_arg1)) shapeCasts_S2048_S1x2048 (ix2 0 b) = _
  pointwise

/-- The block of rows. -/
theorem iblk0_at (c : Dev nD) (t : Fin cfg0.N) (r : Fin 512) (k : Fin 2048) :
    iblk m c 0 t (ix3 0 r k) = m ((c : Thread nD τ).loc main_arg0) (ix3 ⟨t.val / 88, by have := lt_N t; omega⟩ ⟨512 * (t.val / 11 % 8) + r.val, by omega⟩ k) := by
  have ht := lt_N t
  unfold iblk
  rw [View.read_apply]
  show V m c main_arg0 _ = _
  rw [V_main_arg0]
  refine congrArg (m ((c : Thread nD τ).loc main_arg0)) ?_
  blk_ext [idx0]

/-- The first norm's weight. -/
theorem iblk1_at (c : Dev nD) (t : Fin cfg0.N) (k : Fin 2048) :
    iblk m c 1 t (ix2 0 k) = m ((c : Thread nD τ).loc main_arg1) (ix1 k) := by
  have ht := lt_N t
  refine Eq.trans ?_ (V3_at m c k)
  unfold iblk
  rw [View.read_apply]
  show V m c main_v3 _ = _
  refine congrArg (V m c main_v3) ?_
  blk_ext [idx1]

/-- The batch entry's shift. -/
theorem iblk2_at (c : Dev nD) (t : Fin cfg0.N) (k : Fin 2048) :
    iblk m c 2 t (ix3 0 0 k) = m ((c : Thread nD τ).loc main_arg2) (ix3 ⟨t.val / 88, by have := lt_N t; omega⟩ 0 k) := by
  have ht := lt_N t
  unfold iblk
  rw [View.read_apply]
  show V m c main_arg2 _ = _
  rw [V_main_arg2]
  refine congrArg (m ((c : Thread nD τ).loc main_arg2)) ?_
  blk_ext [idx2]

/-- The batch entry's scale. -/
theorem iblk3_at (c : Dev nD) (t : Fin cfg0.N) (k : Fin 2048) :
    iblk m c 3 t (ix3 0 0 k) = m ((c : Thread nD τ).loc main_arg3) (ix3 ⟨t.val / 88, by have := lt_N t; omega⟩ 0 k) := by
  have ht := lt_N t
  unfold iblk
  rw [View.read_apply]
  show V m c main_arg3 _ = _
  rw [V_main_arg3]
  refine congrArg (m ((c : Thread nD τ).loc main_arg3)) ?_
  blk_ext [idx3]

/-- The batch entry's gate. -/
theorem iblk4_at (c : Dev nD) (t : Fin cfg0.N) (k : Fin 2048) :
    iblk m c 4 t (ix3 0 0 k) = m ((c : Thread nD τ).loc main_arg4) (ix3 ⟨t.val / 88, by have := lt_N t; omega⟩ 0 k) := by
  have ht := lt_N t
  unfold iblk
  rw [View.read_apply]
  show V m c main_arg4 _ = _
  rw [V_main_arg4]
  refine congrArg (m ((c : Thread nD τ).loc main_arg4)) ?_
  blk_ext [idx4]

/-- The gate matrix's block of columns. -/
theorem iblk5_at (c : Dev nD) (t : Fin cfg0.N) (k : Fin 2048) (n : Fin 512) :
    iblk m c 5 t (ix2 k n) = m ((c : Thread nD τ).loc main_arg5) (ix2 k ⟨512 * (t.val % 11) + n.val, by omega⟩) := by
  have ht := lt_N t
  refine Eq.trans ?_ (V0_at m c k ⟨512 * (t.val % 11) + n.val, by omega⟩)
  unfold iblk
  rw [View.read_apply]
  show V m c main_v0 _ = _
  refine congrArg (V m c main_v0) ?_
  blk_ext [idx5]

/-- The other input matrix's block of columns. -/
theorem iblk6_at (c : Dev nD) (t : Fin cfg0.N) (k : Fin 2048) (n : Fin 512) :
    iblk m c 6 t (ix2 k n) = m ((c : Thread nD τ).loc main_arg6) (ix2 k ⟨512 * (t.val % 11) + n.val, by omega⟩) := by
  have ht := lt_N t
  refine Eq.trans ?_ (V1_at m c k ⟨512 * (t.val % 11) + n.val, by omega⟩)
  unfold iblk
  rw [View.read_apply]
  show V m c main_v1 _ = _
  refine congrArg (V m c main_v1) ?_
  blk_ext [idx6]

/-- The output matrix's block of rows. -/
theorem iblk7_at (c : Dev nD) (t : Fin cfg0.N) (n : Fin 512) (k : Fin 2048) :
    iblk m c 7 t (ix2 n k) = m ((c : Thread nD τ).loc main_arg7) (ix2 ⟨512 * (t.val % 11) + n.val, by omega⟩ k) := by
  have ht := lt_N t
  refine Eq.trans ?_ (V2_at m c ⟨512 * (t.val % 11) + n.val, by omega⟩ k)
  unfold iblk
  rw [View.read_apply]
  show V m c main_v2 _ = _
  refine congrArg (V m c main_v2) ?_
  blk_ext [idx7]

end Cert.FfnA

end
-- ==== Proof.FfnA.Kernel.lean ====
/- The first layer's feed-forward kernel's result array: within a row block the steps add up the hidden features' shares, and the last
   one leaves the rows of the block after the residual. -/
module

public import proofs.«01_k».proof.Proof.Gen.Kernel3Ideal.Value
public import proofs.«01_k».proof.Proof.FfnA.Steps
public import proofs.«01_k».proof.Proof.FfnA.Payloads
public import proofs.«01_k».proof.Proof.FfnA.Blocks

@[expose] public section

set_option maxRecDepth 16384

noncomputable section

namespace Cert.FfnA

open Cert.Ffn Cert.Kernel3Ideal Cert.Kernel3Ideal.Gen Cert.Kernel3Ideal.Value Idealize.ShloMosaic Idealize.ShloMosaic.TcCoe
  Idealize.SL.Sem

/-- What token `t` of batch entry `b` reads of the eight arguments it reads; there is no final norm. -/
def rowOf (x0 : S4x4096x2048.Idx → EReal) (x1 : S2048.Idx → EReal) (x2 x3 x4 : S4x1x2048.Idx → EReal)
    (x5 x6 : S2048x5632.Idx → EReal) (x7 : S5632x2048.Idx → EReal) (b : Fin 4) (t : Fin 4096) : Row where
  x k := x0 (ix3 b t k)
  g k := x1 (ix1 k)
  sh k := x2 (ix3 b 0 k)
  sc k := x3 (ix3 b 0 k)
  gt k := x4 (ix3 b 0 k)
  w1 k n := x5 (ix2 k n)
  w3 k n := x6 (ix2 k n)
  w2 n k := x7 (ix2 n k)
  f _ := 0

/-- The block's result for the eight arguments. -/
def ffnOf (x0 : S4x4096x2048.Idx → EReal) (x1 : S2048.Idx → EReal) (x2 x3 x4 : S4x1x2048.Idx → EReal)
    (x5 x6 : S2048x5632.Idx → EReal) (x7 : S5632x2048.Idx → EReal) : S4x4096x2048.Idx → EReal :=
  fun i => (rowOf x0 x1 x2 x3 x4 x5 x6 x7 (i 0) (i 1)).y (i 2)

variable (m : (ℓ : Loc nD τ sig) → Buf (Elt Ideal) ℓ)

/-- The token of row `r` of row block `q`, the row blocks numbered through the batch. -/
def rowAt (c : Dev nD) (q : ℕ) (hq : q < 32) (r : Fin 512) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    ⟨q / 8, by omega⟩ ⟨512 * (q % 8) + r.val, by omega⟩

/-- The row block of a grid point. -/
theorem q_lt (t : Fin cfg0.N) : t.val / 11 < 32 := by have := lt_N t; omega

variable (c : Dev nD) (t : Fin cfg0.N)

/-- The block of rows holds the row block's tokens. -/
theorem blk_x (r : Fin 512) (k : Fin 2048) : iblk m c 0 t (ix3 0 r k) = (rowAt m c (t.val / 11) (q_lt t) r).x k := by
  rw [iblk0_at]
  have e : (⟨t.val / 88, by have := lt_N t; omega⟩ : Fin 4) = ⟨t.val / 11 / 8, by have := lt_N t; omega⟩ := Fin.ext (by show t.val / 88 = t.val / 11 / 8; omega)
  rw [e]
  rfl

/-- The shift's block. -/
theorem blk_sh (r : Fin 512) (k : Fin 2048) : iblk m c 2 t (ix3 0 0 k) = (rowAt m c (t.val / 11) (q_lt t) r).sh k := by
  rw [iblk2_at]
  have e : (⟨t.val / 88, by have := lt_N t; omega⟩ : Fin 4) = ⟨t.val / 11 / 8, by have := lt_N t; omega⟩ := Fin.ext (by show t.val / 88 = t.val / 11 / 8; omega)
  rw [e]
  rfl

/-- The scale's block. -/
theorem blk_sc (r : Fin 512) (k : Fin 2048) : iblk m c 3 t (ix3 0 0 k) = (rowAt m c (t.val / 11) (q_lt t) r).sc k := by
  rw [iblk3_at]
  have e : (⟨t.val / 88, by have := lt_N t; omega⟩ : Fin 4) = ⟨t.val / 11 / 8, by have := lt_N t; omega⟩ := Fin.ext (by show t.val / 88 = t.val / 11 / 8; omega)
  rw [e]
  rfl

/-- The gate's block. -/
theorem blk_gt (r : Fin 512) (k : Fin 2048) : iblk m c 4 t (ix3 0 0 k) = (rowAt m c (t.val / 11) (q_lt t) r).gt k := by
  rw [iblk4_at]
  have e : (⟨t.val / 88, by have := lt_N t; omega⟩ : Fin 4) = ⟨t.val / 11 / 8, by have := lt_N t; omega⟩ := Fin.ext (by show t.val / 88 = t.val / 11 / 8; omega)
  rw [e]
  rfl

/-- The modulated rows of the first step are the row block's. -/
theorem first_h (r : Fin 512) (k : Fin 2048) :
    k0_pay1 (iblk m c 0 t) (iblk m c 1 t) (iblk m c 2 t) (iblk m c 3 t) (ix2 r k) = (rowAt m c (t.val / 11) (q_lt t) r).h k := by
  rw [pay1_at]
  simp only [blk_x m c t, iblk1_at m c t, blk_sh m c t r, blk_sc m c t r]
  rfl

/-- One step adds its 512 hidden features to the sum. -/
theorem step_sum (h : Vec Ideal S512x2048 .bf16) (a : Vec Ideal S512x2048 .f32) (r : Fin 512) (j : Fin 2048)
    (hh : ∀ k, h (ix2 r k) = (rowAt m c (t.val / 11) (q_lt t) r).h k)
    (ha : a (ix2 r j) = ∑ n ∈ Finset.range (512 * (t.val % 11)), (rowAt m c (t.val / 11) (q_lt t) r).term j n) :
    k0_pay3 h (iblk m c 5 t) (iblk m c 6 t) a (iblk m c 7 t) (ix2 r j)
      = ∑ n ∈ Finset.range (512 * (t.val % 11 + 1)), (rowAt m c (t.val / 11) (q_lt t) r).term j n := by
  rw [pay3_at, Row.sum_step, ha]
  refine congrArg _ (Finset.sum_congr rfl fun n _ => ?_)
  rw [Row.term_lt _ _ _ (by have := Nat.mod_lt t.val (show 0 < 11 by norm_num); omega)]
  simp only [hh, iblk5_at m c t, iblk6_at m c t, iblk7_at m c t]
  rfl

/-- After a step that is not a row block's last, the scratch holds the modulated rows and the sum so far. -/
theorem inv : ∀ (n : ℕ) (hn : n < cfg0.N), n % 11 ≠ 10 → ∀ r : Fin 512,
    (∀ k, (outsAt0 m c n hn).2.1 (ix2 r k) = (rowAt m c (n / 11) (q_lt ⟨n, hn⟩) r).h k)
    ∧ ∀ j, (outsAt0 m c n hn).2.2 (ix2 r j)
      = ∑ i ∈ Finset.range (512 * (n % 11 + 1)), (rowAt m c (n / 11) (q_lt ⟨n, hn⟩) r).term j i := by
  intro n
  induction n with
  | zero =>
    intro hn h1 r
    rw [outsAt0_A m c ⟨0, hn⟩ rfl h1]
    refine ⟨fun k => ?_, fun j => ?_⟩
    · dsimp only
      rw [sout0_A_0_eq]
      exact first_h m c ⟨0, hn⟩ r k
    · dsimp only
      rw [sout0_A_1_eq]
      exact step_sum m c ⟨0, hn⟩ _ _ r j (first_h m c ⟨0, hn⟩ r) (by rw [pay2_at]; rfl)
  | succ n ih =>
    intro hn h1 r
    by_cases h0 : (n + 1) % 11 = 0
    · rw [outsAt0_A m c ⟨n + 1, hn⟩ h0 h1]
      refine ⟨fun k => ?_, fun j => ?_⟩
      · dsimp only
        rw [sout0_A_0_eq]
        exact first_h m c ⟨n + 1, hn⟩ r k
      · dsimp only
        rw [sout0_A_1_eq]
        refine step_sum m c ⟨n + 1, hn⟩ _ _ r j (first_h m c ⟨n + 1, hn⟩ r) ?_
        rw [pay2_at, show (⟨n + 1, hn⟩ : Fin cfg0.N).val % 11 = 0 from h0]
        rfl
    · have hn' : n < cfg0.N := Nat.lt_of_succ_lt hn
      have i := ih hn' (by omega) r
      have ed : (n + 1) / 11 = n / 11 := by omega
      have em : (n + 1) % 11 = n % 11 + 1 := by omega
      have er : rowAt m c (n / 11) (q_lt ⟨n, hn'⟩) r = rowAt m c ((n + 1) / 11) (q_lt ⟨n + 1, hn⟩) r := by congr 1; exact ed.symm
      rw [er] at i
      rw [outsAt0_B m c ⟨n + 1, hn⟩ h0 h1]
      refine ⟨fun k => i.1 k, fun j => ?_⟩
      dsimp only
      rw [sout0_B_1_eq]
      refine step_sum m c ⟨n + 1, hn⟩ _ _ r j i.1 ((i.2 j).trans ?_)
      show _ = ∑ n_1 ∈ Finset.range (512 * ((n + 1) % 11)), _
      rw [em]

/-- A row block's last step leaves the block's result in the output's buffer. -/
theorem last (hl : t.val % 11 = 10) (r : Fin 512) (j : Fin 2048) :
    (outsAt0 m c t.val t.isLt).1 (ix3 0 r j) = (rowAt m c (t.val / 11) (q_lt t) r).y j := by
  obtain ⟨n, hn⟩ := t
  cases n with
  | zero => exact absurd hl (by norm_num)
  | succ n =>
    have hl' : (n + 1) % 11 = 10 := hl
    have hn' : n < cfg0.N := Nat.lt_of_succ_lt hn
    have i := inv m c n hn' (by omega) r
    have ed : (n + 1) / 11 = n / 11 := by omega
    have em : (n + 1) % 11 = n % 11 + 1 := by omega
    have er : rowAt m c (n / 11) (q_lt ⟨n, hn'⟩) r = rowAt m c ((n + 1) / 11) (q_lt ⟨n + 1, hn⟩) r := by congr 1; exact ed.symm
    rw [er] at i
    rw [outsAt0_C m c ⟨n + 1, hn⟩ (by show ¬(n + 1) % 11 = 0; omega) hl]
    dsimp only
    rw [out0_C_9_eq, pay4_at]
    have s : ∀ k, k0_pay3 (outsAt0 m c n hn').2.1 (iblk m c 5 ⟨n + 1, hn⟩) (iblk m c 6 ⟨n + 1, hn⟩) (outsAt0 m c n hn').2.2
        (iblk m c 7 ⟨n + 1, hn⟩) (ix2 r k)
        = ∑ i ∈ Finset.range 5632, (rowAt m c ((n + 1) / 11) (q_lt ⟨n + 1, hn⟩) r).term k i := fun k => by
      refine (step_sum m c ⟨n + 1, hn⟩ _ _ r k i.1 ((i.2 k).trans ?_)).trans ?_
      · show _ = ∑ n_1 ∈ Finset.range (512 * ((n + 1) % 11)), _
        rw [em]
      · show ∑ n_1 ∈ Finset.range (512 * ((n + 1) % 11 + 1)), _ = _
        rw [hl']
    have y : ∀ k, resid (iblk m c 0 ⟨n + 1, hn⟩ (ix3 0 r k)) (iblk m c 4 ⟨n + 1, hn⟩ (ix3 0 0 k))
        (k0_pay3 (outsAt0 m c n hn').2.1 (iblk m c 5 ⟨n + 1, hn⟩) (iblk m c 6 ⟨n + 1, hn⟩) (outsAt0 m c n hn').2.2
        (iblk m c 7 ⟨n + 1, hn⟩) (ix2 r k)) = (rowAt m c ((n + 1) / 11) (q_lt ⟨n + 1, hn⟩) r).y k := fun k => by
      rw [s k, blk_x, blk_gt m c _ r]
      rfl
    exact y j

/-- The result array is the block's result for the arguments. -/
theorem G9_eq : G9 m c = ffnOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  funext i
  obtain ⟨⟨b, y, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  have hp : pt9Of (ix3 b y j) = 11 * (8 * b.val + y.val / 512) + 10 := by
    show 11 * (8 * (b.val / 1 - 0) + 1 * (y.val / 512 - 0) + 1 * (j.val / 2048 - 0)) + 10 = _
    have := j.isLt
    omega
  have hN : pt9Of (ix3 b y j) < cfg0.N := by rw [hp, show cfg0.N = 352 from N_0]; omega
  unfold G9
  rw [dif_pos hN, ← outsAt0_sweep m c _ hN]
  have hl : loc9Of (ix3 b y j) = ix3 0 ⟨y.val % 512, Nat.mod_lt _ (by norm_num)⟩ j := by
    funext a
    match a with
    | ⟨0, _⟩ => exact Fin.ext (by show b.val % 1 = 0; omega)
    | ⟨1, _⟩ => rfl
    | ⟨2, _⟩ => exact Fin.ext (by show j.val % 2048 = j.val; omega)
  rw [hl]
  refine (last m c ⟨_, hN⟩ (by show pt9Of (ix3 b y j) % 11 = 10; rw [hp]; omega) _ j).trans ?_
  show (rowOf _ _ _ _ _ _ _ _ ⟨pt9Of (ix3 b y j) / 11 / 8, _⟩ ⟨512 * (pt9Of (ix3 b y j) / 11 % 8) + y.val % 512, _⟩).y j
    = (rowOf _ _ _ _ _ _ _ _ b y).y j
  have e1 : (⟨pt9Of (ix3 b y j) / 11 / 8, by rw [hp]; omega⟩ : Fin 4) = b := Fin.ext (by show pt9Of (ix3 b y j) / 11 / 8 = b.val; rw [hp]; omega)
  have e2 : (⟨512 * (pt9Of (ix3 b y j) / 11 % 8) + y.val % 512, by omega⟩ : Fin 4096) = y :=
    Fin.ext (by show 512 * (pt9Of (ix3 b y j) / 11 % 8) + y.val % 512 = y.val; rw [hp]; omega)
  rw [e1, e2]

end Cert.FfnA

end
-- ==== Proof.FfnA.Ref.lean ====
/- The reference's result: the first layer's feed-forward block of the arguments. -/
module

public import proofs.«01_k».proof.Proof.Gen.Reference3Ideal.Run
public import proofs.«01_k».proof.Proof.FfnA.Kernel

@[expose] public section

set_option maxRecDepth 16384

noncomputable section

namespace Cert.FfnA.Ref

open Cert.Ffn Cert.Reference3Ideal Cert.Reference3Ideal.Gen Idealize.ShloMosaic Idealize.ShloMosaic.TcCoe Idealize.SL.Sem

/-- The reference's operations, composed, are the block. -/
theorem result_eq (m : (ℓ : Loc nD τ sig) → Buf (Elt Ideal) ℓ) (c : Dev nD) :
    Cert.Reference3Ideal.Value.res_out0 m c = ffnOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  funext i
  obtain ⟨⟨b, t, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  show _ = (rowOf _ _ _ _ _ _ _ _ b t).y j
  unfold Row.y
  simp only [Row.sum_term]
  unfold Cert.Reference3Ideal.Value.res_out0 Cert.Reference3Ideal.Value.res_main_v26
  pointwise
  rfl

end Cert.FfnA.Ref

end
-- ==== Proof.InOdd.Steps.lean ====
/- What one grid step of the odd layer's input projection leaves in its scratch and in its output block, as the step's own
   vector expressions of the blocks it reads and of what the step before left. -/
module

public import proofs.«01_k».proof.Proof.Gen.Kernel4Ideal.Frame
public import Idealize.ShloMosaic.Lib.Pipeline.Value
public import Idealize.ShloMosaic.Lib.Tactic

@[expose] public section

set_option maxRecDepth 16384

noncomputable section

namespace Cert.InOdd

open Cert.Kernel4Ideal Cert.Kernel4Ideal.Gen Idealize.ShloMosaic Idealize.ShloMosaic.TcCoe Idealize.SL.Sem

variable {F : FTy → Type} [FloatOps F]

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The first step of a row block leaves the modulated rows. -/
theorem sout0_A_0_eq (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x1024x512 .bf16) (harg8 : arg8.IsWhole) (arg9 : Memref sig .tc .vmem S1024x2048 .bf16) (harg9 : arg9.IsWhole) (hc0 : cond0_0 i)
    (x0 : Vec F S1x1024x2048 .f32) (x1 : Vec F S1x2048 .f32) (x2 : Vec F S1x1x2048 .f32) (x3 : Vec F S1x1x2048 .f32) (x4 : Vec F S2048x512 .bf16) :
    sout0_A_0 c i arg3 harg3 arg4 harg4 arg5 harg5 arg6 harg6 arg7 harg7 arg8 harg8 arg9 harg9 hc0 x0 x1 x2 x3 x4 = k0_pay1 x0 x1 x2 x3 := by
  unfold sout0_A_0
  rw [View.read_writes_eq_canon _ _ _ (scover0_A_0 c i arg3 harg3 arg4 harg4 arg5 harg5 arg6 harg6 arg7 harg7 arg8 harg8 arg9 harg9 hc0 x0 x1 x2 x3 x4)]
  unfold kernelRun0_A
  dsimp only
  sl_unfold_words
  simp only [View.canon_unit_zero (S := S1024x2048) z2, View.readCov_unit_zero (S := S1024x2048) _ z2, View.readAt_eq_ld, harg3.read_unread, harg4.read_unread, harg5.read_unread, harg6.read_unread, harg7.read_unread, harg8.read_unread, harg9.read_unread,
    View.ld_unit_zero (S := S1x1024x2048) z3, View.ld_unit_zero (S := S1x1x2048) z3, View.ld_unit_zero (S := S1x2048) z2,
    View.ld_unit_zero (S := S2048x512) z2, View.ld_unit_zero (S := S1024x2048) z2]

/-- The first step of a row block leaves the modulated rows times its block of columns. -/
theorem out0_A_5_eq (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x1024x512 .bf16) (harg8 : arg8.IsWhole) (arg9 : Memref sig .tc .vmem S1024x2048 .bf16) (harg9 : arg9.IsWhole) (hc0 : cond0_0 i)
    (x0 : Vec F S1x1024x2048 .f32) (x1 : Vec F S1x2048 .f32) (x2 : Vec F S1x1x2048 .f32) (x3 : Vec F S1x1x2048 .f32) (x4 : Vec F S2048x512 .bf16) :
    out0_A_5 c i arg3 harg3 arg4 harg4 arg5 harg5 arg6 harg6 arg7 harg7 arg8 harg8 arg9 harg9 hc0 x0 x1 x2 x3 x4 = k0_pay2 (k0_pay1 x0 x1 x2 x3) x4 := by
  unfold out0_A_5
  rw [View.read_writes_eq_canon _ _ _ (cover0_A_5 c i arg3 harg3 arg4 harg4 arg5 harg5 arg6 harg6 arg7 harg7 arg8 harg8 arg9 harg9 hc0 x0 x1 x2 x3 x4)]
  unfold kernelRun0_A
  dsimp only
  sl_unfold_words
  simp only [View.canon_unit_zero (S := S1x1024x512) z3, View.readCov_unit_zero (S := S1024x2048) _ z2, View.readAt_eq_ld, harg3.read_unread, harg4.read_unread, harg5.read_unread, harg6.read_unread, harg7.read_unread, harg8.read_unread, harg9.read_unread,
    View.ld_unit_zero (S := S1x1024x2048) z3, View.ld_unit_zero (S := S1x1x2048) z3, View.ld_unit_zero (S := S1x2048) z2,
    View.ld_unit_zero (S := S2048x512) z2, View.ld_unit_zero (S := S1024x2048) z2]

/-- A later step leaves the rows it finds in the scratch times its block of columns. -/
theorem out0_B_5_eq (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x1024x512 .bf16) (harg8 : arg8.IsWhole) (arg9 : Memref sig .tc .vmem S1024x2048 .bf16) (harg9 : arg9.IsWhole) (hc0 : ¬cond0_0 i)
    (x0 : Vec F S1x1024x2048 .f32) (x1 : Vec F S1x2048 .f32) (x2 : Vec F S1x1x2048 .f32) (x3 : Vec F S1x1x2048 .f32) (x4 : Vec F S2048x512 .bf16) (xs0 : Vec F S1024x2048 .bf16) :
    out0_B_5 c i arg3 harg3 arg4 harg4 arg5 harg5 arg6 harg6 arg7 harg7 arg8 harg8 arg9 harg9 hc0 x0 x1 x2 x3 x4 xs0 = k0_pay2 xs0 x4 := by
  unfold out0_B_5
  rw [View.read_writes_eq_canon _ _ _ (cover0_B_5 c i arg3 harg3 arg4 harg4 arg5 harg5 arg6 harg6 arg7 harg7 arg8 harg8 arg9 harg9 hc0 x0 x1 x2 x3 x4 xs0)]
  unfold kernelRun0_B
  dsimp only
  sl_unfold_words
  simp only [View.canon_unit_zero (S := S1x1024x512) z3, View.readCov_unit_zero (S := S1024x2048) _ z2, View.readAt_eq_ld, harg3.read_unread, harg4.read_unread, harg5.read_unread, harg6.read_unread, harg7.read_unread, harg8.read_unread, harg9.read_unread,
    View.ld_unit_zero (S := S1x1024x2048) z3, View.ld_unit_zero (S := S1x1x2048) z3, View.ld_unit_zero (S := S1x2048) z2,
    View.ld_unit_zero (S := S2048x512) z2, View.ld_unit_zero (S := S1024x2048) z2]

end Cert.InOdd

end
-- ==== Proof.InOdd.Kernel.lean ====
/- The odd layer's input projection: the kernel's blocks, its vector expressions and its result array, element by
   element. -/
module

public import proofs.«01_k».proof.Proof.Gen.Kernel4Ideal.Value
public import proofs.«01_k».proof.Proof.InOdd.Steps
public import proofs.«01_k».proof.Proof.Ffn.Spec
public import Idealize.ShloMosaic.Lib.Pipeline.ValueKit
public import Idealize.ShloMosaic.Lib.Pointwise

@[expose] public section

set_option maxRecDepth 16384

noncomputable section

namespace Cert.InOdd

open Cert.Ffn Cert.Kernel4Ideal Cert.Kernel4Ideal.Gen Cert.Kernel4Ideal.Value Idealize.ShloMosaic Idealize.ShloMosaic.TcCoe
  Idealize.SL.Sem

/-- The modulated row of token `t` of batch entry `b`. -/
def rowOf (x0 : S4x4096x2048.Idx → EReal) (x1 : S2048.Idx → EReal) (x2 x3 : S4x1x2048.Idx → EReal) (b : Fin 4) (t : Fin 4096) :
    Fin 2048 → EReal :=
  modulated (fun k => x0 (ix3 b t k)) (fun k => x1 (ix1 k)) (fun k => x2 (ix3 b 0 k)) (fun k => x3 (ix3 b 0 k))

/-- The projection: the modulated row against column `j` of the matrix. -/
def projOf (x0 : S4x4096x2048.Idx → EReal) (x1 : S2048.Idx → EReal) (x2 x3 : S4x1x2048.Idx → EReal)
    (x4 : S2048x8192.Idx → EReal) (b : Fin 4) (t : Fin 4096) (j : Fin 8192) : EReal :=
  ∑ k : Fin 2048, rowOf x0 x1 x2 x3 b t k * x4 (ix2 k j)

/-- The modulated rows of a block. -/
theorem pay1_at (x : Vec Ideal S1x1024x2048 .f32) (g : Vec Ideal S1x2048 .f32) (s z : Vec Ideal S1x1x2048 .f32)
    (r : Fin 1024) (j : Fin 2048) : k0_pay1 x g s z (ix2 r j)
      = modulated (fun k => x (ix3 0 r k)) (fun k => g (ix2 0 k)) (fun k => s (ix3 0 0 k)) (fun k => z (ix3 0 0 k)) j := by
  unfold k0_pay1
  pointwise
  rfl

/-- A block of the rows against a block of the columns. -/
theorem pay2_at (h : Vec Ideal S1024x2048 .bf16) (w : Vec Ideal S2048x512 .bf16) (r : Fin 1024) (j : Fin 512) :
    k0_pay2 h w (ix3 0 r j) = ∑ k : Fin 2048, h (ix2 r k) * w (ix2 k j) := by
  unfold k0_pay2
  pointwise

/-- A grid point's number is below 256. -/
theorem lt_N (t : Fin cfg0.N) : t.val < 256 := lt_of_lt_of_eq t.isLt (show cfg0.N = 256 from N_0)

/-- Window 0's block index at a grid point. -/
theorem idx0 : ∀ t : Fin cfg0.N, win0_0.index t = ![t.val / 64, t.val / 16 % 4, 0] :=
  (by decide +kernel : ∀ t : Fin grid0.N, win0_0.index t = ![t.val / 64, t.val / 16 % 4, 0])

/-- Window 1's block index at a grid point. -/
theorem idx1 : ∀ t : Fin cfg0.N, win0_1.index t = ![0, 0] :=
  (by decide +kernel : ∀ t : Fin grid0.N, win0_1.index t = ![0, 0])

/-- Window 2's block index at a grid point. -/
theorem idx2 : ∀ t : Fin cfg0.N, win0_2.index t = ![t.val / 64, 0, 0] :=
  (by decide +kernel : ∀ t : Fin grid0.N, win0_2.index t = ![t.val / 64, 0, 0])

/-- Window 3's block index at a grid point. -/
theorem idx3 : ∀ t : Fin cfg0.N, win0_3.index t = ![t.val / 64, 0, 0] :=
  (by decide +kernel : ∀ t : Fin grid0.N, win0_3.index t = ![t.val / 64, 0, 0])

/-- Window 4's block index at a grid point. -/
theorem idx4 : ∀ t : Fin cfg0.N, win0_4.index t = ![0, t.val % 16] :=
  (by decide +kernel : ∀ t : Fin grid0.N, win0_4.index t = ![0, t.val % 16])

/-- The batch entry of row block `q`, the row blocks numbered through the batch. -/
def bt (q : ℕ) (hq : q < 16) : Fin 4 := ⟨q / 4, by omega⟩

/-- The token of row `r` of row block `q`. -/
def tk (q : ℕ) (r : Fin 1024) : Fin 4096 := ⟨1024 * (q % 4) + r.val, by omega⟩

/-- The feature of column `j` of a grid point's column block. -/
def fe (n : ℕ) (j : Fin 512) : Fin 8192 := ⟨512 * (n % 16) + j.val, by omega⟩

/-- The row block of a grid point. -/
theorem q_lt (t : Fin cfg0.N) : t.val / 16 < 16 := by have := lt_N t; omega

variable (m : (ℓ : Loc nD τ sig) → Buf (Elt Ideal) ℓ)

/-- The matrix as the kernel finds it: the argument. -/
theorem V0_at (c : Dev nD) (a : Fin 2048) (b : Fin 8192) :
    V m c main_v0 (ix2 a b) = m ((c : Thread nD τ).loc main_arg4) (ix2 a b) := by
  show StableHlo.after hostOps0 _ main_v0 _ = _
  unfold hostOps0
  after_results_simp
  rfl

/-- The norm's weight as the kernel finds it: the argument, in one row. -/
theorem V1_at (c : Dev nD) (b : Fin 2048) :
    V m c main_v1 (ix2 0 b) = m ((c : Thread nD τ).loc main_arg1) (ix1 b) := by
  show StableHlo.after hostOps0 _ main_v1 _ = _
  unfold hostOps0
  after_results_simp
  show shapeCast S1x2048 (m ((c : Thread nD τ).loc main_arg1)) shapeCasts_S2048_S1x2048 (ix2 0 b) = _
  pointwise

variable (c : Dev nD) (t : Fin cfg0.N)

/-- The block of rows. -/
theorem iblk0_at (r : Fin 1024) (k : Fin 2048) :
    iblk m c 0 t (ix3 0 r k) = m ((c : Thread nD τ).loc main_arg0) (ix3 (bt (t.val / 16) (q_lt t)) (tk (t.val / 16) r) k) := by
  have ht := lt_N t
  unfold iblk
  rw [View.read_apply]
  show V m c main_arg0 _ = _
  rw [V_main_arg0]
  refine congrArg (m ((c : Thread nD τ).loc main_arg0)) ?_
  blk_ext [idx0, bt, tk]

/-- The norm's weight. -/
theorem iblk1_at (k : Fin 2048) : iblk m c 1 t (ix2 0 k) = m ((c : Thread nD τ).loc main_arg1) (ix1 k) := by
  have ht := lt_N t
  refine Eq.trans ?_ (V1_at m c k)
  unfold iblk
  rw [View.read_apply]
  show V m c main_v1 _ = _
  refine congrArg (V m c main_v1) ?_
  blk_ext [idx1]

/-- The shift's block. -/
theorem iblk2_at (k : Fin 2048) :
    iblk m c 2 t (ix3 0 0 k) = m ((c : Thread nD τ).loc main_arg2) (ix3 (bt (t.val / 16) (q_lt t)) 0 k) := by
  have ht := lt_N t
  unfold iblk
  rw [View.read_apply]
  show V m c main_arg2 _ = _
  rw [V_main_arg2]
  refine congrArg (m ((c : Thread nD τ).loc main_arg2)) ?_
  blk_ext [idx2, bt]

/-- The scale's block. -/
theorem iblk3_at (k : Fin 2048) :
    iblk m c 3 t (ix3 0 0 k) = m ((c : Thread nD τ).loc main_arg3) (ix3 (bt (t.val / 16) (q_lt t)) 0 k) := by
  have ht := lt_N t
  unfold iblk
  rw [View.read_apply]
  show V m c main_arg3 _ = _
  rw [V_main_arg3]
  refine congrArg (m ((c : Thread nD τ).loc main_arg3)) ?_
  blk_ext [idx3, bt]

/-- The matrix's block of columns. -/
theorem iblk4_at (k : Fin 2048) (j : Fin 512) :
    iblk m c 4 t (ix2 k j) = m ((c : Thread nD τ).loc main_arg4) (ix2 k (fe t.val j)) := by
  have ht := lt_N t
  refine Eq.trans ?_ (V0_at m c k (fe t.val j))
  unfold iblk
  rw [View.read_apply]
  show V m c main_v0 _ = _
  refine congrArg (V m c main_v0) ?_
  blk_ext [idx4, fe]

/-- The modulated row of row `r` of row block `q`. -/
def rowAt (q : ℕ) (hq : q < 16) (r : Fin 1024) : Fin 2048 → EReal :=
  rowOf (m ((c : Thread nD τ).loc main_arg0)) (m ((c : Thread nD τ).loc main_arg1)) (m ((c : Thread nD τ).loc main_arg2))
    (m ((c : Thread nD τ).loc main_arg3)) (bt q hq) (tk q r)

/-- The modulated rows of the first step are the row block's. -/
theorem first_h (r : Fin 1024) (k : Fin 2048) :
    k0_pay1 (iblk m c 0 t) (iblk m c 1 t) (iblk m c 2 t) (iblk m c 3 t) (ix2 r k) = rowAt m c (t.val / 16) (q_lt t) r k := by
  rw [pay1_at]
  simp only [iblk0_at m c t, iblk1_at m c t, iblk2_at m c t, iblk3_at m c t]
  rfl

/-- After every step the scratch holds the row block's modulated rows. -/
theorem inv : ∀ (n : ℕ) (hn : n < cfg0.N) (r : Fin 1024) (k : Fin 2048),
    (outsAt0 m c n hn).2 (ix2 r k) = rowAt m c (n / 16) (q_lt ⟨n, hn⟩) r k := by
  intro n
  induction n with
  | zero =>
    intro hn r k
    rw [outsAt0_A m c ⟨0, hn⟩ rfl]
    dsimp only
    rw [sout0_A_0_eq]
    exact first_h m c ⟨0, hn⟩ r k
  | succ n ih =>
    intro hn r k
    by_cases h0 : (n + 1) % 16 = 0
    · rw [outsAt0_A m c ⟨n + 1, hn⟩ h0]
      dsimp only
      rw [sout0_A_0_eq]
      exact first_h m c ⟨n + 1, hn⟩ r k
    · have ed : (n + 1) / 16 = n / 16 := by omega
      have hn' : n < cfg0.N := Nat.lt_of_succ_lt hn
      have er : rowAt m c (n / 16) (q_lt ⟨n, hn'⟩) r = rowAt m c ((n + 1) / 16) (q_lt ⟨n + 1, hn⟩) r := by congr 1; exact ed.symm
      rw [outsAt0_B m c ⟨n + 1, hn⟩ h0]
      exact (ih hn' r k).trans (congrFun er k)

/-- The rows against the block of columns: the projection. -/
theorem step_out (h : Vec Ideal S1024x2048 .bf16) (r : Fin 1024) (j : Fin 512)
    (hh : ∀ k, h (ix2 r k) = rowAt m c (t.val / 16) (q_lt t) r k) :
    k0_pay2 h (iblk m c 4 t) (ix3 0 r j) = projOf (m ((c : Thread nD τ).loc main_arg0)) (m ((c : Thread nD τ).loc main_arg1))
      (m ((c : Thread nD τ).loc main_arg2)) (m ((c : Thread nD τ).loc main_arg3)) (m ((c : Thread nD τ).loc main_arg4))
      (bt (t.val / 16) (q_lt t)) (tk (t.val / 16) r) (fe t.val j) := by
  rw [pay2_at]
  simp only [hh, iblk4_at m c t]
  rfl

/-- Every step leaves its block of the projection in the output's buffer. -/
theorem out_at (r : Fin 1024) (j : Fin 512) :
    (outsAt0 m c t.val t.isLt).1 (ix3 0 r j) = projOf (m ((c : Thread nD τ).loc main_arg0)) (m ((c : Thread nD τ).loc main_arg1))
      (m ((c : Thread nD τ).loc main_arg2)) (m ((c : Thread nD τ).loc main_arg3)) (m ((c : Thread nD τ).loc main_arg4))
      (bt (t.val / 16) (q_lt t)) (tk (t.val / 16) r) (fe t.val j) := by
  by_cases h0 : t.val % 16 = 0
  · rw [outsAt0_A m c t h0]
    dsimp only
    rw [out0_A_5_eq]
    exact step_out m c t _ r j (first_h m c t r)
  · rw [outsAt0_B m c t h0]
    dsimp only
    rw [out0_B_5_eq]
    refine step_out m c t _ r j fun k => ?_
    have ed : (t.val - 1) / 16 = t.val / 16 := by omega
    have hn' : t.val - 1 < cfg0.N := Nat.lt_of_le_of_lt (Nat.sub_le _ _) t.isLt
    have er : rowAt m c ((t.val - 1) / 16) (q_lt ⟨t.val - 1, hn'⟩) r = rowAt m c (t.val / 16) (q_lt t) r := by congr 1
    exact (inv m c (t.val - 1) hn' r k).trans (congrFun er k)

/-- The result array is the projection of the arguments. -/
theorem G5_eq : G5 m c = fun i => projOf (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) (i 2) := by
  funext i
  obtain ⟨⟨b, y, j⟩, rfl⟩ : ∃ p : Fin 4 × Fin 4096 × Fin 8192, ix3 p.1 p.2.1 p.2.2 = i :=
    ⟨(i 0, i 1, i 2), by funext a; match a with | ⟨0, _⟩ | ⟨1, _⟩ | ⟨2, _⟩ => rfl⟩
  have hp : pt5Of (ix3 b y j) = 64 * b.val + 16 * (y.val / 1024) + j.val / 512 := by
    show 64 * (b.val / 1 - 0) + 16 * (y.val / 1024 - 0) + 1 * (j.val / 512 - 0) = _
    omega
  have hN : pt5Of (ix3 b y j) < cfg0.N := by rw [hp, show cfg0.N = 256 from N_0]; omega
  unfold G5
  rw [dif_pos hN, ← outsAt0_sweep m c _ hN]
  have hl : loc5Of (ix3 b y j) = ix3 0 ⟨y.val % 1024, Nat.mod_lt _ (by norm_num)⟩ ⟨j.val % 512, Nat.mod_lt _ (by norm_num)⟩ := by
    funext a
    match a with
    | ⟨0, _⟩ => exact Fin.ext (by show b.val % 1 = 0; omega)
    | ⟨1, _⟩ => rfl
    | ⟨2, _⟩ => rfl
  rw [hl]
  refine (out_at m c ⟨_, hN⟩ _ _).trans ?_
  have e0 : bt (pt5Of (ix3 b y j) / 16) (q_lt ⟨_, hN⟩) = b := Fin.ext (by show pt5Of (ix3 b y j) / 16 / 4 = b.val; rw [hp]; omega)
  have e1 : tk (pt5Of (ix3 b y j) / 16) ⟨y.val % 1024, Nat.mod_lt _ (by norm_num)⟩ = y :=
    Fin.ext (by show 1024 * (pt5Of (ix3 b y j) / 16 % 4) + y.val % 1024 = y.val; rw [hp]; omega)
  have e2 : fe (pt5Of (ix3 b y j)) ⟨j.val % 512, Nat.mod_lt _ (by norm_num)⟩ = j :=
    Fin.ext (by show 512 * (pt5Of (ix3 b y j) % 16) + j.val % 512 = j.val; rw [hp]; omega)
  exact congr (congrArg₂ (projOf _ _ _ _ _) e0 e1) e2

end Cert.InOdd

end
-- ==== Proof.InOdd.Ref.lean ====
/- The odd layer's input projection: the reference's result. -/
module

public import proofs.«01_k».proof.Proof.Gen.Reference4Ideal.Run
public import proofs.«01_k».proof.Proof.InOdd.Kernel

@[expose] public section

set_option maxRecDepth 16384

noncomputable section

namespace Cert.InOdd.Ref

open Cert.Ffn Cert.Reference4Ideal Cert.Reference4Ideal.Gen Idealize.ShloMosaic Idealize.ShloMosaic.TcCoe Idealize.SL.Sem

/-- The reference's operations, composed, are the projection. -/
theorem result_eq (x0 : Vec Ideal S4x4096x2048 .f32) (x1 : Vec Ideal S2048 .f32) (x2 x3 : Vec Ideal S4x1x2048 .f32)
    (x4 : FVec Ideal S2048x8192 .f32) :
    truncf (F := Ideal) .bf16 (Host.dotGeneral dot_S4x4096x2048_S2048x8192_S4x4096x8192_2_0_01_1_n_n none (addf (mulf
      (mulf (mulf x0 (broadcastInDim S4x4096x2048 ![0, 1, 2] bcast_S4x4096x1_S4x4096x2048_0_1_2 (Host.rsqrt (addf
      (Host.divf (broadcastInDim S4x4096x1 ![0, 1] bcast_S4x4096_S4x4096x1_0_1 (Host.reduceAdd (mulf x0 x0) (constant S_
      .f32 0x00000000#32) reducesTo_S4x4096x2048_S4x4096_d2 h_S_)) (broadcastInDim S4x4096x1 ![] bcast_S_S4x4096x1
      (constant S_ .f32 0x45000000#32))) (broadcastInDim S4x4096x1 ![] bcast_S_S4x4096x1 (constant S_ .f32
      0x358637BD#32)))))) (broadcastInDim S4x4096x2048 ![0, 1, 2] bcast_S1x1x2048_S4x4096x2048_0_1_2 (broadcastInDim
      S1x1x2048 ![2] bcast_S2048_S1x1x2048_2 x1))) (broadcastInDim S4x4096x2048 ![0, 1, 2]
      bcast_S4x1x2048_S4x4096x2048_0_1_2 (addf (broadcastInDim S4x1x2048 ![] bcast_S_S4x1x2048 (constant S_ .f32
      0x3F800000#32)) x3))) (broadcastInDim S4x4096x2048 ![0, 1, 2] bcast_S4x1x2048_S4x4096x2048_0_1_2 x2)) x4)
      bitsLt_bf16_f32
      = fun i => projOf x0 x1 x2 x3 x4 (i 0) (i 1) (i 2) := by
  funext i
  obtain ⟨⟨b, t, j⟩, rfl⟩ : ∃ p : Fin 4 × Fin 4096 × Fin 8192, ix3 p.1 p.2.1 p.2.2 = i :=
    ⟨(i 0, i 1, i 2), by funext a; match a with | ⟨0, _⟩ | ⟨1, _⟩ | ⟨2, _⟩ => rfl⟩
  pointwise
  rfl

end Cert.InOdd.Ref

end
-- ==== Proof.OutOdd.Kernel.lean ====
/- The odd layer's output projection: the kernel's blocks, its vector expression and its result array, element by
   element. -/
module

public import proofs.«01_k».proof.Proof.Gen.Kernel5Ideal.Value
public import proofs.«01_k».proof.Proof.Ffn.Spec
public import Idealize.ShloMosaic.Lib.Pipeline.ValueKit
public import Idealize.ShloMosaic.Lib.Pointwise
public import Idealize.ShloMosaic.Lib.Tactic

@[expose] public section

set_option maxRecDepth 16384

noncomputable section

namespace Cert.OutOdd

open Cert.Ffn Cert.Kernel5Ideal Cert.Kernel5Ideal.Gen Cert.Kernel5Ideal.Value Idealize.ShloMosaic Idealize.ShloMosaic.TcCoe
  Idealize.SL.Sem

/-- The projection's result: the residual stream plus its gate times the 3072 mixed features, the recurrent unit's first and then
    the retention's, against the matrix. -/
def outOf (x0 : S4x4096x2048.Idx → EReal) (x1 : S4x1x2048.Idx → EReal) (x2 : S4x4096x1024.Idx → EReal)
    (x3 : S4x4096x2048.Idx → EReal) (x4 : S3072x2048.Idx → EReal) (b : Fin 4) (t : Fin 4096) (j : Fin 2048) : EReal :=
  resid (x0 (ix3 b t j)) (x1 (ix3 b 0 j))
    ((∑ k : Fin 1024, x2 (ix3 b t k) * x4 (ix2 ⟨k.val, by omega⟩ j))
      + ∑ k : Fin 2048, x3 (ix3 b t k) * x4 (ix2 ⟨1024 + k.val, by omega⟩ j))

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The step's vector expression. -/
theorem pay1_at (a1 : Vec Ideal S1x1024x1024 .bf16) (w1 : Vec Ideal S1024x512 .bf16) (a2 : Vec Ideal S1x1024x2048 .bf16)
    (w2 : Vec Ideal S2048x512 .bf16) (x : Vec Ideal S1x1024x512 .f32) (g : Vec Ideal S1x1x512 .f32) (r : Fin 1024) (j : Fin 512) :
    k0_pay1 a1 w1 a2 w2 x g (ix3 0 r j) = resid (x (ix3 0 r j)) (g (ix3 0 0 j))
      ((∑ k : Fin 1024, a1 (ix3 0 r k) * w1 (ix2 k j)) + ∑ k : Fin 2048, a2 (ix3 0 r k) * w2 (ix2 k j)) := by
  unfold k0_pay1
  pointwise
  rfl

/-- A grid point's number is below 64. -/
theorem lt_N (t : Fin cfg0.N) : t.val < 64 := lt_of_lt_of_eq t.isLt (show cfg0.N = 64 from N_0)

/-- Window 0's block index at a grid point. -/
theorem idx0 : ∀ t : Fin cfg0.N, win0_0.index t = ![t.val / 16, t.val / 4 % 4, t.val % 4] :=
  (by decide +kernel : ∀ t : Fin grid0.N, win0_0.index t = ![t.val / 16, t.val / 4 % 4, t.val % 4])

/-- Window 1's block index at a grid point. -/
theorem idx1 : ∀ t : Fin cfg0.N, win0_1.index t = ![t.val / 16, 0, t.val % 4] :=
  (by decide +kernel : ∀ t : Fin grid0.N, win0_1.index t = ![t.val / 16, 0, t.val % 4])

/-- Window 2's block index at a grid point. -/
theorem idx2 : ∀ t : Fin cfg0.N, win0_2.index t = ![t.val / 16, t.val / 4 % 4, 0] :=
  (by decide +kernel : ∀ t : Fin grid0.N, win0_2.index t = ![t.val / 16, t.val / 4 % 4, 0])

/-- Window 3's block index at a grid point. -/
theorem idx3 : ∀ t : Fin cfg0.N, win0_3.index t = ![t.val / 16, t.val / 4 % 4, 0] :=
  (by decide +kernel : ∀ t : Fin grid0.N, win0_3.index t = ![t.val / 16, t.val / 4 % 4, 0])

/-- Window 4's block index at a grid point. -/
theorem idx4 : ∀ t : Fin cfg0.N, win0_4.index t = ![0, t.val % 4] :=
  (by decide +kernel : ∀ t : Fin grid0.N, win0_4.index t = ![0, t.val % 4])

/-- Window 5's block index at a grid point. -/
theorem idx5 : ∀ t : Fin cfg0.N, win0_5.index t = ![0, t.val % 4] :=
  (by decide +kernel : ∀ t : Fin grid0.N, win0_5.index t = ![0, t.val % 4])

/-- Window 6's block index at a grid point. -/
theorem idx6 : ∀ t : Fin cfg0.N, win0_6.index t = ![t.val / 16, t.val / 4 % 4, t.val % 4] :=
  (by decide +kernel : ∀ t : Fin grid0.N, win0_6.index t = ![t.val / 16, t.val / 4 % 4, t.val % 4])

variable (m : (ℓ : Loc nD τ sig) → Buf (Elt Ideal) ℓ)

/-- The matrix's first rows as the kernel finds them. -/
theorem V1_at (c : Dev nD) (a : Fin 1024) (b : Fin 2048) :
    V m c main_v1 (ix2 a b) = m ((c : Thread nD τ).loc main_arg4) (ix2 ⟨a.val, by omega⟩ b) := by
  show StableHlo.after hostOps0 _ main_v1 _ = _
  unfold hostOps0
  after_results_simp
  pointwise

/-- The matrix's other rows as the kernel finds them. -/
theorem V2_at (c : Dev nD) (a : Fin 2048) (b : Fin 2048) :
    V m c main_v2 (ix2 a b) = m ((c : Thread nD τ).loc main_arg4) (ix2 ⟨1024 + a.val, by omega⟩ b) := by
  show StableHlo.after hostOps0 _ main_v2 _ = _
  unfold hostOps0
  after_results_simp
  pointwise

/-- The batch entry of a grid point. -/
def bt (t : Fin cfg0.N) : Fin 4 := ⟨t.val / 16, by have := lt_N t; omega⟩

/-- The token of row `r` of a grid point's row block. -/
def tk (t : Fin cfg0.N) (r : Fin 1024) : Fin 4096 := ⟨1024 * (t.val / 4 % 4) + r.val, by omega⟩

/-- The feature of column `j` of a grid point's column block. -/
def fe (t : Fin cfg0.N) (j : Fin 512) : Fin 2048 := ⟨512 * (t.val % 4) + j.val, by omega⟩

/-- The residual stream's block. -/
theorem iblk0_at (c : Dev nD) (t : Fin cfg0.N) (r : Fin 1024) (j : Fin 512) :
    iblk m c 0 t (ix3 0 r j) = m ((c : Thread nD τ).loc main_arg0) (ix3 (bt t) (tk t r) (fe t j)) := by
  have ht := lt_N t
  unfold iblk
  rw [View.read_apply]
  show V m c main_arg0 _ = _
  rw [V_main_arg0]
  refine congrArg (m ((c : Thread nD τ).loc main_arg0)) ?_
  blk_ext [idx0, bt, tk, fe]

/-- The gate's block. -/
theorem iblk1_at (c : Dev nD) (t : Fin cfg0.N) (j : Fin 512) :
    iblk m c 1 t (ix3 0 0 j) = m ((c : Thread nD τ).loc main_arg1) (ix3 (bt t) 0 (fe t j)) := by
  have ht := lt_N t
  unfold iblk
  rw [View.read_apply]
  show V m c main_arg1 _ = _
  rw [V_main_arg1]
  refine congrArg (m ((c : Thread nD τ).loc main_arg1)) ?_
  blk_ext [idx1, bt, tk, fe]

/-- The first mixed features' block. -/
theorem iblk2_at (c : Dev nD) (t : Fin cfg0.N) (r : Fin 1024) (k : Fin 1024) :
    iblk m c 2 t (ix3 0 r k) = m ((c : Thread nD τ).loc main_arg2) (ix3 (bt t) (tk t r) k) := by
  have ht := lt_N t
  unfold iblk
  rw [View.read_apply]
  show V m c main_arg2 _ = _
  rw [V_main_arg2]
  refine congrArg (m ((c : Thread nD τ).loc main_arg2)) ?_
  blk_ext [idx2, bt, tk, fe]

/-- The other mixed features' block. -/
theorem iblk3_at (c : Dev nD) (t : Fin cfg0.N) (r : Fin 1024) (k : Fin 2048) :
    iblk m c 3 t (ix3 0 r k) = m ((c : Thread nD τ).loc main_arg3) (ix3 (bt t) (tk t r) k) := by
  have ht := lt_N t
  unfold iblk
  rw [View.read_apply]
  show V m c main_arg3 _ = _
  rw [V_main_arg3]
  refine congrArg (m ((c : Thread nD τ).loc main_arg3)) ?_
  blk_ext [idx3, bt, tk, fe]

/-- The block of columns of the matrix's first rows. -/
theorem iblk4_at (c : Dev nD) (t : Fin cfg0.N) (k : Fin 1024) (j : Fin 512) :
    iblk m c 4 t (ix2 k j) = m ((c : Thread nD τ).loc main_arg4) (ix2 ⟨k.val, by omega⟩ (fe t j)) := by
  have ht := lt_N t
  refine Eq.trans ?_ (V1_at m c k (fe t j))
  unfold iblk
  rw [View.read_apply]
  show V m c main_v1 _ = _
  refine congrArg (V m c main_v1) ?_
  blk_ext [idx4, bt, tk, fe]

/-- The block of columns of the matrix's other rows. -/
theorem iblk5_at (c : Dev nD) (t : Fin cfg0.N) (k : Fin 2048) (j : Fin 512) :
    iblk m c 5 t (ix2 k j) = m ((c : Thread nD τ).loc main_arg4) (ix2 ⟨1024 + k.val, by omega⟩ (fe t j)) := by
  have ht := lt_N t
  refine Eq.trans ?_ (V2_at m c k (fe t j))
  unfold iblk
  rw [View.read_apply]
  show V m c main_v2 _ = _
  refine congrArg (V m c main_v2) ?_
  blk_ext [idx5, bt, tk, fe]

/-- One grid step's block of the result. -/
theorem step_at (c : Dev nD) (t : Fin cfg0.N) (r : Fin 1024) (j : Fin 512) :
    out0_6 (iblk m c 0 t) (iblk m c 1 t) (iblk m c 2 t) (iblk m c 3 t) (iblk m c 4 t) (iblk m c 5 t) (ix3 0 r j)
      = outOf (m ((c : Thread nD τ).loc main_arg0)) (m ((c : Thread nD τ).loc main_arg1)) (m ((c : Thread nD τ).loc main_arg2))
        (m ((c : Thread nD τ).loc main_arg3)) (m ((c : Thread nD τ).loc main_arg4)) (bt t) (tk t r) (fe t j) := by
  unfold out0_6
  rw [View.canon_unit_zero z3]
  simp only [View.ld_unit_zero (S := S1x1024x512) z3, View.ld_unit_zero (S := S1x1x512) z3, View.ld_unit_zero (S := S1x1024x1024) z3,
    View.ld_unit_zero (S := S1x1024x2048) z3, View.ld_unit_zero (S := S1024x512) z2, View.ld_unit_zero (S := S2048x512) z2]
  rw [pay1_at]
  simp only [iblk0_at m c t, iblk1_at m c t, iblk2_at m c t, iblk3_at m c t, iblk4_at m c t, iblk5_at m c t]
  rfl

/-- The result array is the projection of the arguments. -/
theorem final (c : Dev nD) : (dats m 0 c).arrAt 6 cfg0.N
    = fun i => outOf (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2) := by
  refine (dats m 0 c).arrAt_eq_of_covers 6 _ (by decide +kernel) fun t hf y => ?_
  have ht := lt_N t
  blk_simp
  rw [after0_6]
  obtain ⟨y, rfl⟩ : ∃ z : Fin 1 × Fin 1024 × Fin 512, ix3 z.1 z.2.1 z.2.2 = y :=
    ⟨(y (0 : Fin 3), y (1 : Fin 3), y (2 : Fin 3)), by funext a; fin_cases a <;> rfl⟩
  obtain ⟨z, r, j⟩ := y
  obtain rfl : z = 0 := Subsingleton.elim _ _
  have e : (win0_6.blk t).view.emb (ix3 0 r j) = ix3 (bt t) (tk t r) (fe t j) := by
    blk_ext [idx6, bt, tk, fe]
  refine Eq.trans ?_ (congrArg (fun i : S4x4096x2048.Idx => outOf _ _ _ _ _ (i 0) (i 1) (i 2)) e.symm)
  exact step_at m c t r j

end Cert.OutOdd

end
-- ==== Proof.OutOdd.Ref.lean ====
/- The odd layer's output projection: the reference's result. -/
module

public import proofs.«01_k».proof.Proof.Gen.Reference5Ideal.Run
public import proofs.«01_k».proof.Proof.OutOdd.Kernel

@[expose] public section

set_option maxRecDepth 16384

noncomputable section

namespace Cert.OutOdd.Ref

open Cert.Ffn Cert.Reference5Ideal Cert.Reference5Ideal.Gen Idealize.ShloMosaic Idealize.ShloMosaic.TcCoe Idealize.SL.Sem

/-- The reference's operations, composed, are the projection: the sum over all features splits where the two kinds meet. -/
theorem result_eq (x0 : Vec Ideal S4x4096x2048 .f32) (x1 : Vec Ideal S4x1x2048 .f32) (x2 : Vec Ideal S4x4096x1024 .bf16)
    (x3 : Vec Ideal S4x4096x2048 .bf16) (x4 : FVec Ideal S3072x2048 .f32) :
    addf (F := Ideal) x0 (mulf (broadcastInDim S4x4096x2048 ![0, 1, 2] bcast_S4x1x2048_S4x4096x2048_0_1_2 x1)
      (Host.dotGeneral dot_S4x4096x3072_S3072x2048_S4x4096x2048_2_0_01_1_n_n none (concatenate S4x4096x3072 2
        [⟨S4x4096x1024, (extf .f32 x2 bitsLt_bf16_f32)⟩, ⟨S4x4096x2048, (extf .f32 x3 bitsLt_bf16_f32)⟩]
        concatenates_S4x4096x1024_S4x4096x2048_S4x4096x3072_d2) x4))
      = fun i => outOf x0 x1 x2 x3 x4 (i 0) (i 1) (i 2) := by
  funext i
  obtain ⟨⟨b, t, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  pointwise
  rfl

end Cert.OutOdd.Ref

end
-- ==== Proof.OutEven.Kernel.lean ====
/- The even layer's output projection: the kernel's blocks, its vector expression and its result array, element by
   element. -/
module

public import proofs.«01_k».proof.Proof.Gen.Kernel7Ideal.Value
public import proofs.«01_k».proof.Proof.Ffn.Spec
public import Idealize.ShloMosaic.Lib.Pipeline.ValueKit
public import Idealize.ShloMosaic.Lib.Pointwise
public import Idealize.ShloMosaic.Lib.Tactic

@[expose] public section

set_option maxRecDepth 16384

noncomputable section

namespace Cert.OutEven

open Cert.Ffn Cert.Kernel7Ideal Cert.Kernel7Ideal.Gen Cert.Kernel7Ideal.Value Idealize.ShloMosaic Idealize.ShloMosaic.TcCoe
  Idealize.SL.Sem

/-- The projection's result: the residual stream plus its gate times the 2048 mixed features, the S5 unit's first and then
    the delta rule's, against the matrix. -/
def outOf (x0 : S4x4096x2048.Idx → EReal) (x1 : S4x1x2048.Idx → EReal) (x2 : S4x4096x1024.Idx → EReal)
    (x3 : S4x4096x1024.Idx → EReal) (x4 : S2048x2048.Idx → EReal) (b : Fin 4) (t : Fin 4096) (j : Fin 2048) : EReal :=
  resid (x0 (ix3 b t j)) (x1 (ix3 b 0 j))
    ((∑ k : Fin 1024, x2 (ix3 b t k) * x4 (ix2 ⟨k.val, by omega⟩ j))
      + ∑ k : Fin 1024, x3 (ix3 b t k) * x4 (ix2 ⟨1024 + k.val, by omega⟩ j))

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The step's vector expression. -/
theorem pay1_at (a1 : Vec Ideal S1x1024x1024 .bf16) (w1 : Vec Ideal S1024x512 .bf16) (a2 : Vec Ideal S1x1024x1024 .bf16)
    (w2 : Vec Ideal S1024x512 .bf16) (x : Vec Ideal S1x1024x512 .f32) (g : Vec Ideal S1x1x512 .f32) (r : Fin 1024) (j : Fin 512) :
    k0_pay1 a1 w1 a2 w2 x g (ix3 0 r j) = resid (x (ix3 0 r j)) (g (ix3 0 0 j))
      ((∑ k : Fin 1024, a1 (ix3 0 r k) * w1 (ix2 k j)) + ∑ k : Fin 1024, a2 (ix3 0 r k) * w2 (ix2 k j)) := by
  unfold k0_pay1
  pointwise
  rfl

/-- A grid point's number is below 64. -/
theorem lt_N (t : Fin cfg0.N) : t.val < 64 := lt_of_lt_of_eq t.isLt (show cfg0.N = 64 from N_0)

/-- Window 0's block index at a grid point. -/
theorem idx0 : ∀ t : Fin cfg0.N, win0_0.index t = ![t.val / 16, t.val / 4 % 4, t.val % 4] :=
  (by decide +kernel : ∀ t : Fin grid0.N, win0_0.index t = ![t.val / 16, t.val / 4 % 4, t.val % 4])

/-- Window 1's block index at a grid point. -/
theorem idx1 : ∀ t : Fin cfg0.N, win0_1.index t = ![t.val / 16, 0, t.val % 4] :=
  (by decide +kernel : ∀ t : Fin grid0.N, win0_1.index t = ![t.val / 16, 0, t.val % 4])

/-- Window 2's block index at a grid point. -/
theorem idx2 : ∀ t : Fin cfg0.N, win0_2.index t = ![t.val / 16, t.val / 4 % 4, 0] :=
  (by decide +kernel : ∀ t : Fin grid0.N, win0_2.index t = ![t.val / 16, t.val / 4 % 4, 0])

/-- Window 3's block index at a grid point. -/
theorem idx3 : ∀ t : Fin cfg0.N, win0_3.index t = ![t.val / 16, t.val / 4 % 4, 0] :=
  (by decide +kernel : ∀ t : Fin grid0.N, win0_3.index t = ![t.val / 16, t.val / 4 % 4, 0])

/-- Window 4's block index at a grid point. -/
theorem idx4 : ∀ t : Fin cfg0.N, win0_4.index t = ![0, t.val % 4] :=
  (by decide +kernel : ∀ t : Fin grid0.N, win0_4.index t = ![0, t.val % 4])

/-- Window 5's block index at a grid point. -/
theorem idx5 : ∀ t : Fin cfg0.N, win0_5.index t = ![0, t.val % 4] :=
  (by decide +kernel : ∀ t : Fin grid0.N, win0_5.index t = ![0, t.val % 4])

/-- Window 6's block index at a grid point. -/
theorem idx6 : ∀ t : Fin cfg0.N, win0_6.index t = ![t.val / 16, t.val / 4 % 4, t.val % 4] :=
  (by decide +kernel : ∀ t : Fin grid0.N, win0_6.index t = ![t.val / 16, t.val / 4 % 4, t.val % 4])

variable (m : (ℓ : Loc nD τ sig) → Buf (Elt Ideal) ℓ)

/-- The matrix's first rows as the kernel finds them. -/
theorem V1_at (c : Dev nD) (a : Fin 1024) (b : Fin 2048) :
    V m c main_v1 (ix2 a b) = m ((c : Thread nD τ).loc main_arg4) (ix2 ⟨a.val, by omega⟩ b) := by
  show StableHlo.after hostOps0 _ main_v1 _ = _
  unfold hostOps0
  after_results_simp
  pointwise

/-- The matrix's other rows as the kernel finds them. -/
theorem V2_at (c : Dev nD) (a : Fin 1024) (b : Fin 2048) :
    V m c main_v2 (ix2 a b) = m ((c : Thread nD τ).loc main_arg4) (ix2 ⟨1024 + a.val, by omega⟩ b) := by
  show StableHlo.after hostOps0 _ main_v2 _ = _
  unfold hostOps0
  after_results_simp
  pointwise

/-- The batch entry of a grid point. -/
def bt (t : Fin cfg0.N) : Fin 4 := ⟨t.val / 16, by have := lt_N t; omega⟩

/-- The token of row `r` of a grid point's row block. -/
def tk (t : Fin cfg0.N) (r : Fin 1024) : Fin 4096 := ⟨1024 * (t.val / 4 % 4) + r.val, by omega⟩

/-- The feature of column `j` of a grid point's column block. -/
def fe (t : Fin cfg0.N) (j : Fin 512) : Fin 2048 := ⟨512 * (t.val % 4) + j.val, by omega⟩

/-- The residual stream's block. -/
theorem iblk0_at (c : Dev nD) (t : Fin cfg0.N) (r : Fin 1024) (j : Fin 512) :
    iblk m c 0 t (ix3 0 r j) = m ((c : Thread nD τ).loc main_arg0) (ix3 (bt t) (tk t r) (fe t j)) := by
  have ht := lt_N t
  unfold iblk
  rw [View.read_apply]
  show V m c main_arg0 _ = _
  rw [V_main_arg0]
  refine congrArg (m ((c : Thread nD τ).loc main_arg0)) ?_
  blk_ext [idx0, bt, tk, fe]

/-- The gate's block. -/
theorem iblk1_at (c : Dev nD) (t : Fin cfg0.N) (j : Fin 512) :
    iblk m c 1 t (ix3 0 0 j) = m ((c : Thread nD τ).loc main_arg1) (ix3 (bt t) 0 (fe t j)) := by
  have ht := lt_N t
  unfold iblk
  rw [View.read_apply]
  show V m c main_arg1 _ = _
  rw [V_main_arg1]
  refine congrArg (m ((c : Thread nD τ).loc main_arg1)) ?_
  blk_ext [idx1, bt, tk, fe]

/-- The first mixed features' block. -/
theorem iblk2_at (c : Dev nD) (t : Fin cfg0.N) (r : Fin 1024) (k : Fin 1024) :
    iblk m c 2 t (ix3 0 r k) = m ((c : Thread nD τ).loc main_arg2) (ix3 (bt t) (tk t r) k) := by
  have ht := lt_N t
  unfold iblk
  rw [View.read_apply]
  show V m c main_arg2 _ = _
  rw [V_main_arg2]
  refine congrArg (m ((c : Thread nD τ).loc main_arg2)) ?_
  blk_ext [idx2, bt, tk, fe]

/-- The other mixed features' block. -/
theorem iblk3_at (c : Dev nD) (t : Fin cfg0.N) (r : Fin 1024) (k : Fin 1024) :
    iblk m c 3 t (ix3 0 r k) = m ((c : Thread nD τ).loc main_arg3) (ix3 (bt t) (tk t r) k) := by
  have ht := lt_N t
  unfold iblk
  rw [View.read_apply]
  show V m c main_arg3 _ = _
  rw [V_main_arg3]
  refine congrArg (m ((c : Thread nD τ).loc main_arg3)) ?_
  blk_ext [idx3, bt, tk, fe]

/-- The block of columns of the matrix's first rows. -/
theorem iblk4_at (c : Dev nD) (t : Fin cfg0.N) (k : Fin 1024) (j : Fin 512) :
    iblk m c 4 t (ix2 k j) = m ((c : Thread nD τ).loc main_arg4) (ix2 ⟨k.val, by omega⟩ (fe t j)) := by
  have ht := lt_N t
  refine Eq.trans ?_ (V1_at m c k (fe t j))
  unfold iblk
  rw [View.read_apply]
  show V m c main_v1 _ = _
  refine congrArg (V m c main_v1) ?_
  blk_ext [idx4, bt, tk, fe]

/-- The block of columns of the matrix's other rows. -/
theorem iblk5_at (c : Dev nD) (t : Fin cfg0.N) (k : Fin 1024) (j : Fin 512) :
    iblk m c 5 t (ix2 k j) = m ((c : Thread nD τ).loc main_arg4) (ix2 ⟨1024 + k.val, by omega⟩ (fe t j)) := by
  have ht := lt_N t
  refine Eq.trans ?_ (V2_at m c k (fe t j))
  unfold iblk
  rw [View.read_apply]
  show V m c main_v2 _ = _
  refine congrArg (V m c main_v2) ?_
  blk_ext [idx5, bt, tk, fe]

/-- One grid step's block of the result. -/
theorem step_at (c : Dev nD) (t : Fin cfg0.N) (r : Fin 1024) (j : Fin 512) :
    out0_6 (iblk m c 0 t) (iblk m c 1 t) (iblk m c 2 t) (iblk m c 3 t) (iblk m c 4 t) (iblk m c 5 t) (ix3 0 r j)
      = outOf (m ((c : Thread nD τ).loc main_arg0)) (m ((c : Thread nD τ).loc main_arg1)) (m ((c : Thread nD τ).loc main_arg2))
        (m ((c : Thread nD τ).loc main_arg3)) (m ((c : Thread nD τ).loc main_arg4)) (bt t) (tk t r) (fe t j) := by
  unfold out0_6
  rw [View.canon_unit_zero z3]
  simp only [View.ld_unit_zero (S := S1x1024x512) z3, View.ld_unit_zero (S := S1x1x512) z3, View.ld_unit_zero (S := S1x1024x1024) z3,
    View.ld_unit_zero (S := S1x1024x1024) z3, View.ld_unit_zero (S := S1024x512) z2, View.ld_unit_zero (S := S1024x512) z2]
  rw [pay1_at]
  simp only [iblk0_at m c t, iblk1_at m c t, iblk2_at m c t, iblk3_at m c t, iblk4_at m c t, iblk5_at m c t]
  rfl

/-- The result array is the projection of the arguments. -/
theorem final (c : Dev nD) : (dats m 0 c).arrAt 6 cfg0.N
    = fun i => outOf (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2) := by
  refine (dats m 0 c).arrAt_eq_of_covers 6 _ (by decide +kernel) fun t hf y => ?_
  have ht := lt_N t
  blk_simp
  rw [after0_6]
  obtain ⟨y, rfl⟩ : ∃ z : Fin 1 × Fin 1024 × Fin 512, ix3 z.1 z.2.1 z.2.2 = y :=
    ⟨(y (0 : Fin 3), y (1 : Fin 3), y (2 : Fin 3)), by funext a; fin_cases a <;> rfl⟩
  obtain ⟨z, r, j⟩ := y
  obtain rfl : z = 0 := Subsingleton.elim _ _
  have e : (win0_6.blk t).view.emb (ix3 0 r j) = ix3 (bt t) (tk t r) (fe t j) := by
    blk_ext [idx6, bt, tk, fe]
  refine Eq.trans ?_ (congrArg (fun i : S4x4096x2048.Idx => outOf _ _ _ _ _ (i 0) (i 1) (i 2)) e.symm)
  exact step_at m c t r j

end Cert.OutEven

end
-- ==== Proof.OutEven.Ref.lean ====
/- The even layer's output projection: the reference's result. -/
module

public import proofs.«01_k».proof.Proof.Gen.Reference7Ideal.Run
public import proofs.«01_k».proof.Proof.OutEven.Kernel

@[expose] public section

set_option maxRecDepth 16384

noncomputable section

namespace Cert.OutEven.Ref

open Cert.Ffn Cert.Reference7Ideal Cert.Reference7Ideal.Gen Idealize.ShloMosaic Idealize.ShloMosaic.TcCoe Idealize.SL.Sem

/-- The reference's operations, composed, are the projection: the sum over all features splits where the two kinds meet. -/
theorem result_eq (x0 : Vec Ideal S4x4096x2048 .f32) (x1 : Vec Ideal S4x1x2048 .f32) (x2 : Vec Ideal S4x4096x1024 .bf16)
    (x3 : Vec Ideal S4x4096x1024 .bf16) (x4 : FVec Ideal S2048x2048 .f32) :
    addf (F := Ideal) x0 (mulf (broadcastInDim S4x4096x2048 ![0, 1, 2] bcast_S4x1x2048_S4x4096x2048_0_1_2 x1)
      (Host.dotGeneral dot_S4x4096x2048_S2048x2048_S4x4096x2048_2_0_01_1_n_n none (concatenate S4x4096x2048 2
        [⟨S4x4096x1024, (extf .f32 x2 bitsLt_bf16_f32)⟩, ⟨S4x4096x1024, (extf .f32 x3 bitsLt_bf16_f32)⟩]
        concatenates_S4x4096x1024_S4x4096x1024_S4x4096x2048_d2) x4))
      = fun i => outOf x0 x1 x2 x3 x4 (i 0) (i 1) (i 2) := by
  funext i
  obtain ⟨⟨b, t, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  pointwise
  rfl

end Cert.OutEven.Ref

end
-- ==== Proof.Glu.Kernel.lean ====
/- The S5 unit's gate over the extended reals: the kernel's blocks, its vector expression and its result array, element by
   element. -/
module

public import proofs.«01_k».proof.Proof.Gen.Kernel8Ideal.Value
public import Idealize.ShloMosaic.Lib.Pipeline.ValueKit
public import Idealize.ShloMosaic.Lib.Pointwise
public import Idealize.ShloMosaic.Lib.Tactic

@[expose] public section

set_option maxRecDepth 16384

noncomputable section

namespace Cert.Glu

open Cert.Kernel8Ideal Cert.Kernel8Ideal.Gen Cert.Kernel8Ideal.Value Idealize.ShloMosaic Idealize.ShloMosaic.TcCoe Idealize.SL.Sem

/-- The smooth step of a feature, through the hyperbolic tangent of a cubic. -/
def gelu (x : EReal) : EReal := Ideal.ofBits .f32 0x3F000000#32 * x
  * (1 + Ideal.tanh (Ideal.ofBits .f32 0x3F4C422A#32 * (x + Ideal.ofBits .f32 0x3D372713#32 * (x * x * x))))

/-- The same with the half moved to the other factor. -/
theorem gelu_eq (x : EReal) : x * (Ideal.ofBits .f32 0x3F000000#32
    * (1 + Ideal.tanh (Ideal.ofBits .f32 0x3F4C422A#32 * (x + Ideal.ofBits .f32 0x3D372713#32 * (x * x * x))))) = gelu x := by
  unfold gelu
  rw [← mul_assoc, mul_comm x]

/-- One feature of a token's row: its smooth step times the gate of the row's smooth steps. -/
def glu (y : Fin 1024 → EReal) (w : Fin 1024 → EReal) (b : EReal) (j : Fin 1024) : EReal :=
  gelu (y j) * Ideal.logistic ((∑ k, gelu (y k) * w k) + b)

/-- The gate's result for the three arguments. -/
def gluOf (x0 : S4x4096x1024.Idx → EReal) (x1 : S1024x1024.Idx → EReal) (x2 : S1024.Idx → EReal) (b : Fin 4) (t : Fin 4096)
    (j : Fin 1024) : EReal := glu (fun k => x0 (ix3 b t k)) (fun k => x1 (ix2 k j)) (x2 (ix1 j)) j

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

/-- The step's vector expression. -/
theorem pay1_at (y : Vec Ideal S1x1024x1024 .f32) (w : Vec Ideal S1024x1024 .bf16) (b : Vec Ideal S1x1024 .f32) (r j : Fin 1024) :
    k0_pay1 y w b (ix3 0 r j) = glu (fun k => y (ix3 0 r k)) (fun k => w (ix2 k j)) (b (ix2 0 j)) j := by
  unfold k0_pay1
  pointwise
  rfl

/-- A grid point's number is below 16. -/
theorem lt_N (t : Fin cfg0.N) : t.val < 16 := lt_of_lt_of_eq t.isLt (show cfg0.N = 16 from N_0)

/-- Window 0's block index at a grid point. -/
theorem idx0 : ∀ t : Fin cfg0.N, win0_0.index t = ![t.val / 4, t.val % 4, 0] :=
  (by decide +kernel : ∀ t : Fin grid0.N, win0_0.index t = ![t.val / 4, t.val % 4, 0])

/-- Window 1's block index at a grid point. -/
theorem idx1 : ∀ t : Fin cfg0.N, win0_1.index t = ![0, 0] :=
  (by decide +kernel : ∀ t : Fin grid0.N, win0_1.index t = ![0, 0])

/-- Window 2's block index at a grid point. -/
theorem idx2 : ∀ t : Fin cfg0.N, win0_2.index t = ![0, 0] :=
  (by decide +kernel : ∀ t : Fin grid0.N, win0_2.index t = ![0, 0])

/-- Window 3's block index at a grid point. -/
theorem idx3 : ∀ t : Fin cfg0.N, win0_3.index t = ![t.val / 4, t.val % 4, 0] :=
  (by decide +kernel : ∀ t : Fin grid0.N, win0_3.index t = ![t.val / 4, t.val % 4, 0])

variable (m : (ℓ : Loc nD τ sig) → Buf (Elt Ideal) ℓ)

/-- The gate's matrix as the kernel finds it: the argument. -/
theorem V0_at (c : Dev nD) (a b : Fin 1024) : V m c main_v0 (ix2 a b) = m ((c : Thread nD τ).loc main_arg1) (ix2 a b) := by
  show StableHlo.after hostOps0 _ main_v0 _ = _
  unfold hostOps0
  after_results_simp
  rfl

/-- The gate's offset as the kernel finds it: the argument, in one row. -/
theorem V1_at (c : Dev nD) (b : Fin 1024) : V m c main_v1 (ix2 0 b) = m ((c : Thread nD τ).loc main_arg2) (ix1 b) := by
  show StableHlo.after hostOps0 _ main_v1 _ = _
  unfold hostOps0
  after_results_simp
  show shapeCast S1x1024 (m ((c : Thread nD τ).loc main_arg2)) shapeCasts_S1024_S1x1024 (ix2 0 b) = _
  pointwise

/-- The batch entry of a grid point. -/
def bt (t : Fin cfg0.N) : Fin 4 := ⟨t.val / 4, by have := lt_N t; omega⟩

/-- The token of row `r` of a grid point's row block. -/
def tk (t : Fin cfg0.N) (r : Fin 1024) : Fin 4096 := ⟨1024 * (t.val % 4) + r.val, by omega⟩

/-- The block of rows. -/
theorem iblk0_at (c : Dev nD) (t : Fin cfg0.N) (r k : Fin 1024) :
    iblk m c 0 t (ix3 0 r k) = m ((c : Thread nD τ).loc main_arg0) (ix3 (bt t) (tk t r) k) := by
  have ht := lt_N t
  unfold iblk
  rw [View.read_apply]
  show V m c main_arg0 _ = _
  rw [V_main_arg0]
  refine congrArg (m ((c : Thread nD τ).loc main_arg0)) ?_
  blk_ext [idx0, bt, tk]

/-- The gate's matrix. -/
theorem iblk1_at (c : Dev nD) (t : Fin cfg0.N) (k j : Fin 1024) :
    iblk m c 1 t (ix2 k j) = m ((c : Thread nD τ).loc main_arg1) (ix2 k j) := by
  have ht := lt_N t
  refine Eq.trans ?_ (V0_at m c k j)
  unfold iblk
  rw [View.read_apply]
  show V m c main_v0 _ = _
  refine congrArg (V m c main_v0) ?_
  blk_ext [idx1, bt, tk]

/-- The gate's offset. -/
theorem iblk2_at (c : Dev nD) (t : Fin cfg0.N) (j : Fin 1024) :
    iblk m c 2 t (ix2 0 j) = m ((c : Thread nD τ).loc main_arg2) (ix1 j) := by
  have ht := lt_N t
  refine Eq.trans ?_ (V1_at m c j)
  unfold iblk
  rw [View.read_apply]
  show V m c main_v1 _ = _
  refine congrArg (V m c main_v1) ?_
  blk_ext [idx2, bt, tk]

/-- One grid step's block of the result. -/
theorem step_at (c : Dev nD) (t : Fin cfg0.N) (r j : Fin 1024) :
    out0_3 (iblk m c 0 t) (iblk m c 1 t) (iblk m c 2 t) (ix3 0 r j)
      = gluOf (m ((c : Thread nD τ).loc main_arg0)) (m ((c : Thread nD τ).loc main_arg1)) (m ((c : Thread nD τ).loc main_arg2))
        (bt t) (tk t r) j := by
  unfold out0_3
  rw [View.canon_unit_zero z3]
  simp only [View.ld_unit_zero (S := S1x1024x1024) z3, View.ld_unit_zero (S := S1024x1024) z2, View.ld_unit_zero (S := S1x1024) z2]
  rw [pay1_at]
  simp only [iblk0_at m c t, iblk1_at m c t, iblk2_at m c t]
  rfl

/-- The result array is the gate's result for the arguments. -/
theorem final (c : Dev nD) : (dats m 0 c).arrAt 3 cfg0.N
    = fun i => gluOf (m ((c : Thread nD τ).loc main_arg0)) (m ((c : Thread nD τ).loc main_arg1)) (m ((c : Thread nD τ).loc main_arg2))
        (i 0) (i 1) (i 2) := by
  refine (dats m 0 c).arrAt_eq_of_covers 3 _ (by decide +kernel) fun t hf y => ?_
  have ht := lt_N t
  blk_simp
  rw [after0_3]
  obtain ⟨y, rfl⟩ : ∃ z : Fin 1 × Fin 1024 × Fin 1024, ix3 z.1 z.2.1 z.2.2 = y :=
    ⟨(y (0 : Fin 3), y (1 : Fin 3), y (2 : Fin 3)), by funext a; fin_cases a <;> rfl⟩
  obtain ⟨z, r, j⟩ := y
  obtain rfl : z = 0 := Subsingleton.elim _ _
  have e : (win0_3.blk t).view.emb (ix3 0 r j) = ix3 (bt t) (tk t r) j := by
    blk_ext [idx3, bt, tk]
  refine Eq.trans ?_ (congrArg (fun i : S4x4096x1024.Idx => gluOf _ _ _ (i 0) (i 1) (i 2)) e.symm)
  exact step_at m c t r j

end Cert.Glu

end
-- ==== Proof.Glu.Ref.lean ====
/- The S5 unit's gate: the reference's result. -/
module

public import proofs.«01_k».proof.Proof.Gen.Reference8Ideal.Run
public import proofs.«01_k».proof.Proof.Glu.Kernel

@[expose] public section

set_option maxRecDepth 16384

noncomputable section

namespace Cert.Glu.Ref

open Cert.Reference8Ideal Cert.Reference8Ideal.Gen Idealize.ShloMosaic Idealize.ShloMosaic.TcCoe Idealize.SL.Sem

/-- The smooth steps of an array, as the reference composes them. -/
abbrev gelus (x : Vec Ideal S4x4096x1024 .f32) : FVec Ideal S4x4096x1024 .f32 :=
  mulf x (mulf (broadcastInDim S4x4096x1024 ![] bcast_S_S4x4096x1024 (constant S_ .f32 0x3F000000#32))
    (addf (broadcastInDim S4x4096x1024 ![] bcast_S_S4x4096x1024 (constant S_ .f32 0x3F800000#32))
      (Host.tanh (mulf (broadcastInDim S4x4096x1024 ![] bcast_S_S4x4096x1024 (constant S_ .f32 0x3F4C422A#32))
        (addf x (mulf (broadcastInDim S4x4096x1024 ![] bcast_S_S4x4096x1024 (constant S_ .f32 0x3D372713#32))
          (mulf (mulf x x) x)))))))

/-- They are the smooth steps of its elements. -/
theorem gelus_at (x : Vec Ideal S4x4096x1024 .f32) (b : Fin 4) (t : Fin 4096) (j : Fin 1024) :
    gelus x (ix3 b t j) = gelu (x (ix3 b t j)) := by
  refine Eq.trans ?_ (gelu_eq _)
  unfold gelus
  pointwise

/-- The reference's operations, composed, are the gate. -/
theorem result_eq (x0 : Vec Ideal S4x4096x1024 .f32) (x1 : FVec Ideal S1024x1024 .f32) (x2 : Vec Ideal S1024 .f32) :
    truncf .bf16 (mulf (gelus x0) (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf (addf
        (Host.dotGeneral dot_S4x4096x1024_S1024x1024_S4x4096x1024_2_0_01_1_n_n none (gelus x0) x1)
        (broadcastInDim S4x4096x1024 ![0, 1, 2] bcast_S1x1x1024_S4x4096x1024_0_1_2
          (broadcastInDim S1x1x1024 ![2] bcast_S1024_S1x1x1024_2 x2)))))))) bitsLt_bf16_f32
      = fun i => gluOf x0 x1 x2 (i 0) (i 1) (i 2) := by
  funext i
  obtain ⟨⟨b, t, j⟩, rfl⟩ : ∃ p : Fin 4 × Fin 4096 × Fin 1024, ix3 p.1 p.2.1 p.2.2 = i :=
    ⟨(i 0, i 1, i 2), by funext a; match a with | ⟨0, _⟩ | ⟨1, _⟩ | ⟨2, _⟩ => rfl⟩
  have g := gelus_at x0 b t
  revert g
  generalize gelus x0 = u
  intro g
  pointwise
  simp only [g]
  rfl

end Cert.Glu.Ref

end
-- ==== Proof.RetFin.Kernel.lean ====
/- The retention's finish over the extended reals: the kernel's blocks, its vector expression and its result array, element
   by element. -/
module

public import proofs.«01_k».proof.Proof.Gen.Kernel9Ideal.Value
public import Idealize.ShloMosaic.Lib.Pipeline.ValueKit
public import Idealize.ShloMosaic.Lib.Pointwise
public import Idealize.ShloMosaic.Lib.Tactic

@[expose] public section

set_option maxRecDepth 16384

noncomputable section

namespace Cert.RetFin

open Cert.Kernel9Ideal Cert.Kernel9Ideal.Gen Cert.Kernel9Ideal.Value Idealize.ShloMosaic Idealize.ShloMosaic.TcCoe Idealize.SL.Sem

/-- One column of a head: the head's row over its root mean square, times the smooth gate of `r`. -/
def fin (o : Fin 512 → EReal) (r : EReal) (j : Fin 512) : EReal :=
  o j * Ideal.rsqrt (Ideal.div (∑ k, o k * o k) (Ideal.ofBits .f32 0x44000000#32) + Ideal.ofBits .f32 0x358637BD#32)
    * (r * Ideal.logistic r)

/-- The finish of the two arguments at column `j` of head `h`; the gate's columns start at 6144. -/
def finOf (x0 : S4x4096x2048.Idx → EReal) (x1 : S4x4096x8192.Idx → EReal) (b : Fin 4) (t : Fin 4096) (h : Fin 4) (j : Fin 512) : EReal :=
  fin (fun k => x0 (ix3 b t ⟨512 * h.val + k.val, by omega⟩)) (x1 (ix3 b t ⟨6144 + (512 * h.val + j.val), by omega⟩)) j

/-- The finish as an array: column `j` is column `j % 512` of head `j / 512`. -/
def finArr (x0 : S4x4096x2048.Idx → EReal) (x1 : S4x4096x8192.Idx → EReal) (b : Fin 4) (t : Fin 4096) (j : Fin 2048) : EReal :=
  finOf x0 x1 b t ⟨j.val / 512, by omega⟩ ⟨j.val % 512, Nat.mod_lt _ (by norm_num)⟩

/-- The array at a head's column. -/
theorem finArr_at (x0 : S4x4096x2048.Idx → EReal) (x1 : S4x4096x8192.Idx → EReal) (b : Fin 4) (t : Fin 4096) (h : Fin 4) (j : Fin 512) :
    finArr x0 x1 b t ⟨512 * h.val + j.val, by omega⟩ = finOf x0 x1 b t h j := by
  unfold finArr
  congr 1
  · exact Fin.ext (by show (512 * h.val + j.val) / 512 = h.val; omega)
  · exact Fin.ext (by show (512 * h.val + j.val) % 512 = j.val; omega)

/-- The zero offset of rank 3. -/
theorem z3 : (![0, 0, 0] : Fin 3 → Nat) = fun _ => 0 := funext fun a => by fin_cases a <;> rfl

/-- The step's vector expression. -/
theorem pay1_at (o : Vec Ideal S1x1024x512 .f32) (g : Vec Ideal S1x1024x512 .bf16) (r : Fin 1024) (j : Fin 512) :
    k0_pay1 o g (ix3 0 r j) = fin (fun k => o (ix3 0 r k)) (g (ix3 0 r j)) j := by
  unfold k0_pay1
  pointwise
  rfl

/-- A grid point's number is below 64. -/
theorem lt_N (t : Fin cfg0.N) : t.val < 64 := lt_of_lt_of_eq t.isLt (show cfg0.N = 64 from N_0)

/-- Window 0's block index at a grid point. -/
theorem idx0 : ∀ t : Fin cfg0.N, win0_0.index t = ![t.val / 16, t.val / 4 % 4, t.val % 4] :=
  (by decide +kernel : ∀ t : Fin grid0.N, win0_0.index t = ![t.val / 16, t.val / 4 % 4, t.val % 4])

/-- Window 1's block index at a grid point. -/
theorem idx1 : ∀ t : Fin cfg0.N, win0_1.index t = ![t.val / 16, t.val / 4 % 4, 12 + t.val % 4] :=
  (by decide +kernel : ∀ t : Fin grid0.N, win0_1.index t = ![t.val / 16, t.val / 4 % 4, 12 + t.val % 4])

/-- Window 2's block index at a grid point. -/
theorem idx2 : ∀ t : Fin cfg0.N, win0_2.index t = ![t.val / 16, t.val / 4 % 4, t.val % 4] :=
  (by decide +kernel : ∀ t : Fin grid0.N, win0_2.index t = ![t.val / 16, t.val / 4 % 4, t.val % 4])

variable (m : (ℓ : Loc nD τ sig) → Buf (Elt Ideal) ℓ)

/-- The batch entry of a grid point. -/
def bt (t : Fin cfg0.N) : Fin 4 := ⟨t.val / 16, by have := lt_N t; omega⟩

/-- The token of row `r` of a grid point's row block. -/
def tk (t : Fin cfg0.N) (r : Fin 1024) : Fin 4096 := ⟨1024 * (t.val / 4 % 4) + r.val, by omega⟩

/-- The head of a grid point. -/
def hd (t : Fin cfg0.N) : Fin 4 := ⟨t.val % 4, by omega⟩

/-- The retention's block. -/
theorem iblk0_at (c : Dev nD) (t : Fin cfg0.N) (r : Fin 1024) (k : Fin 512) :
    iblk m c 0 t (ix3 0 r k) = m ((c : Thread nD τ).loc main_arg0) (ix3 (bt t) (tk t r) ⟨512 * (hd t).val + k.val, by omega⟩) := by
  have ht := lt_N t
  unfold iblk
  rw [View.read_apply]
  show V m c main_arg0 _ = _
  rw [V_main_arg0]
  refine congrArg (m ((c : Thread nD τ).loc main_arg0)) ?_
  blk_ext [idx0, bt, tk, hd]

/-- The gate's block. -/
theorem iblk1_at (c : Dev nD) (t : Fin cfg0.N) (r : Fin 1024) (k : Fin 512) :
    iblk m c 1 t (ix3 0 r k) = m ((c : Thread nD τ).loc main_arg1) (ix3 (bt t) (tk t r) ⟨6144 + (512 * (hd t).val + k.val), by omega⟩) := by
  have ht := lt_N t
  unfold iblk
  rw [View.read_apply]
  show V m c main_arg1 _ = _
  rw [V_main_arg1]
  refine congrArg (m ((c : Thread nD τ).loc main_arg1)) ?_
  blk_ext [idx1, bt, tk, hd]

/-- One grid step's block of the result. -/
theorem step_at (c : Dev nD) (t : Fin cfg0.N) (r : Fin 1024) (j : Fin 512) :
    out0_2 (iblk m c 0 t) (iblk m c 1 t) (ix3 0 r j)
      = finOf (m ((c : Thread nD τ).loc main_arg0)) (m ((c : Thread nD τ).loc main_arg1)) (bt t) (tk t r) (hd t) j := by
  unfold out0_2
  rw [View.canon_unit_zero z3]
  simp only [View.ld_unit_zero (S := S1x1024x512) z3]
  rw [pay1_at]
  simp only [iblk0_at m c t, iblk1_at m c t]
  rfl

/-- The result array is the finish of the arguments. -/
theorem final (c : Dev nD) : (dats m 0 c).arrAt 2 cfg0.N
    = fun i => finArr (m ((c : Thread nD τ).loc main_arg0)) (m ((c : Thread nD τ).loc main_arg1)) (i 0) (i 1) (i 2) := by
  refine (dats m 0 c).arrAt_eq_of_covers 2 _ (by decide +kernel) fun t hf y => ?_
  have ht := lt_N t
  blk_simp
  rw [after0_2]
  obtain ⟨y, rfl⟩ : ∃ z : Fin 1 × Fin 1024 × Fin 512, ix3 z.1 z.2.1 z.2.2 = y :=
    ⟨(y (0 : Fin 3), y (1 : Fin 3), y (2 : Fin 3)), by funext a; fin_cases a <;> rfl⟩
  obtain ⟨z, r, j⟩ := y
  obtain rfl : z = 0 := Subsingleton.elim _ _
  have e : (win0_2.blk t).view.emb (ix3 0 r j) = ix3 (bt t) (tk t r) ⟨512 * (hd t).val + j.val, by omega⟩ := by
    blk_ext [idx2, bt, tk, hd]
  refine Eq.trans ?_ (congrArg (fun i : S4x4096x2048.Idx => finArr _ _ (i 0) (i 1) (i 2)) e.symm)
  exact (step_at m c t r j).trans (finArr_at _ _ _ _ _ _).symm

end Cert.RetFin

end
-- ==== Proof.RetFin.Ref.lean ====
/- The retention's finish: the reference's result. -/
module

public import proofs.«01_k».proof.Proof.Gen.Reference9Ideal.Run
public import proofs.«01_k».proof.Proof.RetFin.Kernel

@[expose] public section

set_option maxRecDepth 16384

noncomputable section

namespace Cert.RetFin.Ref

open Cert.Reference9Ideal Cert.Reference9Ideal.Gen Idealize.ShloMosaic Idealize.ShloMosaic.TcCoe Idealize.SL.Sem

/-- The reference's heads of an array at a head's column. -/
theorem heads_at (x : Vec Ideal S4x4096x2048 .f32) (b : Fin 4) (t : Fin 4096) (h : Fin 4) (j : Fin 512) :
    shapeCast S4x4096x4x512 x shapeCasts_S4x4096x2048_S4x4096x4x512 (ix4 b t h j) = x (ix3 b t ⟨512 * h.val + j.val, by omega⟩) := by
  pointwise
  exact congrArg x (congrArg (ix3 b t) (Fin.ext (congrArg (· + j.val) (Nat.mul_comm _ _))))

/-- The reference's gate columns of an array at a head's column. -/
theorem gates_at (x : Vec Ideal S4x4096x8192 .bf16) (b : Fin 4) (t : Fin 4096) (h : Fin 4) (j : Fin 512) :
    @Eq EReal (shapeCast S4x4096x4x512 (extractStridedSlice S4x4096x2048 ![0, 0, 6144] (extf (F := Ideal) .f32 x bitsLt_bf16_f32)
      slices_S4x4096x8192_S4x4096x2048_0_0_6144) shapeCasts_S4x4096x2048_S4x4096x4x512 (ix4 b t h j))
      (x (ix3 b t ⟨6144 + (512 * h.val + j.val), by omega⟩)) := by
  rw [heads_at]
  pointwise

/-- The reference's operations, composed, are the finish. -/
theorem result_eq (x0 : Vec Ideal S4x4096x2048 .f32) (x1 : Vec Ideal S4x4096x8192 .bf16) :
    truncf (F := Ideal) .bf16 (shapeCast _ (mulf (mulf (shapeCast _ x0 shapeCasts_S4x4096x2048_S4x4096x4x512) (broadcastInDim S4x4096x4x512 ![0, 1, 2, 3] bcast_S4x4096x4x1_S4x4096x4x512_0_1_2_3 (Host.rsqrt (addf (Host.divf (broadcastInDim S4x4096x4x1 ![0, 1, 2] bcast_S4x4096x4_S4x4096x4x1_0_1_2 (Host.reduceAdd (mulf (shapeCast _ x0 shapeCasts_S4x4096x2048_S4x4096x4x512) (shapeCast _ x0 shapeCasts_S4x4096x2048_S4x4096x4x512)) (constant S_ .f32 0x00000000#32) reducesTo_S4x4096x4x512_S4x4096x4_d3 h_S_)) (broadcastInDim S4x4096x4x1 ![] bcast_S_S4x4096x4x1 (constant S_ .f32 0x44000000#32))) (broadcastInDim S4x4096x4x1 ![] bcast_S_S4x4096x4x1 (constant S_ .f32 0x358637BD#32)))))) (mulf (shapeCast _ (extractStridedSlice S4x4096x2048 ![0, 0, 6144] (extf .f32 x1 bitsLt_bf16_f32) slices_S4x4096x8192_S4x4096x2048_0_0_6144) shapeCasts_S4x4096x2048_S4x4096x4x512) (Host.divf (broadcastInDim S4x4096x4x512 ![] bcast_S_S4x4096x4x512 (constant S_ .f32 0x3F800000#32)) (addf (broadcastInDim S4x4096x4x512 ![] bcast_S_S4x4096x4x512 (constant S_ .f32 0x3F800000#32)) (Host.exp (Host.negf (shapeCast _ (extractStridedSlice S4x4096x2048 ![0, 0, 6144] (extf .f32 x1 bitsLt_bf16_f32) slices_S4x4096x8192_S4x4096x2048_0_0_6144) shapeCasts_S4x4096x2048_S4x4096x4x512))))))) shapeCasts_S4x4096x4x512_S4x4096x2048) bitsLt_bf16_f32
      = fun i => finArr x0 x1 (i 0) (i 1) (i 2) := by
  funext i
  obtain ⟨⟨b, t, j⟩, rfl⟩ : ∃ p : Fin 4 × Fin 4096 × Fin 2048, ix3 p.1 p.2.1 p.2.2 = i :=
    ⟨(i 0, i 1, i 2), by funext a; match a with | ⟨0, _⟩ | ⟨1, _⟩ | ⟨2, _⟩ => rfl⟩
  obtain ⟨⟨h, j⟩, rfl⟩ : ∃ p : Fin 4 × Fin 512, (⟨512 * p.1.val + p.2.val, by omega⟩ : Fin 2048) = j :=
    ⟨(⟨j.val / 512, by omega⟩, ⟨j.val % 512, Nat.mod_lt _ (by norm_num)⟩), Fin.ext (by show 512 * (j.val / 512) + j.val % 512 = _; omega)⟩
  refine Eq.trans ?_ (finArr_at x0 x1 b t h j).symm
  have ho := fun k => heads_at x0 b t h k
  have hg := gates_at x1 b t h j
  revert ho hg
  generalize shapeCast S4x4096x4x512 x0 shapeCasts_S4x4096x2048_S4x4096x4x512 = o
  generalize shapeCast S4x4096x4x512 (extractStridedSlice S4x4096x2048 ![0, 0, 6144] (extf (F := Ideal) .f32 x1 bitsLt_bf16_f32)
      slices_S4x4096x8192_S4x4096x2048_0_0_6144) shapeCasts_S4x4096x2048_S4x4096x4x512 = g
  intro ho hg
  pointwise
  simp only [ho, hg]
  rfl

end Cert.RetFin.Ref

end
-- ==== Proof.InEven.Skeleton.lean ====
/- The even layer's input projection as its memory operations over named vector expressions. -/
module

public import proofs.«01_k».proof.Proof.Gen.Kernel6.Frame

@[expose] public section

set_option maxRecDepth 16384
set_option synthInstance.maxSize 4096

noncomputable section

namespace Cert.InEven

open Cert.Kernel6 Cert.Kernel6.Gen Idealize.ShloMosaic Idealize.SL.Sem

variable {F : FTy → Type} [FloatOps F]

/-- The row block's rows times the step's 512 columns, rounded. -/
noncomputable def payOut (v6 : Vec F S1024x2048 .bf16) (v7 : Vec F S2048x512 .bf16) : FVec F S1x1024x512 .bf16 :=
  have v8 : FVec F S2048x512 .bf16 := shapeCast S2048x512 v7 shapeCasts_S2048x512_S2048x512
  have cst : FVec F S1024x512 .f32 := constant S1024x512 .f32 0x00000000#32
  have v9 : FVec F S1024x512 .f32 := matmul dot_S1024x2048_S2048x512_S1024x512_1_0_0_1_n_n none v6 v8 cst
  have v10 : FVec F S1024x512 .bf16 := truncf .bf16 v9 bitsLt_bf16_f32
  have v13 : FVec F S1x1024x512 .bf16 := shapeCast S1x1024x512 v10 shapeCasts_S1024x512_S1x1024x512
  v13

/-- The modulated rows of the row block, rounded. -/
noncomputable def payRows (v14 : Vec F S1x1024x2048 .f32) (v16 : Vec F S1x2048 .f32) (v18 : Vec F S1x1x2048 .f32) (v20 : Vec F S1x1x2048 .f32) : FVec F S1024x2048 .bf16 :=
  have v15 : FVec F S1024x2048 .f32 := shapeCast S1024x2048 v14 shapeCasts_S1x1024x2048_S1024x2048
  have v17 : FVec F S1x2048 .f32 := shapeCast S1x2048 v16 shapeCasts_S1x2048_S1x2048
  have v19 : FVec F S1x2048 .f32 := shapeCast S1x2048 v18 shapeCasts_S1x1x2048_S1x2048
  have v21 : FVec F S1x2048 .f32 := shapeCast S1x2048 v20 shapeCasts_S1x1x2048_S1x2048
  have v22 : FVec F S1024x2048 .f32 := mulf v15 v15
  have v23 : FVec F S1024 .f32 := multiReduction .add [1] S1024 v22 0x00000000#32 reduces_S1024x2048_S1024 (.inl rfl) rfl
  have v24 : FVec F S1024x1 .f32 := shapeCast S1024x1 v23 shapeCasts_S1024_S1024x1
  have cst_21 : F .f32 := Scalar.ofBits .f32 0x45000000#32
  have v25 : FVec F S1024x1 .f32 := broadcast S1024x1 cst_21
  have v26 : FVec F S1024x1 .f32 := divf v24 v25
  have cst_22 : F .f32 := Scalar.ofBits .f32 0x358637BD#32
  have v27 : FVec F S1024x1 .f32 := broadcast S1024x1 cst_22
  have v28 : FVec F S1024x1 .f32 := addf v26 v27
  have v29 : FVec F S1024x1 .f32 := rsqrt v28
  have v30 : FVec F S1024x2048 .f32 := broadcastTo S1024x2048 v29 broadcasts_S1024x1_S1024x2048
  have v31 : FVec F S1024x2048 .f32 := mulf v15 v30
  have v32 : FVec F S1024x2048 .f32 := broadcastTo S1024x2048 v17 broadcasts_S1x2048_S1024x2048
  have v33 : FVec F S1024x2048 .f32 := mulf v31 v32
  have cst_23 : F .f32 := Scalar.ofBits .f32 0x3F800000#32
  have v34 : FVec F S1x2048 .f32 := broadcast S1x2048 cst_23
  have v35 : FVec F S1x2048 .f32 := addf v34 v21
  have v36 : FVec F S1024x2048 .f32 := broadcastTo S1024x2048 v35 broadcasts_S1x2048_S1024x2048
  have v37 : FVec F S1024x2048 .f32 := mulf v33 v36
  have v38 : FVec F S1024x2048 .f32 := broadcastTo S1024x2048 v19 broadcasts_S1x2048_S1024x2048
  have v39 : FVec F S1024x2048 .f32 := addf v37 v38
  have v40 : FVec F S1024x2048 .bf16 := truncf .bf16 v39 bitsLt_bf16_f32
  v40

/-- The modulated rows, as they are kept in the scratch. -/
noncomputable def payScr (v14 : Vec F S1x1024x2048 .f32) (v16 : Vec F S1x2048 .f32) (v18 : Vec F S1x1x2048 .f32) (v20 : Vec F S1x1x2048 .f32) : FVec F S1024x2048 .bf16 :=
  have v43 : FVec F S1024x2048 .bf16 := shapeCast S1024x2048 (payRows v14 v16 v18 v20) shapeCasts_S1024x2048_S1024x2048
  v43

/-- The modulated rows times the 128 small columns. -/
noncomputable def paySmall (v14 : Vec F S1x1024x2048 .f32) (v16 : Vec F S1x2048 .f32) (v18 : Vec F S1x1x2048 .f32) (v20 : Vec F S1x1x2048 .f32) (v44 : Vec F S2048x128 .bf16) : FVec F S1x1024x128 .f32 :=
  have v45 : FVec F S2048x128 .bf16 := shapeCast S2048x128 v44 shapeCasts_S2048x128_S2048x128
  have cst_28 : FVec F S1024x128 .f32 := constant S1024x128 .f32 0x00000000#32
  have v46 : FVec F S1024x128 .f32 := matmul dot_S1024x2048_S2048x128_S1024x128_1_0_0_1_n_n none (payRows v14 v16 v18 v20) v45 cst_28
  have v49 : FVec F S1x1024x128 .f32 := shapeCast S1x1024x128 v46 shapeCasts_S1024x128_S1x1024x128
  v49

/-- The statements of a row block's first step before its last store. -/
noncomputable def partSkel (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) :
    Prog (TpuEff nD τ sig (Elt F) Λ₀ .tc) (FVec F S1x1024x128 .f32) := do
  let v14 : Vec F S1x1024x2048 .f32 ← Prog.lift (.load arg3 (Rect.unit (s := S1x1024x2048) ![0, 0, 0] S1x1024x2048.size inb_S1x1024x2048_S1x1024x2048_0_0_0).toLoadRect (View.loadsAt_vmem h_S1x1024x2048))
  let v16 : Vec F S1x2048 .f32 ← Prog.lift (.load arg4 (Rect.unit (s := S1x2048) ![0, 0] S1x2048.size inb_S1x2048_S1x2048_0_0).toLoadRect (View.loadsAt_vmem h_S1x2048))
  let v18 : Vec F S1x1x2048 .f32 ← Prog.lift (.load arg5 (Rect.unit (s := S1x1x2048) ![0, 0, 0] S1x1x2048.size inb_S1x1x2048_S1x1x2048_0_0_0).toLoadRect (View.loadsAt_vmem h_S1x1x2048))
  let v20 : Vec F S1x1x2048 .f32 ← Prog.lift (.load arg6 (Rect.unit (s := S1x1x2048) ![0, 0, 0] S1x1x2048.size inb_S1x1x2048_S1x1x2048_0_0_0).toLoadRect (View.loadsAt_vmem h_S1x1x2048))

  let v41 : Vec F S1024x2048 .bf16 ← Prog.lift (.load arg11 (Rect.unit (s := S1024x2048) ![0, 0] S1024x2048.size inb_S1024x2048_S1024x2048_0_0).toLoadRect (View.loadsAt_vmem h_S1024x2048))

  Prog.lift (.store arg11 (Rect.unit (s := S1024x2048) ![0, 0] S1024x2048.size inb_S1024x2048_S1024x2048_0_0) (payScr v14 v16 v18 v20) Finset.univ (View.stores_vmem h_S1024x2048 (harg11.storeExact_slice rfl _ packedbf16_S1024x2048_S1024x2048_0_0) (fun _ => rfl)) (.inl rfl))
  let v44 : Vec F S2048x128 .bf16 ← Prog.lift (.load arg8 (Rect.unit (s := S2048x128) ![0, 0] S2048x128.size inb_S2048x128_S2048x128_0_0).toLoadRect (View.loadsAt_vmem h_S2048x128))
  let v47 : Vec F S1x1024x128 .f32 ← Prog.lift (.load arg10 (Rect.unit (s := S1x1024x128) ![0, 0, 0] S1x1024x128.size inb_S1x1024x128_S1x1024x128_0_0_0).toLoadRect (View.loadsAt_vmem h_S1x1024x128))

  pure (paySmall v14 v16 v18 v20 v44)

set_option maxRecDepth 65536 in
/-- The printed part is its skeleton. -/
theorem partSkel_eq : k0_part1 (F := F) = partSkel (F := F) := rfl

/-- One step of the grid. -/
noncomputable def bodySkel (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) :
    Prog (TpuEff nD τ sig (Elt F) Λ₀ .tc) PUnit := do
  if k0_h1 : k0_cond1 i = 1#1 then do
    let v46 : FVec F S1x1024x128 .f32 ← k0_part1 i arg3 harg3 arg4 harg4 arg5 harg5 arg6 harg6 arg7 harg7 arg8 harg8 arg9 harg9 arg10 harg10 arg11 harg11
    Prog.lift (.store arg10 (Rect.unit (s := S1x1024x128) ![0, 0, 0] S1x1024x128.size inb_S1x1024x128_S1x1024x128_0_0_0) v46 Finset.univ (View.stores_vmem_bits_univ h_S1x1024x128 rfl) (.inl rfl))
    pure ⟨⟩
  else do
    pure ⟨⟩
  let v3 : Vec F S1024x2048 .bf16 ← Prog.lift (.load arg11 (Rect.unit (s := S1024x2048) ![0, 0] S1024x2048.size inb_S1024x2048_S1024x2048_0_0).toLoadRect (View.loadsAt_vmem h_S1024x2048))
  let v4 : Vec F S2048x512 .bf16 ← Prog.lift (.load arg7 (Rect.unit (s := S2048x512) ![0, 0] S2048x512.size inb_S2048x512_S2048x512_0_0).toLoadRect (View.loadsAt_vmem h_S2048x512))
  let v8 : Vec F S1x1024x512 .bf16 ← Prog.lift (.load arg9 (Rect.unit (s := S1x1024x512) ![0, 0, 0] S1x1024x512.size inb_S1x1024x512_S1x1024x512_0_0_0).toLoadRect (View.loadsAt_vmem h_S1x1024x512))
  Prog.lift (.store arg9 (Rect.unit (s := S1x1024x512) ![0, 0, 0] S1x1024x512.size inb_S1x1024x512_S1x1024x512_0_0_0) (payOut v3 v4) Finset.univ (View.stores_vmem h_S1x1024x512 (harg9.storeExact_slice rfl _ packedbf16_S1x1024x512_S1x1024x512_0_0_0) (fun _ => rfl)) (.inl rfl))
  pure ⟨⟩

set_option maxRecDepth 65536 in
/-- The printed step is its skeleton. -/
theorem bodySkel_eq : cc0_adaln_inproj (F := F) = bodySkel (F := F) := rfl

end Cert.InEven

end
-- ==== Proof.InEven.Step.lean ====
/- One grid step of the even layer's input projection: when a row block starts, which buffers a step holds, and the triple of a first step and of a later step. -/
module

public import proofs.«01_k».proof.Proof.InEven.Skeleton
public import Idealize.ShloMosaic.Lib.Pipeline.FrameBody
public import Idealize.ShloMosaic.Lib.Pipeline.TableIdle
public import Idealize.ShloMosaic.Lib.Pipeline.Value
public import Idealize.ShloMosaic.Lib.Claim
public import Idealize.ShloMosaic.Lib.Tactic
public import Idealize.ShloMosaic.Lib.WordCmp

@[expose] public section

set_option maxRecDepth 16384

noncomputable section

namespace Cert.InEven

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step starts a row block. -/
abbrev isFirst (i : grid0.Coords) : Prop := k0_cond1 i = 1#1

/-- A row block starts at every tenth point. -/
theorem isFirst_iff : ∀ t : Fin cfg0.N, isFirst (grid0.coords t) ↔ t.val % 10 = 0 :=
  (fun t => by
    have ht : t.val < 160 := Nat.lt_of_lt_of_eq t.isLt N_0
    have e0 : (grid0.coords t 0).val = t.val / 40 % 4 := Pipeline.Grid.coords_val t 0 (by decide) rfl
    have e1 : (grid0.coords t 1).val = t.val / 10 % 4 := Pipeline.Grid.coords_val t 1 (by decide) rfl
    have e2 : (grid0.coords t 2).val = t.val / 1 % 10 := Pipeline.Grid.coords_val t 2 (by decide) rfl
    simp only [isFirst, k0_cond1, e0, e1, e2]
    word_cmp
   : ∀ t : Fin grid0.N, isFirst (grid0.coords t) ↔ t.val % 10 = 0)

/-- The small output is stored at a row block's first step. -/
theorem live7 : ∀ t : Fin cfg0.N, isFirst (grid0.coords t) → cfg0.idle 7 (grid0.coords t) = false := by decide +kernel

/-- The small output is left alone at a row block's later steps. -/
theorem idle7 : ∀ t : Fin cfg0.N, ¬isFirst (grid0.coords t) → cfg0.idle 7 (grid0.coords t) = true := by decide +kernel

/-- At which positions nothing has been stored into the small output's buffer since it was last written back, as bits. -/
def freshTab : ℕ → Bool
  | 0 => true
  | n + 1 => (0x8020080200802008020080200802008020080200 : ℕ).testBit n

/-- The bits follow the pipeline's own step. -/
theorem freshTab_step : ∀ t : Fin cfg0.N,
    freshTab (t.val + 1) = ((cfg0.win 7).flush t || (cfg0.idle 7 (cfg0.grid.coords t) && freshTab t.val)) := by decide +kernel

/-- So they are the pipeline's own notion. -/
theorem fresh_eq (t : Fin cfg0.N) : cfg0.fresh 7 t.val = freshTab t.val :=
  Pipeline.Cfg.fresh_tab cfg0 7 freshTab rfl freshTab_step t.val (Nat.le_of_lt t.isLt)

/-- At a row block's later steps its first step has stored into the small output's buffer. -/
theorem notFresh : ∀ t : Fin cfg0.N, ¬isFirst (grid0.coords t) → cfg0.fresh 7 t.val = false := by
  intro t; rw [fresh_eq t]; revert t; decide +kernel

/-- One staging buffer of output window 6. -/
abbrev VO0_6 : View sig .tc .vmem S1x1024x512 .bf16 := (Memref.whole cc0_stg6_0 : Memref sig .tc .vmem S1x1024x512 .bf16).view
/-- One staging buffer of output window 7. -/
abbrev VO0_7 : View sig .tc .vmem S1x1024x128 .f32 := (Memref.whole cc0_stg7_0 : Memref sig .tc .vmem S1x1024x128 .f32).view
/-- The staging buffer of window 0 at a point. -/
abbrev ms0_0 (t : Fin cfg0.N) : Memref sig .tc .vmem S1x1024x2048 .f32 := win0_0.stage (cfg0.slots t 0)
/-- The staging buffer of window 0 is whole. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S1x2048 .f32 := win0_1.stage (cfg0.slots t 1)
/-- The staging buffer of window 1 is whole. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S1x1x2048 .f32 := win0_2.stage (cfg0.slots t 2)
/-- The staging buffer of window 2 is whole. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S1x1x2048 .f32 := win0_3.stage (cfg0.slots t 3)
/-- The staging buffer of window 3 is whole. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S2048x512 .bf16 := win0_4.stage (cfg0.slots t 4)
/-- The staging buffer of window 4 is whole. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S2048x128 .bf16 := win0_5.stage (cfg0.slots t 5)
/-- The staging buffer of window 5 is whole. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x1024x512 .bf16 := win0_6.stage (cfg0.slots t 6)
/-- The staging buffer of window 6 is whole. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S1x1024x128 .f32 := win0_7.stage (cfg0.slots t 7)
/-- The staging buffer of window 7 is whole. -/
abbrev hs0_7 (t : Fin cfg0.N) : (ms0_7 t).IsWhole := hstage0_7 ((cfg0.slots t 7).cast nbuf0_7)
/-- The scratch. -/
abbrev scM0_0 : Memref sig .tc .vmem S1024x2048 .bf16 := Memref.whole cc0_scratch0
/-- The scratch, as a view. -/
abbrev VS0_0 : View sig .tc .vmem S1024x2048 .bf16 := scM0_0.view

/-- What the pipeline keeps for the kernel between points: the scratch at some contents, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The zero offset of rank 2. -/
theorem z2 : (![0, 0] : Fin 2 → Nat) = fun _ => 0 := funext fun a => by fin_cases a <;> rfl

/-- The zero offset of rank 3. -/
theorem z3 : (![0, 0, 0] : Fin 3 → Nat) = fun _ => 0 := funext fun a => by fin_cases a <;> rfl

set_option maxHeartbeats 1000000 in
/-- A row block's first step: what it stores into the two outputs and the scratch, with the triple of the step. -/
noncomputable def stepA (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) :
    Σ' (L6 : List (View.Piece (Elt F) S1x1024x512 .bf16)), Σ' (L7 : List (View.Piece (Elt F) S1x1024x128 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_adaln_inproj i arg3 harg3 arg4 harg4 arg5 harg5 arg6 harg6 arg7 harg7 arg8 harg8 arg9 harg9 arg10 harg10 arg11 harg11) K } := by
  refine ⟨?_, ?_, ?_, fun E K => ?run⟩
  case run =>
    simp only [bodySkel_eq]; unfold bodySkel
    simp only [partSkel_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

set_option maxHeartbeats 1000000 in
/-- A later step: what it stores into the first output, with the triple of the step; the second output and the scratch stay. -/
noncomputable def stepB (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : ¬isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) (xo7 : Vec F S1x1024x128 .f32) (xs0 : Vec F S1024x2048 .bf16) :
    { L6 : List (View.Piece (Elt F) S1x1024x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xo7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xo7 ∗ owns (c : Thread nD τ) arg11 fullShare xs0) -∗ K ⟨⟩))
          ⊢ wp frame (wpE (defs₀ (F := F)) Variants.none c none) E (cc0_adaln_inproj i arg3 harg3 arg4 harg4 arg5 harg5 arg6 harg6 arg7 harg7 arg8 harg8 arg9 harg9 arg10 harg10 arg11 harg11) K } := by
  refine ⟨?_, fun E K => ?run⟩
  case run =>
    simp only [bodySkel_eq]; unfold bodySkel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; isplitr; · ipureintro; exact harg11.read_unread _
    iexact HS0

end Cert.InEven

end
-- ==== Proof.InEven.Values.lean ====
/- What a grid step of the even layer's input projection leaves in its outputs and its scratch, as the step's own vector expressions. -/
module

public import proofs.«01_k».proof.Proof.InEven.Step

@[expose] public section

set_option maxRecDepth 16384

noncomputable section

namespace Cert.InEven

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A first step leaves the modulated rows times its columns in the first output. -/
theorem A_out (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) (v : View sig .tc .vmem S1x1024x512 .bf16) (f) :
    v.read (Elt F) (v.writes (Elt F) f (stepA c i arg3 harg3 arg4 harg4 arg5 harg5 arg6 harg6 arg7 harg7 arg8 harg8 arg9 harg9 arg10 harg10 arg11 harg11 hc0 x0 x1 x2 x3 x4 x5).1) = payOut (payScr x0 x1 x2 x3) x4 := by
  rw [View.read_writes_eq_canon _ _ _ (fun y => View.cover_of_tiledL (stepA c i arg3 harg3 arg4 harg4 arg5 harg5 arg6 harg6 arg7 harg7 arg8 harg8 arg9 harg9 arg10 harg10 arg11 harg11 hc0 x0 x1 x2 x3 x4 x5).1 S1x1024x512.size (by sl_kernel_rfl) y)]
  unfold stepA
  dsimp only
  sl_unfold_words
  simp only [View.canon_unit_zero (S := S1x1024x512) z3, View.readCov_unit_zero (S := S1024x2048) _ z2, View.readAt_eq_ld, harg3.read_unread, harg4.read_unread, harg5.read_unread, harg6.read_unread, harg7.read_unread, harg8.read_unread, harg9.read_unread, harg10.read_unread, harg11.read_unread,
    View.ld_unit_zero (S := S1x1024x2048) z3, View.ld_unit_zero (S := S1x1x2048) z3, View.ld_unit_zero (S := S1x2048) z2,
    View.ld_unit_zero (S := S2048x512) z2, View.ld_unit_zero (S := S2048x128) z2, View.ld_unit_zero (S := S1024x2048) z2]

/-- A first step leaves the modulated rows times the small columns in the second output. -/
theorem A_small (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) (v : View sig .tc .vmem S1x1024x128 .f32) (f) :
    v.read (Elt F) (v.writes (Elt F) f (stepA c i arg3 harg3 arg4 harg4 arg5 harg5 arg6 harg6 arg7 harg7 arg8 harg8 arg9 harg9 arg10 harg10 arg11 harg11 hc0 x0 x1 x2 x3 x4 x5).2.1) = paySmall x0 x1 x2 x3 x5 := by
  rw [View.read_writes_eq_canon _ _ _ (fun y => View.cover_of_tiledL (stepA c i arg3 harg3 arg4 harg4 arg5 harg5 arg6 harg6 arg7 harg7 arg8 harg8 arg9 harg9 arg10 harg10 arg11 harg11 hc0 x0 x1 x2 x3 x4 x5).2.1 S1x1024x128.size (by sl_kernel_rfl) y)]
  unfold stepA
  dsimp only
  sl_unfold_words
  simp only [View.canon_unit_zero (S := S1x1024x128) z3, View.readCov_unit_zero (S := S1024x2048) _ z2, View.readAt_eq_ld, harg3.read_unread, harg4.read_unread, harg5.read_unread, harg6.read_unread, harg7.read_unread, harg8.read_unread, harg9.read_unread, harg10.read_unread, harg11.read_unread,
    View.ld_unit_zero (S := S1x1024x2048) z3, View.ld_unit_zero (S := S1x1x2048) z3, View.ld_unit_zero (S := S1x2048) z2,
    View.ld_unit_zero (S := S2048x512) z2, View.ld_unit_zero (S := S2048x128) z2, View.ld_unit_zero (S := S1024x2048) z2]

/-- A first step leaves the modulated rows in the scratch. -/
theorem A_scr (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) (v : View sig .tc .vmem S1024x2048 .bf16) (f) :
    v.read (Elt F) (v.writes (Elt F) f (stepA c i arg3 harg3 arg4 harg4 arg5 harg5 arg6 harg6 arg7 harg7 arg8 harg8 arg9 harg9 arg10 harg10 arg11 harg11 hc0 x0 x1 x2 x3 x4 x5).2.2.1) = payScr x0 x1 x2 x3 := by
  rw [View.read_writes_eq_canon _ _ _ (fun y => View.cover_of_tiledL (stepA c i arg3 harg3 arg4 harg4 arg5 harg5 arg6 harg6 arg7 harg7 arg8 harg8 arg9 harg9 arg10 harg10 arg11 harg11 hc0 x0 x1 x2 x3 x4 x5).2.2.1 S1024x2048.size (by sl_kernel_rfl) y)]
  unfold stepA
  dsimp only
  sl_unfold_words
  simp only [View.canon_unit_zero (S := S1024x2048) z2, View.readCov_unit_zero (S := S1024x2048) _ z2, View.readAt_eq_ld, harg3.read_unread, harg4.read_unread, harg5.read_unread, harg6.read_unread, harg7.read_unread, harg8.read_unread, harg9.read_unread, harg10.read_unread, harg11.read_unread,
    View.ld_unit_zero (S := S1x1024x2048) z3, View.ld_unit_zero (S := S1x1x2048) z3, View.ld_unit_zero (S := S1x2048) z2,
    View.ld_unit_zero (S := S2048x512) z2, View.ld_unit_zero (S := S2048x128) z2, View.ld_unit_zero (S := S1024x2048) z2]

/-- A later step leaves the rows of the scratch times its columns in the first output. -/
theorem B_out (c : Dev nD) (i : grid0.Coords) (arg3 : Memref sig .tc .vmem S1x1024x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S2048x128 .bf16) (harg8 : arg8.IsWhole) (arg9 : Memref sig .tc .vmem S1x1024x512 .bf16) (harg9 : arg9.IsWhole) (arg10 : Memref sig .tc .vmem S1x1024x128 .f32) (harg10 : arg10.IsWhole) (arg11 : Memref sig .tc .vmem S1024x2048 .bf16) (harg11 : arg11.IsWhole) (hc0 : ¬isFirst i)
    (x0 : Vec F S1x1024x2048 .f32) (x1 : Vec F S1x2048 .f32) (x2 : Vec F S1x1x2048 .f32) (x3 : Vec F S1x1x2048 .f32) (x4 : Vec F S2048x512 .bf16) (x5 : Vec F S2048x128 .bf16) (xo7 : Vec F S1x1024x128 .f32) (xs0 : Vec F S1024x2048 .bf16) (v : View sig .tc .vmem S1x1024x512 .bf16) (f) :
    v.read (Elt F) (v.writes (Elt F) f (stepB c i arg3 harg3 arg4 harg4 arg5 harg5 arg6 harg6 arg7 harg7 arg8 harg8 arg9 harg9 arg10 harg10 arg11 harg11 hc0 x0 x1 x2 x3 x4 x5 xo7 xs0).1) = payOut xs0 x4 := by
  rw [View.read_writes_eq_canon _ _ _ (fun y => View.cover_of_tiledL (stepB c i arg3 harg3 arg4 harg4 arg5 harg5 arg6 harg6 arg7 harg7 arg8 harg8 arg9 harg9 arg10 harg10 arg11 harg11 hc0 x0 x1 x2 x3 x4 x5 xo7 xs0).1 S1x1024x512.size (by sl_kernel_rfl) y)]
  unfold stepB
  dsimp only
  sl_unfold_words
  simp only [View.canon_unit_zero (S := S1x1024x512) z3, View.readCov_unit_zero (S := S1024x2048) _ z2, View.readAt_eq_ld, harg3.read_unread, harg4.read_unread, harg5.read_unread, harg6.read_unread, harg7.read_unread, harg8.read_unread, harg9.read_unread, harg10.read_unread, harg11.read_unread,
    View.ld_unit_zero (S := S1x1024x2048) z3, View.ld_unit_zero (S := S1x1x2048) z3, View.ld_unit_zero (S := S1x2048) z2,
    View.ld_unit_zero (S := S2048x512) z2, View.ld_unit_zero (S := S2048x128) z2, View.ld_unit_zero (S := S1024x2048) z2]

end Cert.InEven

end
-- ==== Proof.InEven.Frame.lean ====
/- The pipeline of the even layer's input projection: what every buffer holds at every point, and the run of the whole program. -/
module

public import proofs.«01_k».proof.Proof.InEven.Values

@[expose] public section

set_option maxRecDepth 16384

noncomputable section

namespace Cert.InEven

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block of a point. -/
def rowPt (t : Fin cfg0.N) : Fin cfg0.N := ⟨10 * (t.val / 10), by have := t.isLt; omega⟩

/-- A row block's first point is its own. -/
theorem rowPt_first (t : Fin cfg0.N) (h : t.val % 10 = 0) : rowPt t = t := Fin.ext (by show 10 * (t.val / 10) = t.val; omega)

/-- A later point has the row block of the point before. -/
theorem rowPt_later (n : ℕ) (hn : n + 1 < cfg0.N) (h : (n + 1) % 10 ≠ 0) : rowPt ⟨n, by omega⟩ = rowPt ⟨n + 1, hn⟩ :=
  Fin.ext (by show 10 * (n / 10) = 10 * ((n + 1) / 10); omega)

/-- The modulated rows of a point's row block. -/
def hAt (c : Dev nD) (t : Fin cfg0.N) : Vec F S1024x2048 .bf16 :=
  payScr (iblk m c 0 (rowPt t)) (iblk m c 1 (rowPt t)) (iblk m c 2 (rowPt t)) (iblk m c 3 (rowPt t))

/-- What a point leaves in the first output's buffer. -/
def outAt (c : Dev nD) (t : Fin cfg0.N) : Vec F S1x1024x512 .bf16 := payOut (hAt m c t) (iblk m c 4 t)

/-- What a point leaves in the second output's buffer. -/
def smallAt (c : Dev nD) (t : Fin cfg0.N) : Vec F S1x1024x128 .f32 :=
  paySmall (iblk m c 0 (rowPt t)) (iblk m c 1 (rowPt t)) (iblk m c 2 (rowPt t)) (iblk m c 3 (rowPt t)) (iblk m c 5 (rowPt t))

/-- What the kernel keeps before each point: at first the scratch at anything, then the rows of the point before. -/
def PhiS (c : Dev nD) : (n : ℕ) → n ≤ cfg0.N → sProp 𝕄
  | 0, _ => Pipeline.ΦA spec0 c
  | n + 1, hn => iprop(iprop(owns (c : Thread nD τ) scM0_0 fullShare (hAt m c ⟨n, hn⟩)) ∗ (∃ r, prngReg c r))

/-- At the start. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare (hAt m c ⟨n, hn⟩)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (hAt m c ⟨n - 1, by omega⟩)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => smallAt m c t
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- What is kept before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The step leaves input window 0 in place. -/
theorem after0_0 (c : Dev nD) (t : Fin cfg0.N) : (dats m 0 c).after 0 t = iblk m c 0 t := by dsimp only [dats]
/-- The step leaves input window 1 in place. -/
theorem after0_1 (c : Dev nD) (t : Fin cfg0.N) : (dats m 0 c).after 1 t = iblk m c 1 t := by dsimp only [dats]
/-- The step leaves input window 2 in place. -/
theorem after0_2 (c : Dev nD) (t : Fin cfg0.N) : (dats m 0 c).after 2 t = iblk m c 2 t := by dsimp only [dats]
/-- The step leaves input window 3 in place. -/
theorem after0_3 (c : Dev nD) (t : Fin cfg0.N) : (dats m 0 c).after 3 t = iblk m c 3 t := by dsimp only [dats]
/-- The step leaves input window 4 in place. -/
theorem after0_4 (c : Dev nD) (t : Fin cfg0.N) : (dats m 0 c).after 4 t = iblk m c 4 t := by dsimp only [dats]
/-- The step leaves input window 5 in place. -/
theorem after0_5 (c : Dev nD) (t : Fin cfg0.N) : (dats m 0 c).after 5 t = iblk m c 5 t := by dsimp only [dats]
/-- The first output after a step. -/
theorem after0_6 (c : Dev nD) (t : Fin cfg0.N) : (dats m 0 c).after 6 t = outAt m c t := by dsimp only [dats]
/-- The second output after a step. -/
theorem after0_7 (c : Dev nD) (t : Fin cfg0.N) : (dats m 0 c).after 7 t = smallAt m c t := by dsimp only [dats]

/-- The step finds input window 0's block. -/
theorem before0_0 (c : Dev nD) (t : Fin cfg0.N) (d) : (dats m 0 c).before 0 t d = iblk m c 0 t :=
  before0_0_of m (dats m 0 c) (A_eq m c 0) (after0_0 m c) t d
/-- The step finds input window 1's block. -/
theorem before0_1 (c : Dev nD) (t : Fin cfg0.N) (d) : (dats m 0 c).before 1 t d = iblk m c 1 t :=
  before0_1_of m (dats m 0 c) (A_eq m c 1) (after0_1 m c) t d
/-- The step finds input window 2's block. -/
theorem before0_2 (c : Dev nD) (t : Fin cfg0.N) (d) : (dats m 0 c).before 2 t d = iblk m c 2 t :=
  before0_2_of m (dats m 0 c) (A_eq m c 2) (after0_2 m c) t d
/-- The step finds input window 3's block. -/
theorem before0_3 (c : Dev nD) (t : Fin cfg0.N) (d) : (dats m 0 c).before 3 t d = iblk m c 3 t :=
  before0_3_of m (dats m 0 c) (A_eq m c 3) (after0_3 m c) t d
/-- The step finds input window 4's block. -/
theorem before0_4 (c : Dev nD) (t : Fin cfg0.N) (d) : (dats m 0 c).before 4 t d = iblk m c 4 t :=
  before0_4_of m (dats m 0 c) (A_eq m c 4) (after0_4 m c) t d
/-- The step finds input window 5's block. -/
theorem before0_5 (c : Dev nD) (t : Fin cfg0.N) (d) : (dats m 0 c).before 5 t d = iblk m c 5 t :=
  before0_5_of m (dats m 0 c) (A_eq m c 5) (after0_5 m c) t d

/-- A step that leaves the second output alone has the same contents for it as the step before. -/
theorem carry7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t hz hi _
  rw [after0_7, after0_7]
  have h0 : ¬ t.val % 10 = 0 := fun h => by
    rw [live7 t ((isFirst_iff t).mpr h)] at hi; exact absurd hi Bool.false_ne_true
  obtain ⟨n, hn⟩ := t
  cases n with
  | zero => exact absurd rfl hz
  | succ n =>
    have e := rowPt_later n hn h0
    unfold smallAt
    show _ = paySmall (iblk m c 0 (rowPt ⟨n, _⟩)) (iblk m c 1 (rowPt ⟨n, _⟩)) (iblk m c 2 (rowPt ⟨n, _⟩)) (iblk m c 3 (rowPt ⟨n, _⟩)) (iblk m c 5 (rowPt ⟨n, _⟩))
    rw [e]

/-- A later step finds in the second output's buffer what it is to leave there. -/
theorem before7_later (c : Dev nD) (t : Fin cfg0.N) (h0 : ¬t.val % 10 = 0) (d) :
    (dats m 0 c).before 7 t d = smallAt m c t := by
  have hn := fun h => h0 ((isFirst_iff t).mp h)
  rw [Dat.before_out_traj _ 7 rfl (fun _ _ => rfl) (carry7 m c) t.val t rfl d,
    if_neg (by rw [notFresh t hn]; exact Bool.false_ne_true)]
  have hz : t.val ≠ 0 := fun h => h0 (by rw [h])
  rw [← carry7 m c t hz (idle7 t hn) (notFresh t hn), after0_7]

/-- What a later step owes for the second output: its buffer as found. -/
theorem leaves7_later (c : Dev nD) (t : Fin cfg0.N) (h0 : ¬t.val % 10 = 0) :
    (owns (c : Thread nD τ) (ms0_7 t) fullShare (smallAt m c t) : sProp 𝕄) ⊢ (dats m 0 c).leavesExact 7 t := by
  have hn := fun h => h0 ((isFirst_iff t).mp h)
  unfold Dat.leavesExact
  rw [idle7 t hn]
  cases hf : (cfg0.win 7).flush t with
  | false =>
    simp only [before7_later m c t h0]
    iintro H
    iexists (smallAt m c t)
    iexact H
  | true =>
    rw [after0_7]

/-- What the step is handed. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What the step hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The step, at any point, hands back what it owes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  by_cases h0 : t.val % 10 = 0
  · have hc := (isFirst_iff t).mpr h0
    rw [show (dats m 0 c).leavesExact 7 t = owns (c : Thread nD τ) (ms0_7 t) fullShare ((dats m 0 c).after 7 t) from by
      unfold Dat.leavesExact; rw [live7 t hc], after0_7]
    unfold outAt smallAt hAt
    rw [rowPt_first t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((stepA c (grid0.coords t) _ _ _ _ _ _ _ _ _ _ _ _ _ _ _ _ _ _ hc (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact A_scr c _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact A_out c _ _ _ _ _ _ _ _ _ _ _ _ _ _ _ _ _ _ _ _ _ _ _ _ _ _ _ _
      unfold owns; iexists _; isplitr
      swap; · iexact H7
      ipureintro; exact A_small c _ _ _ _ _ _ _ _ _ _ _ _ _ _ _ _ _ _ _ _ _ _ _ _ _ _ _ _
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((stepA c (grid0.coords t) _ _ _ _ _ _ _ _ _ _ _ _ _ _ _ _ _ _ hc (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact A_scr c _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact A_out c _ _ _ _ _ _ _ _ _ _ _ _ _ _ _ _ _ _ _ _ _ _ _ _ _ _ _ _
      unfold owns; iexists _; isplitr
      swap; · iexact H7
      ipureintro; exact A_small c _ _ _ _ _ _ _ _ _ _ _ _ _ _ _ _ _ _ _ _ _ _ _ _ _ _ _ _
  · have hc := fun h => h0 ((isFirst_iff t).mp h)
    have hz : t.val ≠ 0 := fun h => h0 (by rw [h])
    have hh : hAt m c ⟨t.val - 1, by omega⟩ = hAt m c t := by
      obtain ⟨n, hn⟩ := t
      cases n with
      | zero => exact absurd rfl hz
      | succ n =>
        have e := rowPt_later n hn h0
        unfold hAt
        show payScr (iblk m c 0 (rowPt ⟨n, _⟩)) (iblk m c 1 (rowPt ⟨n, _⟩)) (iblk m c 2 (rowPt ⟨n, _⟩)) (iblk m c 3 (rowPt ⟨n, _⟩)) = _
        rw [e]
    · rw [PhiS_castSucc m c t, PhiS_pos m c _ _ hz, hh]
      simp only [before7_later m c t h0]
      unfold outAt
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((stepB c (grid0.coords t) _ _ _ _ _ _ _ _ _ _ _ _ _ _ _ _ _ _ hc (iblk m c 0 t) (iblk m c 1 t) (iblk m c 2 t) (iblk m c 3 t) (iblk m c 4 t) (iblk m c 5 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact B_out c _ _ _ _ _ _ _ _ _ _ _ _ _ _ _ _ _ _ _ _ _ _ _ _ _ _ _ _ _ _
      iapply (leaves7_later m c t h0)
      iexact H7

/-- The body table's row is the step. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The pipeline starts with the scratch at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- And ends with it. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 160 := N_0; omega), PhiA0_eq]
  iintro ⟨HS0, Hg⟩
  isplitl [HS0]
  · iexists _; iexact HS0
  iexact Hg

set_option backward.isDefEq.respectTransparency.types false in
/-- The program runs, ends with every semaphore at rest, and leaves the arrays the data names. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs, leaves its arguments as they were and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InEven

end
-- ==== Proof.InEven.Kernel.lean ====
/- The even layer's input projection: the kernel's blocks, its vector expressions and its two result arrays, element by
   element. -/
module

public import proofs.«01_k».proof.Proof.InEven.Frame
public import proofs.«01_k».proof.Proof.Ffn.Spec
public import Idealize.ShloMosaic.Lib.Pipeline.ValueKit
public import Idealize.ShloMosaic.Lib.Pointwise
public import Idealize.ShloMosaic.Lib.KernelVsHost

@[expose] public section

set_option maxRecDepth 16384

noncomputable section

namespace Cert.InEven

open Cert.Ffn Cert.Kernel6 Cert.Kernel6.Gen Idealize.ShloMosaic Idealize.ShloMosaic.TcCoe Idealize.SL.Sem
open Idealize.ShloMosaic.Pipeline (Dat)

/-- The modulated row of token `t` of batch entry `b`. -/
def rowOf (x0 : S4x4096x2048.Idx → EReal) (x1 : S2048.Idx → EReal) (x2 x3 : S4x1x2048.Idx → EReal) (b : Fin 4) (t : Fin 4096) :
    Fin 2048 → EReal :=
  modulated (fun k => x0 (ix3 b t k)) (fun k => x1 (ix1 k)) (fun k => x2 (ix3 b 0 k)) (fun k => x3 (ix3 b 0 k))

/-- The projection: the modulated row against column `j` of the matrix. -/
def projOf (x0 : S4x4096x2048.Idx → EReal) (x1 : S2048.Idx → EReal) (x2 x3 : S4x1x2048.Idx → EReal)
    (x4 : S2048x5152.Idx → EReal) (b : Fin 4) (t : Fin 4096) (j : Fin 5152) : EReal :=
  ∑ k : Fin 2048, rowOf x0 x1 x2 x3 b t k * x4 (ix2 k j)

/-- The first result: the first 5120 columns of the projection. -/
def mainOf (x0 : S4x4096x2048.Idx → EReal) (x1 : S2048.Idx → EReal) (x2 x3 : S4x1x2048.Idx → EReal)
    (x4 : S2048x5152.Idx → EReal) (b : Fin 4) (t : Fin 4096) (j : Fin 5120) : EReal :=
  projOf x0 x1 x2 x3 x4 b t ⟨j.val, by omega⟩

/-- The second result: the last 32 columns of the projection, then zeros. -/
def smallOf (x0 : S4x4096x2048.Idx → EReal) (x1 : S2048.Idx → EReal) (x2 x3 : S4x1x2048.Idx → EReal)
    (x4 : S2048x5152.Idx → EReal) (b : Fin 4) (t : Fin 4096) (j : Fin 128) : EReal :=
  if h : j.val < 32 then projOf x0 x1 x2 x3 x4 b t ⟨5120 + j.val, by omega⟩ else 0

/-- The last 32 columns of the matrix, then zeros. -/
def smallCol (x4 : S2048x5152.Idx → EReal) (k : Fin 2048) (j : Fin 128) : EReal :=
  if h : j.val < 32 then x4 (ix2 k ⟨5120 + j.val, by omega⟩) else 0

/-- The modulated rows of a block. -/
theorem payScr_at (x : Vec Ideal S1x1024x2048 .f32) (g : Vec Ideal S1x2048 .f32) (s z : Vec Ideal S1x1x2048 .f32)
    (r : Fin 1024) (j : Fin 2048) : payScr x g s z (ix2 r j)
      = modulated (fun k => x (ix3 0 r k)) (fun k => g (ix2 0 k)) (fun k => s (ix3 0 0 k)) (fun k => z (ix3 0 0 k)) j := by
  unfold payScr payRows
  pointwise
  rfl

/-- A block of the rows against a block of the columns. -/
theorem payOut_at (h : Vec Ideal S1024x2048 .bf16) (w : Vec Ideal S2048x512 .bf16) (r : Fin 1024) (j : Fin 512) :
    payOut h w (ix3 0 r j) = ∑ k : Fin 2048, h (ix2 r k) * w (ix2 k j) := by
  unfold payOut
  pointwise

/-- The modulated rows of a block against the small columns. -/
theorem paySmall_at (x : Vec Ideal S1x1024x2048 .f32) (g : Vec Ideal S1x2048 .f32) (s z : Vec Ideal S1x1x2048 .f32)
    (w : Vec Ideal S2048x128 .bf16) (r : Fin 1024) (j : Fin 128) : paySmall x g s z w (ix3 0 r j)
      = ∑ k : Fin 2048, modulated (fun k => x (ix3 0 r k)) (fun k => g (ix2 0 k)) (fun k => s (ix3 0 0 k)) (fun k => z (ix3 0 0 k)) k * w (ix2 k j) := by
  unfold paySmall payRows
  pointwise
  rfl

/-- A grid point's number is below 160. -/
theorem lt_N (t : Fin cfg0.N) : t.val < 160 := lt_of_lt_of_eq t.isLt (show cfg0.N = 160 from N_0)

/-- Window 0's block index at a grid point. -/
theorem idx0 : ∀ t : Fin cfg0.N, win0_0.index t = ![t.val / 40, t.val / 10 % 4, 0] :=
  (by decide +kernel : ∀ t : Fin grid0.N, win0_0.index t = ![t.val / 40, t.val / 10 % 4, 0])

/-- Window 1's block index at a grid point. -/
theorem idx1 : ∀ t : Fin cfg0.N, win0_1.index t = ![0, 0] :=
  (by decide +kernel : ∀ t : Fin grid0.N, win0_1.index t = ![0, 0])

/-- Window 2's block index at a grid point. -/
theorem idx2 : ∀ t : Fin cfg0.N, win0_2.index t = ![t.val / 40, 0, 0] :=
  (by decide +kernel : ∀ t : Fin grid0.N, win0_2.index t = ![t.val / 40, 0, 0])

/-- Window 3's block index at a grid point. -/
theorem idx3 : ∀ t : Fin cfg0.N, win0_3.index t = ![t.val / 40, 0, 0] :=
  (by decide +kernel : ∀ t : Fin grid0.N, win0_3.index t = ![t.val / 40, 0, 0])

/-- Window 4's block index at a grid point. -/
theorem idx4 : ∀ t : Fin cfg0.N, win0_4.index t = ![0, t.val % 10] :=
  (by decide +kernel : ∀ t : Fin grid0.N, win0_4.index t = ![0, t.val % 10])

/-- Window 5's block index at a grid point. -/
theorem idx5 : ∀ t : Fin cfg0.N, win0_5.index t = ![0, 0] :=
  (by decide +kernel : ∀ t : Fin grid0.N, win0_5.index t = ![0, 0])

/-- Window 6's block index at a grid point. -/
theorem idx6 : ∀ t : Fin cfg0.N, win0_6.index t = ![t.val / 40, t.val / 10 % 4, t.val % 10] :=
  (by decide +kernel : ∀ t : Fin grid0.N, win0_6.index t = ![t.val / 40, t.val / 10 % 4, t.val % 10])

/-- Window 7's block index at a grid point. -/
theorem idx7 : ∀ t : Fin cfg0.N, win0_7.index t = ![t.val / 40, t.val / 10 % 4, 0] :=
  (by decide +kernel : ∀ t : Fin grid0.N, win0_7.index t = ![t.val / 40, t.val / 10 % 4, 0])

/-- The batch entry of row block `q`, the row blocks numbered through the batch. -/
def bt (q : ℕ) (hq : q < 16) : Fin 4 := ⟨q / 4, by omega⟩

/-- The token of row `r` of row block `q`. -/
def tk (q : ℕ) (r : Fin 1024) : Fin 4096 := ⟨1024 * (q % 4) + r.val, by omega⟩

/-- The column of column `j` of a grid point's column block. -/
def fe (n : ℕ) (j : Fin 512) : Fin 5120 := ⟨512 * (n % 10) + j.val, by omega⟩

/-- The row block of a grid point. -/
theorem q_lt (t : Fin cfg0.N) : t.val / 10 < 16 := by have := lt_N t; omega

variable (m : (ℓ : Loc nD τ sig) → Buf (Elt Ideal) ℓ)

/-- The first 5120 columns of the matrix as the kernel finds them. -/
theorem V1_at (c : Dev nD) (a : Fin 2048) (b : Fin 5120) :
    V m c main_v1 (ix2 a b) = m ((c : Thread nD τ).loc main_arg4) (ix2 a ⟨b.val, by omega⟩) := by
  show StableHlo.after (List.flatten [hostOps0, hostOps0_1, hostOps0_2]) _ main_v1 _ = _
  unfold hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp
  show truncf (F := Ideal) .bf16 (extractStridedSlice S2048x5120 ![0, 0] (m ((c : Thread nD τ).loc main_arg4)) slices_S2048x5152_S2048x5120_0_0) bitsLt_bf16_f32 (ix2 a b) = _
  pointwise

/-- The padding's value is zero. -/
theorem padv (i : S_.Idx) : (sitofp (F := Ideal) .f32 (constantI S_ 32 0#32)) i = (0 : EReal) := by
  show (((0#32 : BitVec 32).toInt : ℝ) : EReal) = 0
  simp

/-- The last 32 columns of the matrix, padded with zeros, as the kernel finds them. -/
theorem V4_at (c : Dev nD) (a : Fin 2048) (b : Fin 128) :
    V m c main_v4 (ix2 a b) = smallCol (m ((c : Thread nD τ).loc main_arg4)) a b := by
  show StableHlo.after (List.flatten [hostOps0, hostOps0_1, hostOps0_2]) _ main_v4 _ = _
  unfold hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp
  show (pad S2048x128 ![0, 0] ![0, 96] ![0, 0] (extractStridedSlice S2048x32 ![0, 5120] (m ((c : Thread nD τ).loc main_arg4)) slices_S2048x5152_S2048x32_0_5120)
    (sitofp (F := Ideal) .f32 (constantI S_ 32 0#32)) pads_S2048x32_S2048x128_000_0960 h_S_) (ix2 a b) = _
  unfold smallCol
  by_cases hb : b.val < 32
  · rw [dif_pos hb, pad_apply_of_inside _ _ _ _ _ _ _ _ (ix2 a ⟨b.val, hb⟩) (by
      intro x; match x with
      | ⟨0, _⟩ => show a.val = 0 + a.val * (0 + 1); omega
      | ⟨1, _⟩ => show b.val = 0 + b.val * (0 + 1); omega)]
    pointwise
  · rw [dif_neg hb, pad_apply_of_not_inside _ _ _ _ _ _ _ _ (1 : Fin 2) (by
      show ¬ (0 ≤ b.val ∧ (b.val - 0) % (0 + 1) = 0 ∧ (b.val - 0) / (0 + 1) < 32)
      omega)]
    exact padv _

/-- The norm's weight as the kernel finds it: the argument, in one row. -/
theorem V5_at (c : Dev nD) (b : Fin 2048) :
    V m c main_v5 (ix2 0 b) = m ((c : Thread nD τ).loc main_arg1) (ix1 b) := by
  show StableHlo.after (List.flatten [hostOps0, hostOps0_1, hostOps0_2]) _ main_v5 _ = _
  unfold hostOps0 hostOps0_1 hostOps0_2
  simp only [List.flatten_cons, List.flatten_nil, List.append_nil, List.cons_append, List.nil_append, StableHlo.TRef.binary, StableHlo.TRef.unary, StableHlo.TRef.toBuf, StableHlo.TRef.ofBuf, cast_eq]
  after_results_simp
  show shapeCast S1x2048 (m ((c : Thread nD τ).loc main_arg1)) shapeCasts_S2048_S1x2048 (ix2 0 b) = _
  pointwise

variable (c : Dev nD) (t : Fin cfg0.N)

/-- The block of rows. -/
theorem iblk0_at (r : Fin 1024) (k : Fin 2048) :
    iblk m c 0 t (ix3 0 r k) = m ((c : Thread nD τ).loc main_arg0) (ix3 (bt (t.val / 10) (q_lt t)) (tk (t.val / 10) r) k) := by
  have ht := lt_N t
  unfold iblk
  rw [View.read_apply]
  show V m c main_arg0 _ = _
  rw [V_main_arg0]
  refine congrArg (m ((c : Thread nD τ).loc main_arg0)) ?_
  blk_ext [idx0, bt, tk]

/-- The norm's weight. -/
theorem iblk1_at (k : Fin 2048) : iblk m c 1 t (ix2 0 k) = m ((c : Thread nD τ).loc main_arg1) (ix1 k) := by
  have ht := lt_N t
  refine Eq.trans ?_ (V5_at m c k)
  unfold iblk
  rw [View.read_apply]
  show V m c main_v5 _ = _
  refine congrArg (V m c main_v5) ?_
  blk_ext [idx1]

/-- The shift's block. -/
theorem iblk2_at (k : Fin 2048) :
    iblk m c 2 t (ix3 0 0 k) = m ((c : Thread nD τ).loc main_arg2) (ix3 (bt (t.val / 10) (q_lt t)) 0 k) := by
  have ht := lt_N t
  unfold iblk
  rw [View.read_apply]
  show V m c main_arg2 _ = _
  rw [V_main_arg2]
  refine congrArg (m ((c : Thread nD τ).loc main_arg2)) ?_
  blk_ext [idx2, bt]

/-- The scale's block. -/
theorem iblk3_at (k : Fin 2048) :
    iblk m c 3 t (ix3 0 0 k) = m ((c : Thread nD τ).loc main_arg3) (ix3 (bt (t.val / 10) (q_lt t)) 0 k) := by
  have ht := lt_N t
  unfold iblk
  rw [View.read_apply]
  show V m c main_arg3 _ = _
  rw [V_main_arg3]
  refine congrArg (m ((c : Thread nD τ).loc main_arg3)) ?_
  blk_ext [idx3, bt]

/-- The matrix's block of columns. -/
theorem iblk4_at (k : Fin 2048) (j : Fin 512) :
    iblk m c 4 t (ix2 k j) = m ((c : Thread nD τ).loc main_arg4) (ix2 k ⟨(fe t.val j).val, by omega⟩) := by
  have ht := lt_N t
  refine Eq.trans ?_ (V1_at m c k (fe t.val j))
  unfold iblk
  rw [View.read_apply]
  show V m c main_v1 _ = _
  refine congrArg (V m c main_v1) ?_
  blk_ext [idx4, fe]

/-- The small columns. -/
theorem iblk5_at (k : Fin 2048) (j : Fin 128) :
    iblk m c 5 t (ix2 k j) = smallCol (m ((c : Thread nD τ).loc main_arg4)) k j := by
  have ht := lt_N t
  refine Eq.trans ?_ (V4_at m c k j)
  unfold iblk
  rw [View.read_apply]
  show V m c main_v4 _ = _
  refine congrArg (V m c main_v4) ?_
  blk_ext [idx5]

/-- The modulated row of row `r` of row block `q`. -/
def rowAt (q : ℕ) (hq : q < 16) (r : Fin 1024) : Fin 2048 → EReal :=
  rowOf (m ((c : Thread nD τ).loc main_arg0)) (m ((c : Thread nD τ).loc main_arg1)) (m ((c : Thread nD τ).loc main_arg2))
    (m ((c : Thread nD τ).loc main_arg3)) (bt q hq) (tk q r)

/-- The row block of a point's first point is the point's. -/
theorem rowAt_rowPt (r : Fin 1024) : rowAt m c ((rowPt t).val / 10) (q_lt (rowPt t)) r = rowAt m c (t.val / 10) (q_lt t) r := by
  have e : (rowPt t).val / 10 = t.val / 10 := by show 10 * (t.val / 10) / 10 = _; omega
  congr 1

/-- A point's rows are its row block's modulated rows. -/
theorem hAt_at (r : Fin 1024) (k : Fin 2048) : hAt m c t (ix2 r k) = rowAt m c (t.val / 10) (q_lt t) r k := by
  rw [← rowAt_rowPt]
  unfold hAt
  rw [payScr_at]
  simp only [iblk0_at m c (rowPt t), iblk1_at m c (rowPt t), iblk2_at m c (rowPt t), iblk3_at m c (rowPt t)]
  rfl

/-- What a point leaves in the first output's buffer is its block of the first result. -/
theorem outAt_at (r : Fin 1024) (j : Fin 512) :
    outAt m c t (ix3 0 r j) = mainOf (m ((c : Thread nD τ).loc main_arg0)) (m ((c : Thread nD τ).loc main_arg1))
      (m ((c : Thread nD τ).loc main_arg2)) (m ((c : Thread nD τ).loc main_arg3)) (m ((c : Thread nD τ).loc main_arg4))
      (bt (t.val / 10) (q_lt t)) (tk (t.val / 10) r) (fe t.val j) := by
  unfold outAt
  rw [payOut_at]
  simp only [hAt_at m c t, iblk4_at m c t]
  rfl

/-- What a point leaves in the second output's buffer is its block of the second result. -/
theorem smallAt_at (r : Fin 1024) (j : Fin 128) :
    smallAt m c t (ix3 0 r j) = smallOf (m ((c : Thread nD τ).loc main_arg0)) (m ((c : Thread nD τ).loc main_arg1))
      (m ((c : Thread nD τ).loc main_arg2)) (m ((c : Thread nD τ).loc main_arg3)) (m ((c : Thread nD τ).loc main_arg4))
      (bt (t.val / 10) (q_lt t)) (tk (t.val / 10) r) j := by
  have hr : ∀ k, modulated (fun k => iblk m c 0 (rowPt t) (ix3 0 r k)) (fun k => iblk m c 1 (rowPt t) (ix2 0 k))
      (fun k => iblk m c 2 (rowPt t) (ix3 0 0 k)) (fun k => iblk m c 3 (rowPt t) (ix3 0 0 k)) k = rowAt m c (t.val / 10) (q_lt t) r k := by
    intro k
    rw [← rowAt_rowPt]
    simp only [iblk0_at m c (rowPt t), iblk1_at m c (rowPt t), iblk2_at m c (rowPt t), iblk3_at m c (rowPt t)]
    rfl
  unfold smallAt
  rw [paySmall_at]
  refine (Finset.sum_congr rfl fun k _ => congrArg₂ (· * ·) (hr k) (iblk5_at m c (rowPt t) k j)).trans ?_
  unfold smallOf smallCol
  by_cases hj : j.val < 32
  · simp only [dif_pos hj]
    rfl
  · simp only [dif_neg hj, mul_zero, Finset.sum_const_zero]

/-- The first result as a whole array. -/
def mainArr : Buf (Elt Ideal) ((c : Thread nD τ).loc main_v6_0) := fun i : S4x4096x5120.Idx =>
  mainOf (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) (i 2)

/-- What a point writes back to it is its block. -/
theorem flushed6_eq (hf : (cfg0.win 6).flush t = true) :
    (dats m 0 c).flushed 6 t = ((cfg0.win 6).blk t).view.read (Elt Ideal) (mainArr m c) := by
  have ht := lt_N t
  show (cfg0.win 6).cut (grid0.coords t) ((dats m 0 c).after 6 t) = _
  rw [after0_6]
  funext y
  rw [View.read_apply]
  obtain ⟨⟨z, r, j⟩, rfl⟩ : ∃ p : Fin 1 × Fin 1024 × Fin 512, (ix3 p.1 p.2.1 p.2.2 : S1x1024x512.Idx) = y :=
    ⟨(y 0, y 1, y 2), by funext a; match a with | ⟨0, _⟩ | ⟨1, _⟩ | ⟨2, _⟩ => rfl⟩
  obtain rfl : z = 0 := Subsingleton.elim _ _
  have he : ((cfg0.win 6).blk t).view.emb (ix3 (0 : Fin 1) r j : S1x1024x512.Idx) = (ix3 (bt (t.val / 10) (q_lt t)) (tk (t.val / 10) r) (fe t.val j) : S4x4096x5120.Idx) := by
    blk_ext [idx6, bt, tk, fe]
  rw [he]
  exact outAt_at m c t r j

/-- Which array indices a point's block holds. -/
theorem mem_blk6 (i : S4x4096x5120.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v6_0).slice (win0_6.rect t)).set ↔ _
  rw [View.set_slice_whole, Rect.mem_set_unit]
  exact Iff.rfl

/-- After the run it is the whole array. -/
theorem final6 : (dats m 0 c).arrAt 6 cfg0.N = mainArr m c :=
  (dats m 0 c).arrAt_eq_of_cover 6 _ (fun t hf => flushed6_eq m c t hf) fun i => by
    have hi0 : (i 0).val < 4 := (i 0).isLt
    have hi1 : (i 1).val < 4096 := (i 1).isLt
    have hi2 : (i 2).val < 5120 := (i 2).isLt
    have hN : 40 * (i 0).val + 10 * ((i 1).val / 1024) + (i 2).val / 512 < cfg0.N := by rw [show cfg0.N = 160 from N_0]; omega
    refine ⟨⟨40 * (i 0).val + 10 * ((i 1).val / 1024) + (i 2).val / 512, hN⟩, flush0_6 _, ?_⟩
    rw [mem_blk6, idx6]
    intro a
    match a with
    | ⟨0, _⟩ => show (40 * (i 0).val + 10 * ((i 1).val / 1024) + (i 2).val / 512) / 40 * 1 ≤ (i 0).val ∧ (i 0).val < (40 * (i 0).val + 10 * ((i 1).val / 1024) + (i 2).val / 512) / 40 * 1 + 1; omega
    | ⟨1, _⟩ => show (40 * (i 0).val + 10 * ((i 1).val / 1024) + (i 2).val / 512) / 10 % 4 * 1024 ≤ (i 1).val ∧ (i 1).val < (40 * (i 0).val + 10 * ((i 1).val / 1024) + (i 2).val / 512) / 10 % 4 * 1024 + 1024; omega
    | ⟨2, _⟩ => show (40 * (i 0).val + 10 * ((i 1).val / 1024) + (i 2).val / 512) % 10 * 512 ≤ (i 2).val ∧ (i 2).val < (40 * (i 0).val + 10 * ((i 1).val / 1024) + (i 2).val / 512) % 10 * 512 + 512; omega

/-- The second result as a whole array. -/
def smallArr : Buf (Elt Ideal) ((c : Thread nD τ).loc main_v6_1) := fun i : S4x4096x128.Idx =>
  smallOf (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1) (i 2)

/-- What a point writes back to it is its block. -/
theorem flushed7_eq (hf : (cfg0.win 7).flush t = true) :
    (dats m 0 c).flushed 7 t = ((cfg0.win 7).blk t).view.read (Elt Ideal) (smallArr m c) := by
  have ht := lt_N t
  show (cfg0.win 7).cut (grid0.coords t) ((dats m 0 c).after 7 t) = _
  rw [after0_7]
  funext y
  rw [View.read_apply]
  obtain ⟨⟨z, r, j⟩, rfl⟩ : ∃ p : Fin 1 × Fin 1024 × Fin 128, (ix3 p.1 p.2.1 p.2.2 : S1x1024x128.Idx) = y :=
    ⟨(y 0, y 1, y 2), by funext a; match a with | ⟨0, _⟩ | ⟨1, _⟩ | ⟨2, _⟩ => rfl⟩
  obtain rfl : z = 0 := Subsingleton.elim _ _
  have he : ((cfg0.win 7).blk t).view.emb (ix3 (0 : Fin 1) r j : S1x1024x128.Idx) = (ix3 (bt (t.val / 10) (q_lt t)) (tk (t.val / 10) r) j : S4x4096x128.Idx) := by
    blk_ext [idx7, bt, tk, fe]
  rw [he]
  exact smallAt_at m c t r j

/-- Which array indices a point's block holds. -/
theorem mem_blk7 (i : S4x4096x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v6_1).slice (win0_7.rect t)).set ↔ _
  rw [View.set_slice_whole, Rect.mem_set_unit]
  exact Iff.rfl

/-- After the run it is the whole array. -/
theorem final7 : (dats m 0 c).arrAt 7 cfg0.N = smallArr m c :=
  (dats m 0 c).arrAt_eq_of_cover 7 _ (fun t hf => flushed7_eq m c t hf) fun i => by
    have hi0 : (i 0).val < 4 := (i 0).isLt
    have hi1 : (i 1).val < 4096 := (i 1).isLt
    have hi2 : (i 2).val < 128 := (i 2).isLt
    have hN : 40 * (i 0).val + 10 * ((i 1).val / 1024) + 9 < cfg0.N := by rw [show cfg0.N = 160 from N_0]; omega
    refine ⟨⟨40 * (i 0).val + 10 * ((i 1).val / 1024) + 9, hN⟩, (flush0_7 _).mpr (by dsimp only; omega), ?_⟩
    rw [mem_blk7, idx7]
    intro a
    match a with
    | ⟨0, _⟩ => show (40 * (i 0).val + 10 * ((i 1).val / 1024) + 9) / 40 * 1 ≤ (i 0).val ∧ (i 0).val < (40 * (i 0).val + 10 * ((i 1).val / 1024) + 9) / 40 * 1 + 1; omega
    | ⟨1, _⟩ => show (40 * (i 0).val + 10 * ((i 1).val / 1024) + 9) / 10 % 4 * 1024 ≤ (i 1).val ∧ (i 1).val < (40 * (i 0).val + 10 * ((i 1).val / 1024) + 9) / 10 % 4 * 1024 + 1024; omega
    | ⟨2, _⟩ => show 0 * 128 ≤ (i 2).val ∧ (i 2).val < 0 * 128 + 128; omega

variable (ρ : Dev nD → PrngReg)

/-- The run, with the two results named and the arguments unchanged. -/
theorem run : θ_run defs (onTc (τ := τ) (main (F := Ideal))) ⟨m, fun _ => 0, ρ⟩ fun r => ∀ c : Dev nD,
      r.2.mem ((c : Thread nD τ).loc main_v6_0) = mainArr m c
      ∧ r.2.mem ((c : Thread nD τ).loc main_v6_1) = smallArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 6).trans (final6 m c), ((h.1 c).1 7).trans (final7 m c), h.2 c⟩)
    (θ_run_and (run_main m ρ) (unchanged m ρ))

end Cert.InEven

end
-- ==== Proof.InEven.Transfer.lean ====
/- The idealized program of the even layer's input projection is the program itself at the ideal numbers: its frame and its
   run. -/
module

public import proofs.«01_k».proof.Proof.InEven.Kernel
public import proofs.«01_k».proof.Proof.Gen.Kernel6Ideal.Frame

@[expose] public section

set_option maxRecDepth 100000

noncomputable section

namespace Cert.InEven

open Idealize.ShloMosaic Idealize.ShloMosaic.TcCoe Idealize.SL.Sem

/-- The two body tables are equal. -/
theorem table_eq : Cert.Kernel6.defs₀ (F := Ideal) = Cert.Kernel6Ideal.defs₀ (F := Ideal) := by
  unfold Cert.Kernel6.defs₀ Cert.Kernel6Ideal.defs₀
  refine congrArg Defs.onTc ?_
  funext l x
  match l, x with
  | 0, (t, s) => rfl

/-- The two programs' tables are equal. -/
theorem tables_eq : Cert.Kernel6.defs (F := Ideal) = Cert.Kernel6Ideal.defs (F := Ideal) :=
  congrArg (Pipeline.defs (Cert.Kernel6.pcfgs (F := Ideal))) table_eq

open Cert.Kernel6Ideal

variable (m : (ℓ : Loc nD τ sig) → Buf (Elt Ideal) ℓ) (ρ : Dev nD → PrngReg)

/-- The idealized program runs, leaves its arguments as they were and every semaphore at rest. -/
theorem ideal_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := frame (F := Ideal) m ρ
  rw [tables_eq] at h
  exact h

/-- The idealized program's run, with the two results named and the arguments unchanged. -/
theorem ideal_run : θ_run defs (onTc (τ := τ) (main (F := Ideal))) ⟨m, fun _ => 0, ρ⟩ fun r => ∀ c : Dev nD,
      r.2.mem ((c : Thread nD τ).loc main_v6_0) = mainArr m c
      ∧ r.2.mem ((c : Thread nD τ).loc main_v6_1) = smallArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h := run m ρ
  rw [tables_eq] at h
  exact h

end Cert.InEven

end
-- ==== Proof.InEven.Ref.lean ====
/- The even layer's input projection: the reference's two results. -/
module

public import proofs.«01_k».proof.Proof.Gen.Reference6Ideal.Run
public import proofs.«01_k».proof.Proof.InEven.Kernel

@[expose] public section

set_option maxRecDepth 16384

noncomputable section

namespace Cert.InEven.Ref

open Cert.Ffn Cert.Reference6Ideal Cert.Reference6Ideal.Gen Idealize.ShloMosaic Idealize.ShloMosaic.TcCoe Idealize.SL.Sem

/-- The reference's operations for its first result, composed, are the first columns of the projection. -/
theorem main_eq (x0 : FVec Ideal S4x4096x2048 .f32) (x1 : Vec Ideal S2048 .f32) (x2 x3 : Vec Ideal S4x1x2048 .f32)
    (x4 : FVec Ideal S2048x5152 .f32) :
    truncf (F := Ideal) .bf16 (extractStridedSlice S4x4096x5120 ![0, 0, 0] (Host.dotGeneral
      dot_S4x4096x2048_S2048x5152_S4x4096x5152_2_0_01_1_n_n none (addf (mulf (mulf (mulf x0 (broadcastInDim
      S4x4096x2048 ![0, 1, 2] bcast_S4x4096x1_S4x4096x2048_0_1_2 (Host.rsqrt (addf (Host.divf (broadcastInDim
      S4x4096x1 ![0, 1] bcast_S4x4096_S4x4096x1_0_1 (Host.reduceAdd (mulf x0 x0) (constant S_ .f32 0x00000000#32)
      reducesTo_S4x4096x2048_S4x4096_d2 h_S_)) (broadcastInDim S4x4096x1 ![] bcast_S_S4x4096x1 (constant S_ .f32
      0x45000000#32))) (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2]
      bcast_S2048_S1x1x2048_2 x1))) (broadcastInDim S4x4096x2048 ![0, 1, 2] bcast_S4x1x2048_S4x4096x2048_0_1_2 (addf
      (broadcastInDim S4x1x2048 ![] bcast_S_S4x1x2048 (constant S_ .f32 0x3F800000#32)) x3))) (broadcastInDim
      S4x4096x2048 ![0, 1, 2] bcast_S4x1x2048_S4x4096x2048_0_1_2 x2)) x4) slices_S4x4096x5152_S4x4096x5120_0_0_0)
      bitsLt_bf16_f32
      = fun i => mainOf x0 x1 x2 x3 x4 (i 0) (i 1) (i 2) := by
  funext i
  obtain ⟨⟨b, t, j⟩, rfl⟩ : ∃ p : Fin 4 × Fin 4096 × Fin 5120, ix3 p.1 p.2.1 p.2.2 = i :=
    ⟨(i 0, i 1, i 2), by funext a; match a with | ⟨0, _⟩ | ⟨1, _⟩ | ⟨2, _⟩ => rfl⟩
  pointwise
  rfl

/-- The reference's operations for its second result, composed, are the last columns of the projection, then zeros. -/
theorem small_eq (x0 : FVec Ideal S4x4096x2048 .f32) (x1 : Vec Ideal S2048 .f32) (x2 x3 : Vec Ideal S4x1x2048 .f32)
    (x4 : FVec Ideal S2048x5152 .f32) :
    pad S4x4096x128 ![0, 0, 0] ![0, 0, 96] ![0, 0, 0] (extractStridedSlice S4x4096x32 ![0, 0, 5120] (Host.dotGeneral
      dot_S4x4096x2048_S2048x5152_S4x4096x5152_2_0_01_1_n_n none (addf (mulf (mulf (mulf x0 (broadcastInDim
      S4x4096x2048 ![0, 1, 2] bcast_S4x4096x1_S4x4096x2048_0_1_2 (Host.rsqrt (addf (Host.divf (broadcastInDim
      S4x4096x1 ![0, 1] bcast_S4x4096_S4x4096x1_0_1 (Host.reduceAdd (mulf x0 x0) (constant S_ .f32 0x00000000#32)
      reducesTo_S4x4096x2048_S4x4096_d2 h_S_)) (broadcastInDim S4x4096x1 ![] bcast_S_S4x4096x1 (constant S_ .f32
      0x45000000#32))) (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2]
      bcast_S2048_S1x1x2048_2 x1))) (broadcastInDim S4x4096x2048 ![0, 1, 2] bcast_S4x1x2048_S4x4096x2048_0_1_2 (addf
      (broadcastInDim S4x1x2048 ![] bcast_S_S4x1x2048 (constant S_ .f32 0x3F800000#32)) x3))) (broadcastInDim
      S4x4096x2048 ![0, 1, 2] bcast_S4x1x2048_S4x4096x2048_0_1_2 x2)) x4) slices_S4x4096x5152_S4x4096x32_0_0_5120)
      (sitofp (F := Ideal) .f32 (constantI S_ 32 0#32)) pads_S4x4096x32_S4x4096x128_000_000_0960 h_S_
      = fun i => smallOf x0 x1 x2 x3 x4 (i 0) (i 1) (i 2) := by
  funext i
  obtain ⟨⟨b, t, j⟩, rfl⟩ : ∃ p : Fin 4 × Fin 4096 × Fin 128, ix3 p.1 p.2.1 p.2.2 = i :=
    ⟨(i 0, i 1, i 2), by funext a; match a with | ⟨0, _⟩ | ⟨1, _⟩ | ⟨2, _⟩ => rfl⟩
  show _ = smallOf x0 x1 x2 x3 x4 b t j
  unfold smallOf
  by_cases hb : j.val < 32
  · rw [dif_pos hb, pad_apply_of_inside _ _ _ _ _ _ _ _ (ix3 b t ⟨j.val, hb⟩) (by
      intro x; match x with
      | ⟨0, _⟩ => show b.val = 0 + b.val * (0 + 1); omega
      | ⟨1, _⟩ => show t.val = 0 + t.val * (0 + 1); omega
      | ⟨2, _⟩ => show j.val = 0 + j.val * (0 + 1); omega)]
    pointwise
    rfl
  · rw [dif_neg hb, pad_apply_of_not_inside _ _ _ _ _ _ _ _ (2 : Fin 3) (by
      show ¬ (0 ≤ j.val ∧ (j.val - 0) % (0 + 1) = 0 ∧ (j.val - 0) / (0 + 1) < 32)
      omega)]
    exact padv _

end Cert.InEven.Ref

end
-- ==== Proof.lean ====
/- The proof of the claims about the calls taken of the two layers (the retention and its finish, both layers' feed-forward
   blocks, the input and output projections, the S5 unit's gate): each kernel, its reading over the extended reals and its
   reference run and leave their arguments; and each kernel and its reference return the same result over the extended
   reals. -/
module

public import proofs.«01_k».proof.Defs
public import proofs.«01_k».proof.Proof.Ret.KFrame
public import proofs.«01_k».proof.Proof.Ret.Kernel
public import proofs.«01_k».proof.Proof.Ret.RefValue
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel5.Frame
public import proofs.«01_k».proof.Proof.Gen.Kernel7.Frame
public import proofs.«01_k».proof.Proof.Gen.Kernel8.Frame
public import proofs.«01_k».proof.Proof.Gen.Kernel9.Frame
public import proofs.«01_k».proof.Proof.Ffn.Ref
public import proofs.«01_k».proof.Proof.FfnA.Ref
public import proofs.«01_k».proof.Proof.InOdd.Ref
public import proofs.«01_k».proof.Proof.OutOdd.Ref
public import proofs.«01_k».proof.Proof.OutEven.Ref
public import proofs.«01_k».proof.Proof.Glu.Ref
public import proofs.«01_k».proof.Proof.RetFin.Ref
public import proofs.«01_k».proof.Proof.InEven.Transfer
public import proofs.«01_k».proof.Proof.InEven.Ref
public import Idealize.ShloMosaic.Adequacy
public import Idealize.ShloMosaic.Init

@[expose] public section

noncomputable section

namespace Cert.Proof

open Idealize.ShloMosaic Idealize.SL.Sem

/-- The kernel runs and leaves its arguments as they are. -/
theorem frame_p : Cert.quiescent_Kernel := fun m ρ _ => Cert.Kernel.Gen.frame m ρ

/-- So does the kernel over the extended reals. -/
theorem frame_pi : Cert.quiescent_KernelIdeal := fun m ρ _ => Cert.Ret.frame m ρ

/-- So does the reference; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.Ret.Ref.run m ρ)

/-- Kernel and reference both compute the retention of their arguments. -/
theorem algebraic : Cert.algebraic_KernelIdeal_ReferenceIdeal := by
  intro m ρ m' ρ' _ hagree
  refine ⟨_, Cert.Ret.run_blocks m ρ, ?_⟩
  refine (θ_run Cert.ReferenceIdeal.defs _ _).mono (fun r h c => ⟨(h c).1.trans ?_, (h c).2⟩) (Cert.Ret.Ref.run m' ρ')
  obtain ⟨h0, h1, h2, h3, h4⟩ := hagree c
  rw [h0, h1, h2, h3, h4]

/-- The feed-forward kernel runs and leaves its arguments as they are. -/
theorem frame_p2 : Cert.quiescent_Kernel2 := fun m ρ _ => Cert.Kernel2.Gen.frame m ρ

/-- So does the feed-forward kernel over the extended reals. -/
theorem frame_pi2 : Cert.quiescent_Kernel2Ideal := fun m ρ _ => Cert.Kernel2Ideal.Gen.frame m ρ

/-- So does its reference; it declares no semaphore. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The feed-forward kernel and its reference both compute the feed-forward block of their arguments. -/
theorem algebraic2 : Cert.algebraic_Kernel2Ideal_Reference2Ideal := by
  intro m ρ m' ρ' _ hagree
  refine ⟨_, (θ_run Cert.Kernel2Ideal.defs _ _).mono (fun r h c => ⟨(h c).1.trans (Cert.Ffn.G9_eq m c), (h c).2⟩)
    (Cert.Kernel2Ideal.Value.run m ρ), ?_⟩
  refine (θ_run Cert.Reference2Ideal.defs _ _).mono (fun r h c => ⟨((h c).1.trans (Cert.Ffn.Ref.result_eq m' c)).trans ?_, (h c).2⟩)
    (Cert.Reference2Ideal.Value.run m' ρ')
  obtain ⟨h0, h1, h2, h3, h4, h5, h6, h7, h8⟩ := hagree c
  rw [h0, h1, h2, h3, h4, h5, h6, h7, h8]

/-- The first layer's feed-forward kernel runs and leaves its arguments as they are. -/
theorem frame_p3 : Cert.quiescent_Kernel3 := fun m ρ _ => Cert.Kernel3.Gen.frame m ρ

/-- So does it over the extended reals. -/
theorem frame_pi3 : Cert.quiescent_Kernel3Ideal := fun m ρ _ => Cert.Kernel3Ideal.Gen.frame m ρ

/-- So does its reference; it declares no semaphore. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The first layer's feed-forward kernel and its reference both compute the first layer's feed-forward block of their arguments. -/
theorem algebraic3 : Cert.algebraic_Kernel3Ideal_Reference3Ideal := by
  intro m ρ m' ρ' _ hagree
  refine ⟨_, (θ_run Cert.Kernel3Ideal.defs _ _).mono (fun r h c => ⟨(h c).1.trans (Cert.FfnA.G9_eq m c), (h c).2⟩)
    (Cert.Kernel3Ideal.Value.run m ρ), ?_⟩
  refine (θ_run Cert.Reference3Ideal.defs _ _).mono (fun r h c => ⟨((h c).1.trans (Cert.FfnA.Ref.result_eq m' c)).trans ?_, (h c).2⟩)
    (Cert.Reference3Ideal.Value.run m' ρ')
  obtain ⟨h0, h1, h2, h3, h4, h5, h6, h7, h8⟩ := hagree c
  rw [h0, h1, h2, h3, h4, h5, h6, h7]

/-- The odd layer's input projection runs and leaves its arguments as they are. -/
theorem frame_p4 : Cert.quiescent_Kernel4 := fun m ρ _ => Cert.Kernel4.Gen.frame m ρ

/-- So does it over the extended reals. -/
theorem frame_pi4 : Cert.quiescent_Kernel4Ideal := fun m ρ _ => Cert.Kernel4Ideal.Gen.frame m ρ

/-- So does its reference; it declares no semaphore. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The odd layer's input projection and its reference both compute the modulated rows' projection of their arguments. -/
theorem algebraic4 : Cert.algebraic_Kernel4Ideal_Reference4Ideal := by
  intro m ρ m' ρ' _ hagree
  refine ⟨_, (θ_run Cert.Kernel4Ideal.defs _ _).mono (fun r h c => ⟨(h c).1.trans (Cert.InOdd.G5_eq m c), (h c).2⟩)
    (Cert.Kernel4Ideal.Value.run m ρ), ?_⟩
  refine (θ_run Cert.Reference4Ideal.defs _ _).mono (fun r h c => ⟨((h c).1.trans (Cert.InOdd.Ref.result_eq _ _ _ _ _)).trans ?_, (h c).2⟩)
    (Cert.Reference4Ideal.Value.run m' ρ')
  obtain ⟨h0, h1, h2, h3, h4⟩ := hagree c
  rw [h0, h1, h2, h3, h4]
  rfl

/-- The odd layer's output projection runs and leaves its arguments as they are. -/
theorem frame_p5 : Cert.quiescent_Kernel5 := fun m ρ _ => Cert.Kernel5.Gen.frame m ρ

/-- So does it over the extended reals. -/
theorem frame_pi5 : Cert.quiescent_Kernel5Ideal := fun m ρ _ => Cert.Kernel5Ideal.Gen.frame m ρ

/-- So does its reference; it declares no semaphore. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The odd layer's output projection and its reference both compute the projection and the residual of their arguments. -/
theorem algebraic5 : Cert.algebraic_Kernel5Ideal_Reference5Ideal := by
  intro m ρ m' ρ' _ hagree
  refine ⟨_, (θ_run Cert.Kernel5Ideal.defs _ _).mono (fun r h c => ⟨(h c).1.trans (Cert.OutOdd.final m c), (h c).2⟩)
    (Cert.Kernel5Ideal.Value.run_blocks m ρ), ?_⟩
  refine (θ_run Cert.Reference5Ideal.defs _ _).mono (fun r h c => ⟨((h c).1.trans (Cert.OutOdd.Ref.result_eq _ _ _ _ _)).trans ?_, (h c).2⟩)
    (Cert.Reference5Ideal.Value.run m' ρ')
  obtain ⟨h0, h1, h2, h3, h4⟩ := hagree c
  rw [h0, h1, h2, h3, h4]
  rfl

/-- The even layer's output projection runs and leaves its arguments as they are. -/
theorem frame_p7 : Cert.quiescent_Kernel7 := fun m ρ _ => Cert.Kernel7.Gen.frame m ρ

/-- So does it over the extended reals. -/
theorem frame_pi7 : Cert.quiescent_Kernel7Ideal := fun m ρ _ => Cert.Kernel7Ideal.Gen.frame m ρ

/-- So does its reference; it declares no semaphore. -/
theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The even layer's output projection and its reference both compute the projection and the residual of their arguments. -/
theorem algebraic7 : Cert.algebraic_Kernel7Ideal_Reference7Ideal := by
  intro m ρ m' ρ' _ hagree
  refine ⟨_, (θ_run Cert.Kernel7Ideal.defs _ _).mono (fun r h c => ⟨(h c).1.trans (Cert.OutEven.final m c), (h c).2⟩)
    (Cert.Kernel7Ideal.Value.run_blocks m ρ), ?_⟩
  refine (θ_run Cert.Reference7Ideal.defs _ _).mono (fun r h c => ⟨((h c).1.trans (Cert.OutEven.Ref.result_eq _ _ _ _ _)).trans ?_, (h c).2⟩)
    (Cert.Reference7Ideal.Value.run m' ρ')
  obtain ⟨h0, h1, h2, h3, h4⟩ := hagree c
  rw [h0, h1, h2, h3, h4]
  rfl

/-- The S5 unit's gate kernel runs and leaves its arguments as they are. -/
theorem frame_p8 : Cert.quiescent_Kernel8 := fun m ρ _ => Cert.Kernel8.Gen.frame m ρ

/-- So does it over the extended reals. -/
theorem frame_pi8 : Cert.quiescent_Kernel8Ideal := fun m ρ _ => Cert.Kernel8Ideal.Gen.frame m ρ

/-- So does its reference; it declares no semaphore. -/
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The S5 unit's gate kernel and its reference both compute the gate of their arguments. -/
theorem algebraic8 : Cert.algebraic_Kernel8Ideal_Reference8Ideal := by
  intro m ρ m' ρ' _ hagree
  refine ⟨_, (θ_run Cert.Kernel8Ideal.defs _ _).mono (fun r h c => ⟨(h c).1.trans (Cert.Glu.final m c), (h c).2⟩)
    (Cert.Kernel8Ideal.Value.run_blocks m ρ), ?_⟩
  refine (θ_run Cert.Reference8Ideal.defs _ _).mono (fun r h c => ⟨((h c).1.trans (Cert.Glu.Ref.result_eq _ _ _)).trans ?_, (h c).2⟩)
    (Cert.Reference8Ideal.Value.run m' ρ')
  obtain ⟨h0, h1, h2⟩ := hagree c
  rw [h0, h1, h2]
  rfl

/-- The retention's finish runs and leaves its arguments as they are. -/
theorem frame_p9 : Cert.quiescent_Kernel9 := fun m ρ _ => Cert.Kernel9.Gen.frame m ρ

/-- So does it over the extended reals. -/
theorem frame_pi9 : Cert.quiescent_Kernel9Ideal := fun m ρ _ => Cert.Kernel9Ideal.Gen.frame m ρ

/-- So does its reference; it declares no semaphore. -/
theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The retention's finish and its reference both compute the normalised and gated heads of their arguments. -/
theorem algebraic9 : Cert.algebraic_Kernel9Ideal_Reference9Ideal := by
  intro m ρ m' ρ' _ hagree
  refine ⟨_, (θ_run Cert.Kernel9Ideal.defs _ _).mono (fun r h c => ⟨(h c).1.trans (Cert.RetFin.final m c), (h c).2⟩)
    (Cert.Kernel9Ideal.Value.run_blocks m ρ), ?_⟩
  refine (θ_run Cert.Reference9Ideal.defs _ _).mono (fun r h c => ⟨((h c).1.trans (Cert.RetFin.Ref.result_eq _ _)).trans ?_, (h c).2⟩)
    (Cert.Reference9Ideal.Value.run m' ρ')
  obtain ⟨h0, h1⟩ := hagree c
  rw [h0, h1]
  rfl

/-- The even layers' input projection runs to completion, leaves its arguments unchanged and ends with every semaphore at zero. -/
theorem frame_p6 : Cert.quiescent_Kernel6 := fun m ρ _ => Cert.InEven.frame m ρ

/-- So does the same program over the extended reals. -/
theorem frame_pi6 : Cert.quiescent_Kernel6Ideal := fun m ρ _ => Cert.InEven.ideal_frame m ρ

/-- So does its reference; it declares no semaphore. -/
theorem frame_ri6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

/-- The even layers' input projection and its reference both compute the main columns and the padded small columns of
the modulated row times the weight. -/
theorem algebraic6 : Cert.algebraic_Kernel6Ideal_Reference6Ideal := by
  intro m ρ m' ρ' _ hagree
  refine ⟨fun c => Cert.InEven.mainArr m c, fun c => Cert.InEven.smallArr m c, Cert.InEven.ideal_run m ρ, ?_⟩
  refine (θ_run Cert.Reference6Ideal.defs _ _).mono (fun r h c =>
      ⟨((h c).1.trans (Cert.InEven.Ref.main_eq _ _ _ _ _)).trans ?_,
        ((h c).2.1.trans (Cert.InEven.Ref.small_eq _ _ _ _ _)).trans ?_, (h c).2.2⟩)
    (Cert.Reference6Ideal.Value.run m' ρ')
  · obtain ⟨h0, h1, h2, h3, h4⟩ := hagree c
    rw [h0, h1, h2, h3, h4]
    rfl
  · obtain ⟨h0, h1, h2, h3, h4⟩ := hagree c
    rw [h0, h1, h2, h3, h4]
    rfl

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel6.Gen.facts, Cert.Kernel6Ideal.Gen.facts, Cert.Reference6Ideal.Gen.facts,
  frame_p, frame_pi, frame_ri, frame_p2, frame_pi2, frame_ri2,
  frame_p3, frame_pi3, frame_ri3,
  frame_p4, frame_pi4, frame_ri4,
  frame_p5, frame_pi5, frame_ri5,
  frame_p7, frame_pi7, frame_ri7,
  frame_p8, frame_pi8, frame_ri8,
  frame_p9, frame_pi9, frame_ri9,
  frame_p6, frame_pi6, frame_ri6,
  trivial, algebraic, trivial, algebraic2, trivial, algebraic3, trivial, algebraic4, trivial, algebraic5, trivial, algebraic7, trivial, algebraic8, trivial, algebraic9, trivial, algebraic6⟩

end Cert.Proof

end
